-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_out [hPre_finite_out : Cert.Pre_finite_out.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_out [hPre_finite_out : Cert.Pre_finite_out.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_qk [hPre_finite_qk : Cert.Pre_finite_qk.Facts] (m : (ℓ : Loc Cert.PrepIdeal.nD Cert.PrepIdeal.τ Cert.PrepIdeal.sig) → Buf (Elt Ideal) ℓ) : Prop :=
  ∀ c : Dev Cert.PrepIdeal.nD,
    (Cert.Pre_finite_qk.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_qk [hPre_finite_qk : Cert.Pre_finite_qk.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_qk.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjIdeal_pre_finite_out [hOutProjIdeal : Cert.OutProjIdeal.Facts] [hPre_finite_out : Cert.Pre_finite_out.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_out m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutProjRefIdeal_pre_finite_out [hOutProjRefIdeal : Cert.OutProjRefIdeal.Facts] [hPre_finite_out : Cert.Pre_finite_out.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_out m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepIdeal_pre_finite_qk [hPrepIdeal : Cert.PrepIdeal.Facts] [hPre_finite_qk : Cert.Pre_finite_qk.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_qk m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_PrepRefIdeal_pre_finite_qk [hPrepRefIdeal : Cert.PrepRefIdeal.Facts] [hPre_finite_qk : Cert.Pre_finite_qk.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_qk m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v15) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal_pre_finite_out [hOutProjIdeal : Cert.OutProjIdeal.Facts] [hOutProjRefIdeal : Cert.OutProjRefIdeal.Facts] [hPre_finite_out : Cert.Pre_finite_out.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_out m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v10_0)) (v1 : (c : Dev Cert.OutProjIdeal.nD) → Buf (Elt Ideal) ((c.tc : Thread Cert.OutProjIdeal.nD Cert.OutProjIdeal.τ).loc Cert.OutProjIdeal.main_v10_1)) (v2 : (c : Dev Cert.OutProjIdeal.nD) → Buf (Elt Ideal) ((c.tc : Thread Cert.OutProjIdeal.nD Cert.OutProjIdeal.τ).loc Cert.OutProjIdeal.main_v10_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10_0) = v0 c
          ∧ r.2.mem ((c.tc : Thread Cert.OutProjIdeal.nD Cert.OutProjIdeal.τ).loc Cert.OutProjIdeal.main_v10_1) = v1 c
          ∧ r.2.mem ((c.tc : Thread Cert.OutProjIdeal.nD Cert.OutProjIdeal.τ).loc Cert.OutProjIdeal.main_v10_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v14) = v1 c
          ∧ r.2.mem ((c.tc : Thread Cert.OutProjRefIdeal.nD Cert.OutProjRefIdeal.τ).loc Cert.OutProjRefIdeal.main_v27) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v2) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v27) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Prep_PrepIdeal : Prop :=
  True

def algebraic_PrepIdeal_PrepRefIdeal_pre_finite_qk [hPrepIdeal : Cert.PrepIdeal.Facts] [hPrepRefIdeal : Cert.PrepRefIdeal.Facts] [hPre_finite_qk : Cert.Pre_finite_qk.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_qk m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v26_0)) (v1 : (c : Dev Cert.PrepIdeal.nD) → Buf (Elt Ideal) ((c.tc : Thread Cert.PrepIdeal.nD Cert.PrepIdeal.τ).loc Cert.PrepIdeal.main_v26_1)) (v2 : (c : Dev Cert.PrepIdeal.nD) → Buf (Elt Ideal) ((c.tc : Thread Cert.PrepIdeal.nD Cert.PrepIdeal.τ).loc Cert.PrepIdeal.main_v26_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v26_0) = v0 c
          ∧ r.2.mem ((c.tc : Thread Cert.PrepIdeal.nD Cert.PrepIdeal.τ).loc Cert.PrepIdeal.main_v26_1) = v1 c
          ∧ r.2.mem ((c.tc : Thread Cert.PrepIdeal.nD Cert.PrepIdeal.τ).loc Cert.PrepIdeal.main_v26_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v68) = v0 c
          ∧ r.2.mem ((c.tc : Thread Cert.PrepRefIdeal.nD Cert.PrepRefIdeal.τ).loc Cert.PrepRefIdeal.main_v70) = v1 c
          ∧ r.2.mem ((c.tc : Thread Cert.PrepRefIdeal.nD Cert.PrepRefIdeal.τ).loc Cert.PrepRefIdeal.main_v72) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hGlu : Cert.Glu.Facts) (hGluIdeal : Cert.GluIdeal.Facts) (hGluRefIdeal : Cert.GluRefIdeal.Facts) (hPrep : Cert.Prep.Facts) (hPrepIdeal : Cert.PrepIdeal.Facts) (hPrepRefIdeal : Cert.PrepRefIdeal.Facts) (hPre_finite : Cert.Pre_finite.Facts) (hPre_finite_out : Cert.Pre_finite_out.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjIdeal_pre_finite_out (hOutProjIdeal := hOutProjIdeal) (hPre_finite_out := hPre_finite_out)
    ∧ quiescent_OutProjRefIdeal (hOutProjRefIdeal := hOutProjRefIdeal)
    ∧ quiescent_OutProjRefIdeal_pre_finite_out (hOutProjRefIdeal := hOutProjRefIdeal) (hPre_finite_out := hPre_finite_out)
    ∧ quiescent_Glu (hGlu := hGlu)
    ∧ quiescent_GluIdeal (hGluIdeal := hGluIdeal)
    ∧ quiescent_GluRefIdeal (hGluRefIdeal := hGluRefIdeal)
    ∧ quiescent_Prep (hPrep := hPrep)
    ∧ quiescent_PrepIdeal (hPrepIdeal := hPrepIdeal)
    ∧ quiescent_PrepIdeal_pre_finite_qk (hPrepIdeal := hPrepIdeal) (hPre_finite_qk := hPre_finite_qk)
    ∧ quiescent_PrepRefIdeal (hPrepRefIdeal := hPrepRefIdeal)
    ∧ quiescent_PrepRefIdeal_pre_finite_qk (hPrepRefIdeal := hPrepRefIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal_pre_finite_out (hOutProjIdeal := hOutProjIdeal) (hOutProjRefIdeal := hOutProjRefIdeal) (hPre_finite_out := hPre_finite_out)
    ∧ preserves_Glu_GluIdeal
    ∧ algebraic_GluIdeal_GluRefIdeal (hGluIdeal := hGluIdeal) (hGluRefIdeal := hGluRefIdeal)
    ∧ preserves_Prep_PrepIdeal
    ∧ algebraic_PrepIdeal_PrepRefIdeal_pre_finite_qk (hPrepIdeal := hPrepIdeal) (hPrepRefIdeal := hPrepRefIdeal) (hPre_finite_qk := hPre_finite_qk)
-- ==== Pre_finite.lean ====
abbrev S1x8192x8x2x64 : Shape := ⟨5, ![1, 8192, 8, 2, 64]⟩
abbrev S1x8192x8x128 : Shape := ⟨4, ![1, 8192, 8, 128]⟩
abbrev S64 : Shape := ⟨1, ![64]⟩
abbrev S128 : Shape := ⟨1, ![128]⟩
abbrev S_ : Shape := ⟨0, ![]⟩

class Facts : Prop where
  bcast_S_S1x8192x8x2x64 : S_.BroadcastsInDim S1x8192x8x2x64 (![] : Fin 0 → Fin S1x8192x8x2x64.rank)
  reducesTo_S1x8192x8x2x64_S_d0_1_2_3_4 : S1x8192x8x2x64.ReducesTo [0, 1, 2, 3, 4] S_
  h_S_ : 0 < S_.numel
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S1x8192x8x2x64 .f32) (main_arg1 : FVec F S1x8192x8x2x64 .f32) (main_arg2 : FVec F S1x8192x8x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S1x8192x8x2x64 .f32 := Host.absf main_arg0
  let main_cst : FVec F S_ .f32 := constant S_ .f32 0x7F800000#32
  let main_v1 : FVec F S1x8192x8x2x64 .f32 := broadcastInDim S1x8192x8x2x64 ![] bcast_S_S1x8192x8x2x64 main_cst
  let main_v2 : IVec S1x8192x8x2x64 1 := cmpf .olt main_v0 main_v1
  let main_c : IVec S_ 1 := constantI S_ 1 1#1
  let main_v3 : IVec S_ 1 := (fun x v => Host.reduce IntOp.andi x v reducesTo_S1x8192x8x2x64_S_d0_1_2_3_4 h_S_) main_v2 main_c
  let main_v4 : FVec F S1x8192x8x2x64 .f32 := Host.absf main_arg1
  let main_cst_0 : FVec F S_ .f32 := constant S_ .f32 0x7F800000#32
  let main_v5 : FVec F S1x8192x8x2x64 .f32 := broadcastInDim S1x8192x8x2x64 ![] bcast_S_S1x8192x8x2x64 main_cst_0
  let main_v6 : IVec S1x8192x8x2x64 1 := cmpf .olt main_v4 main_v5
  let main_c_1 : IVec S_ 1 := constantI S_ 1 1#1
  let main_v7 : IVec S_ 1 := (fun x v => Host.reduce IntOp.andi x v reducesTo_S1x8192x8x2x64_S_d0_1_2_3_4 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Pre_finite_out.lean ====
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S8192x2048 .f32) (main_arg1 : FVec F S2048x2048 .f32) (main_arg2 : FVec F S8192x2048 .f32) (main_arg3 : FVec F S2048 .f32) (main_arg4 : FVec F S2048x16 .f32) : IVec S_ 1 :=
  let main_v0 : FVec F S2048 .f32 := Host.absf main_arg3
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S2048x16 .f32 := Host.absf main_arg4
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  main_v8
-- ==== Pre_finite_qk.lean ====
abbrev S8192x8192 : Shape := ⟨2, ![8192, 8192]⟩
abbrev S64 : Shape := ⟨1, ![64]⟩
abbrev S8192x8 : Shape := ⟨2, ![8192, 8]⟩
abbrev S8192x2048 : Shape := ⟨2, ![8192, 2048]⟩
abbrev S_ : Shape := ⟨0, ![]⟩

class Facts : Prop where
  slices_S8192x8192_S8192x2048_0_1024 : S8192x8192.Slices ![0, 1024] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x8192 .bf16) (main_arg1 : FVec F S64 .f32) (main_arg2 : FVec F S64 .f32) (main_arg3 : FVec F S8192x8 .f32) (main_arg4 : FVec F S8192x8 .f32) : IVec S_ 1 :=
  let main_v0 : FVec F S8192x2048 .bf16 := (extractStridedSlice S8192x2048 ![0, 1024] · slices_S8192x8192_S8192x2048_0_1024) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  main_v5
-- ==== Kernel.lean ====
abbrev S1x8192x8x2x64 : Shape := ⟨5, ![1, 8192, 8, 2, 64]⟩
abbrev S1x8192x8x128 : Shape := ⟨4, ![1, 8192, 8, 128]⟩
abbrev S64 : Shape := ⟨1, ![64]⟩
abbrev S128 : Shape := ⟨1, ![128]⟩
abbrev S_ : Shape := ⟨0, ![]⟩
abbrev S8192x16x64 : Shape := ⟨3, ![8192, 16, 64]⟩
abbrev S16x8192x64 : Shape := ⟨3, ![16, 8192, 64]⟩
abbrev S8192x8x128 : Shape := ⟨3, ![8192, 8, 128]⟩
abbrev S8x8192x128 : Shape := ⟨3, ![8, 8192, 128]⟩
abbrev S8x8192x256 : Shape := ⟨3, ![8, 8192, 256]⟩
abbrev S1 : Shape := ⟨1, ![1]⟩
abbrev S1x128 : Shape := ⟨2, ![1, 128]⟩
abbrev S8192x1024 : Shape := ⟨2, ![8192, 1024]⟩
abbrev S1x512x64 : Shape := ⟨3, ![1, 512, 64]⟩
abbrev S1x1024x64 : Shape := ⟨3, ![1, 1024, 64]⟩
abbrev S1x1024x256 : Shape := ⟨3, ![1, 1024, 256]⟩
abbrev S512x128 : Shape := ⟨2, ![512, 128]⟩
abbrev S2x512x256 : Shape := ⟨3, ![2, 512, 256]⟩
abbrev S2x512x1 : Shape := ⟨3, ![2, 512, 1]⟩
abbrev S1024x256 : Shape := ⟨2, ![1024, 256]⟩
abbrev S512x64 : Shape := ⟨2, ![512, 64]⟩
abbrev S1024x64 : Shape := ⟨2, ![1024, 64]⟩
abbrev S512x1024 : Shape := ⟨2, ![512, 1024]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S512x256 : Shape := ⟨2, ![512, 256]⟩

abbrev nBuf : Space → Nat
  | .hbm => 40
  | .vmem => 15
  | .smem => 1
  | _ => 0

abbrev bufTy : (tb : Table) → Fin (tcTables nBuf tb) → BufTy
  | .hbm, ⟨0, _⟩ => ⟨S1x8192x8x2x64, .f32⟩
  | .hbm, ⟨1, _⟩ => ⟨S1x8192x8x2x64, .f32⟩
  | .hbm, ⟨2, _⟩ => ⟨S1x8192x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x8192x8x2x64, .f32⟩
  | .hbm, ⟨24, _⟩ => ⟨S1x8192x8x2x64, .f32⟩
  | .hbm, ⟨25, _⟩ => ⟨S1x8192x8x2x64, .bf16⟩
  | .hbm, ⟨26, _⟩ => ⟨S8192x16x64, .bf16⟩
  | .hbm, ⟨27, _⟩ => ⟨S16x8192x64, .bf16⟩
  | .hbm, ⟨28, _⟩ => ⟨S1x8192x8x2x64, .bf16⟩
  | .hbm, ⟨29, _⟩ => ⟨S8192x16x64, .bf16⟩
  | .hbm, ⟨30, _⟩ => ⟨S16x8192x64, .bf16⟩
  | .hbm, ⟨31, _⟩ => ⟨S1x8192x8x128, .bf16⟩
  | .hbm, ⟨32, _⟩ => ⟨S8192x8x128, .bf16⟩
  | .hbm, ⟨33, _⟩ => ⟨S8x8192x128, .bf16⟩
  | .hbm, ⟨34, _⟩ => ⟨S_, .bf16⟩
  | .hbm, ⟨35, _⟩ => ⟨S8x8192x128, .bf16⟩
  | .hbm, ⟨36, _⟩ => ⟨S8x8192x256, .bf16⟩
  | .hbm, ⟨37, _⟩ => ⟨S1, .f32⟩
  | .hbm, ⟨38, _⟩ => ⟨S1x128, .f32⟩
  | .hbm, ⟨39, _⟩ => ⟨S8192x1024, .bf16⟩
  | .local _ .vmem, ⟨0, _⟩ => ⟨S1x512x64, .bf16⟩
  | .local _ .vmem, ⟨1, _⟩ => ⟨S1x512x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S2x512x256, .f32⟩
  | .local _ .vmem, ⟨14, _⟩ => ⟨S2x512x1, .f32⟩
  | .local _ .smem, ⟨0, _⟩ => ⟨S1, .f32⟩
  | _, _ => ⟨S1x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 16, 8], ![false, false, false]⟩

def k0_cond2 (i : grid0.Coords) : BitVec 1 :=
  let arg2 : BitVec 32 := BitVec.ofNat 32 (i 2).val
  let c7_i32 : BitVec 32 := 7#32
  let v61 : BitVec 1 := Scalar.cmpi .eq arg2 c7_i32
  let v62 : BitVec 32 := Scalar.extui v61
  let c0_i32_43 : BitVec 32 := 0#32
  let v63 : BitVec 1 := Scalar.cmpi .ne v62 c0_i32_43
  v63

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S1x8192x8x2x64 : Shape := ⟨5, ![1, 8192, 8, 2, 64]⟩
abbrev S1x8192x8x128 : Shape := ⟨4, ![1, 8192, 8, 128]⟩
abbrev S64 : Shape := ⟨1, ![64]⟩
abbrev S128 : Shape := ⟨1, ![128]⟩
abbrev S_ : Shape := ⟨0, ![]⟩
abbrev S1x8x2x8192x64 : Shape := ⟨5, ![1, 8, 2, 8192, 64]⟩
abbrev S1x8x8192x128 : Shape := ⟨4, ![1, 8, 8192, 128]⟩
abbrev S1x8x2x8192x8192 : Shape := ⟨5, ![1, 8, 2, 8192, 8192]⟩
abbrev S1x8x2x8192 : Shape := ⟨4, ![1, 8, 2, 8192]⟩
abbrev S1x8x2x8192x1 : Shape := ⟨5, ![1, 8, 2, 8192, 1]⟩
abbrev S1x8x1x8192x8192 : Shape := ⟨5, ![1, 8, 1, 8192, 8192]⟩
abbrev S1x8x8192x8192 : Shape := ⟨4, ![1, 8, 8192, 8192]⟩
abbrev S1x8192x8 : Shape := ⟨3, ![1, 8192, 8]⟩
abbrev S1x8192x8x1 : Shape := ⟨4, ![1, 8192, 8, 1]⟩
abbrev S1x1x1x128 : Shape := ⟨4, ![1, 1, 1, 128]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S1x8192x8x2x64, .f32⟩
  | .hbm, ⟨1, _⟩ => ⟨S1x8192x8x2x64, .f32⟩
  | .hbm, ⟨2, _⟩ => ⟨S1x8192x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S1x8192x8x2x64, .f32⟩
  | .hbm, ⟨10, _⟩ => ⟨S1x8192x8x2x64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x8x2x8192x64, .f32⟩
  | .hbm, ⟨23, _⟩ => ⟨S1x8x2x8192x64, .f32⟩
  | .hbm, ⟨24, _⟩ => ⟨S1x8x8192x128, .f32⟩
  | .hbm, ⟨25, _⟩ => ⟨S1x8x2x8192x8192, .f32⟩
  | .hbm, ⟨26, _⟩ => ⟨S_, .f32⟩
  | .hbm, ⟨27, _⟩ => ⟨S1x8x2x8192, .f32⟩
  | .hbm, ⟨28, _⟩ => ⟨S_, .f32⟩
  | .hbm, ⟨29, _⟩ => ⟨S1x8x2x8192, .f32⟩
  | .hbm, ⟨30, _⟩ => ⟨S1x8x2x8192, .f32⟩
  | .hbm, ⟨31, _⟩ => ⟨S1x8x2x8192x1, .f32⟩
  | .hbm, ⟨32, _⟩ => ⟨S1x8x2x8192x8192, .f32⟩
  | .hbm, ⟨33, _⟩ => ⟨S1x8x2x8192x8192, .f32⟩
  | .hbm, ⟨34, _⟩ => ⟨S1x8x2x8192x8192, .f32⟩
  | .hbm, ⟨35, _⟩ => ⟨S_, .f32⟩
  | .hbm, ⟨36, _⟩ => ⟨S1x8x2x8192, .f32⟩
  | .hbm, ⟨37, _⟩ => ⟨S1x8x2x8192x1, .f32⟩
  | .hbm, ⟨38, _⟩ => ⟨S1x8x2x8192x8192, .f32⟩
  | .hbm, ⟨39, _⟩ => ⟨S1x8x2x8192x8192, .f32⟩
  | .hbm, ⟨40, _⟩ => ⟨S1x8x1x8192x8192, .f32⟩
  | .hbm, ⟨41, _⟩ => ⟨S1x8x8192x8192, .f32⟩
  | .hbm, ⟨42, _⟩ => ⟨S1x8x1x8192x8192, .f32⟩
  | .hbm, ⟨43, _⟩ => ⟨S1x8x8192x8192, .f32⟩
  | .hbm, ⟨44, _⟩ => ⟨S1x8x8192x8192, .f32⟩
  | .hbm, ⟨45, _⟩ => ⟨S1x8x8192x8192, .f32⟩
  | .hbm, ⟨46, _⟩ => ⟨S1x8x8192x8192, .f32⟩
  | .hbm, ⟨47, _⟩ => ⟨S1x8x8192x128, .f32⟩
  | .hbm, ⟨48, _⟩ => ⟨S1x8192x8x128, .f32⟩
  | .hbm, ⟨49, _⟩ => ⟨S1x8192x8x128, .f32⟩
  | .hbm, ⟨50, _⟩ => ⟨S_, .f32⟩
  | .hbm, ⟨51, _⟩ => ⟨S1x8192x8, .f32⟩
  | .hbm, ⟨52, _⟩ => ⟨S1x8192x8x1, .f32⟩
  | .hbm, ⟨53, _⟩ => ⟨S_, .f32⟩
  | .hbm, ⟨54, _⟩ => ⟨S1x8192x8x1, .f32⟩
  | .hbm, ⟨55, _⟩ => ⟨S1x8192x8x1, .f32⟩
  | .hbm, ⟨56, _⟩ => ⟨S_, .f32⟩
  | .hbm, ⟨57, _⟩ => ⟨S1x8192x8x1, .f32⟩
  | .hbm, ⟨58, _⟩ => ⟨S1x8192x8x1, .f32⟩
  | .hbm, ⟨59, _⟩ => ⟨S1x8192x8x1, .f32⟩
  | .hbm, ⟨60, _⟩ => ⟨S1x8192x8x128, .f32⟩
  | .hbm, ⟨61, _⟩ => ⟨S1x8192x8x128, .f32⟩
  | .hbm, ⟨62, _⟩ => ⟨S1x1x1x128, .f32⟩
  | .hbm, ⟨63, _⟩ => ⟨S1x8192x8x128, .f32⟩
  | .hbm, ⟨64, _⟩ => ⟨S1x8192x8x128, .f32⟩
  | .hbm, ⟨65, _⟩ => ⟨S_, .f32⟩
  | .hbm, ⟨66, _⟩ => ⟨S1x8192x8x128, .f32⟩
  | .hbm, ⟨67, _⟩ => ⟨S1x8192x8x128, .f32⟩
  | .hbm, ⟨68, _⟩ => ⟨S8192x1024, .f32⟩
  | .hbm, ⟨69, _⟩ => ⟨S8192x1024, .bf16⟩
  | _, _ => ⟨S1x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== InProj.lean ====
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S8192x8192 : Shape := ⟨2, ![8192, 8192]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1024x512, .bf16⟩
  | .local _ .vmem, ⟨6, _⟩ => ⟨S1024x512, .bf16⟩
  | .local _ .vmem, ⟨7, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S1x8192x2048 : Shape := ⟨3, ![1, 8192, 2048]⟩
abbrev S2048 : Shape := ⟨1, ![2048]⟩
abbrev S2048x8192 : Shape := ⟨2, ![2048, 8192]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x8192 : Shape := ⟨3, ![1, 8192, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x8192, .f32⟩
  | .hbm, ⟨3, _⟩ => ⟨S1x8192x2048, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x2048, .f32⟩
  | .hbm, ⟨15, _⟩ => ⟨S1x8192x2048, .f32⟩
  | .hbm, ⟨16, _⟩ => ⟨S1x1x2048, .f32⟩
  | .hbm, ⟨17, _⟩ => ⟨S1x8192x2048, .f32⟩
  | .hbm, ⟨18, _⟩ => ⟨S1x8192x2048, .f32⟩
  | .hbm, ⟨19, _⟩ => ⟨S1x8192x8192, .f32⟩
  | .hbm, ⟨20, _⟩ => ⟨S8192x8192, .f32⟩
  | .hbm, ⟨21, _⟩ => ⟨S8192x8192, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Merge.lean ====
abbrev S8192x1024 : Shape := ⟨2, ![8192, 1024]⟩
abbrev S1024x2048 : Shape := ⟨2, ![1024, 2048]⟩
abbrev S8192x8192 : Shape := ⟨2, ![8192, 8192]⟩
abbrev S2x2048 : Shape := ⟨2, ![2, 2048]⟩
abbrev S8192x2048 : Shape := ⟨2, ![8192, 2048]⟩
abbrev S1024x1024 : Shape := ⟨2, ![1024, 1024]⟩
abbrev S1024x512 : Shape := ⟨2, ![1024, 512]⟩
abbrev S2x512 : Shape := ⟨2, ![2, 512]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024x2048, .f32⟩
  | .hbm, ⟨4, _⟩ => ⟨S8192x8192, .bf16⟩
  | .hbm, ⟨5, _⟩ => ⟨S2x2048, .f32⟩
  | .hbm, ⟨6, _⟩ => ⟨S8192x1024, .bf16⟩
  | .hbm, ⟨7, _⟩ => ⟨S8192x1024, .bf16⟩
  | .hbm, ⟨8, _⟩ => ⟨S1024x2048, .bf16⟩
  | .hbm, ⟨9, _⟩ => ⟨S1024x2048, .bf16⟩
  | .hbm, ⟨10, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S2x512, .f32⟩
  | .local _ .vmem, ⟨13, _⟩ => ⟨S2x512, .f32⟩
  | .local _ .vmem, ⟨14, _⟩ => ⟨S1024x512, .bf16⟩
  | .local _ .vmem, ⟨15, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S8192x1024 : Shape := ⟨2, ![8192, 1024]⟩
abbrev S1024x2048 : Shape := ⟨2, ![1024, 2048]⟩
abbrev S8192x8192 : Shape := ⟨2, ![8192, 8192]⟩
abbrev S2x2048 : Shape := ⟨2, ![2, 2048]⟩
abbrev S8192x4096 : Shape := ⟨2, ![8192, 4096]⟩
abbrev S8192x2x2048 : Shape := ⟨3, ![8192, 2, 2048]⟩
abbrev S1x2x2048 : Shape := ⟨3, ![1, 2, 2048]⟩
abbrev S_ : Shape := ⟨0, ![]⟩
abbrev S8192x1x2048 : Shape := ⟨3, ![8192, 1, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024x2048, .f32⟩
  | .hbm, ⟨4, _⟩ => ⟨S8192x8192, .bf16⟩
  | .hbm, ⟨5, _⟩ => ⟨S2x2048, .f32⟩
  | .hbm, ⟨6, _⟩ => ⟨S8192x4096, .bf16⟩
  | .hbm, ⟨7, _⟩ => ⟨S8192x4096, .f32⟩
  | .hbm, ⟨8, _⟩ => ⟨S8192x2x2048, .f32⟩
  | .hbm, ⟨9, _⟩ => ⟨S1x2x2048, .f32⟩
  | .hbm, ⟨10, _⟩ => ⟨S8192x2x2048, .f32⟩
  | .hbm, ⟨11, _⟩ => ⟨S8192x2x2048, .f32⟩
  | .hbm, ⟨12, _⟩ => ⟨S8192x2x2048, .f32⟩
  | .hbm, ⟨13, _⟩ => ⟨S8192x2x2048, .f32⟩
  | .hbm, ⟨14, _⟩ => ⟨S_, .f32⟩
  | .hbm, ⟨15, _⟩ => ⟨S8192x2x2048, .f32⟩
  | .hbm, ⟨16, _⟩ => ⟨S8192x2x2048, .f32⟩
  | .hbm, ⟨17, _⟩ => ⟨S_, .f32⟩
  | .hbm, ⟨18, _⟩ => ⟨S8192x2x2048, .f32⟩
  | .hbm, ⟨19, _⟩ => ⟨S8192x2x2048, .f32⟩
  | .hbm, ⟨20, _⟩ => ⟨S8192x1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1 : Shape := ⟨1, ![1]⟩
abbrev S1x2048 : Shape := ⟨2, ![1, 2048]⟩
abbrev S8192x128 : Shape := ⟨2, ![8192, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 20
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x16, .f32⟩
  | .hbm, ⟨5, _⟩ => ⟨S8192x2048, .bf16⟩
  | .hbm, ⟨6, _⟩ => ⟨S2048x2048, .bf16⟩
  | .hbm, ⟨7, _⟩ => ⟨S_, .f32⟩
  | .hbm, ⟨8, _⟩ => ⟨S2048x128, .f32⟩
  | .hbm, ⟨9, _⟩ => ⟨S_, .i32⟩
  | .hbm, ⟨10, _⟩ => ⟨S1, .i32⟩
  | .hbm, ⟨11, _⟩ => ⟨S2048x128, .f32⟩
  | .hbm, ⟨12, _⟩ => ⟨S2048x128, .bf16⟩
  | .hbm, ⟨13, _⟩ => ⟨S2048x128, .f32⟩
  | .hbm, ⟨14, _⟩ => ⟨S2048x128, .f32⟩
  | .hbm, ⟨15, _⟩ => ⟨S2048x128, .bf16⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x128, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S2048x128, .bf16⟩
  | .local _ .vmem, ⟨7, _⟩ => ⟨S2048x128, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x128, .f32⟩
  | .local _ .vmem, ⟨13, _⟩ => ⟨S256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S8192x2048 : Shape := ⟨2, ![8192, 2048]⟩
abbrev S2048x2048 : Shape := ⟨2, ![2048, 2048]⟩
abbrev S2048 : Shape := ⟨1, ![2048]⟩
abbrev S2048x16 : Shape := ⟨2, ![2048, 16]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16 : Shape := ⟨2, ![8192, 16]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x16, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x16, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x16, .f32⟩
  | .hbm, ⟨37, _⟩ => ⟨S8192x16, .f32⟩
  | .hbm, ⟨38, _⟩ => ⟨S_, .i32⟩
  | .hbm, ⟨39, _⟩ => ⟨S_, .f32⟩
  | .hbm, ⟨40, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Glu.lean ====
abbrev S8192x1024 : Shape := ⟨2, ![8192, 1024]⟩
abbrev S8192x8192 : Shape := ⟨2, ![8192, 8192]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S1024, .f32⟩
  | .hbm, ⟨3, _⟩ => ⟨S1024x1024, .f32⟩
  | .hbm, ⟨4, _⟩ => ⟨S1024x1024, .bf16⟩
  | .hbm, ⟨5, _⟩ => ⟨S1x1024, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S8192x1024 : Shape := ⟨2, ![8192, 1024]⟩
abbrev S8192x8192 : Shape := ⟨2, ![8192, 8192]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x8192, .bf16⟩
  | .hbm, ⟨2, _⟩ => ⟨S1024, .f32⟩
  | .hbm, ⟨3, _⟩ => ⟨S1024x1024, .f32⟩
  | .hbm, ⟨4, _⟩ => ⟨S8192x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Prep.lean ====
abbrev S8192x8192 : Shape := ⟨2, ![8192, 8192]⟩
abbrev S64 : Shape := ⟨1, ![64]⟩
abbrev S8192x8 : Shape := ⟨2, ![8192, 8]⟩
abbrev S_ : Shape := ⟨0, ![]⟩
abbrev S8192x48 : Shape := ⟨2, ![8192, 48]⟩
abbrev S8192x56 : Shape := ⟨2, ![8192, 56]⟩
abbrev S8192x64 : Shape := ⟨2, ![8192, 64]⟩
abbrev S8192x128 : Shape := ⟨2, ![8192, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x8192x64 : Shape := ⟨3, ![16, 8192, 64]⟩
abbrev S8x8192x256 : Shape := ⟨3, ![8, 8192, 256]⟩
abbrev S512x1024 : Shape := ⟨2, ![512, 1024]⟩
abbrev S512x128 : Shape := ⟨2, ![512, 128]⟩
abbrev S16x512x64 : Shape := ⟨3, ![16, 512, 64]⟩
abbrev S8x512x256 : Shape := ⟨3, ![8, 512, 256]⟩
abbrev S512x64 : Shape := ⟨2, ![512, 64]⟩
abbrev S1x512x64 : Shape := ⟨3, ![1, 512, 64]⟩
abbrev S1x512x128 : Shape := ⟨3, ![1, 512, 128]⟩

abbrev nBuf : Space → Nat
  | .hbm => 72
  | .vmem => 21
  | .smem => 0
  | _ => 0

abbrev bufTy : (tb : Table) → Fin (tcTables nBuf tb) → BufTy
  | .hbm, ⟨0, _⟩ => ⟨S8192x8192, .bf16⟩
  | .hbm, ⟨1, _⟩ => ⟨S64, .f32⟩
  | .hbm, ⟨2, _⟩ => ⟨S64, .f32⟩
  | .hbm, ⟨3, _⟩ => ⟨S8192x8, .f32⟩
  | .hbm, ⟨4, _⟩ => ⟨S8192x8, .f32⟩
  | .hbm, ⟨5, _⟩ => ⟨S_, .f32⟩
  | .hbm, ⟨6, _⟩ => ⟨S8192x48, .f32⟩
  | .hbm, ⟨7, _⟩ => ⟨S_, .f32⟩
  | .hbm, ⟨8, _⟩ => ⟨S8192x56, .f32⟩
  | .hbm, ⟨9, _⟩ => ⟨S_, .f32⟩
  | .hbm, ⟨10, _⟩ => ⟨S8192x8, .f32⟩
  | .hbm, ⟨11, _⟩ => ⟨S8192x64, .f32⟩
  | .hbm, ⟨12, _⟩ => ⟨S8192x8, .f32⟩
  | .hbm, ⟨13, _⟩ => ⟨S8192x64, .f32⟩
  | .hbm, ⟨14, _⟩ => ⟨S_, .f32⟩
  | .hbm, ⟨15, _⟩ => ⟨S8192x48, .f32⟩
  | .hbm, ⟨16, _⟩ => ⟨S8192x48, .f32⟩
  | .hbm, ⟨17, _⟩ => ⟨S8192x64, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S128, .i32⟩
  | .hbm, ⟨22, _⟩ => ⟨S128x1, .i32⟩
  | .hbm, ⟨23, _⟩ => ⟨S_, .i32⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i1⟩
  | .hbm, ⟨37, _⟩ => ⟨S_, .i32⟩
  | .hbm, ⟨38, _⟩ => ⟨S128x1, .i32⟩
  | .hbm, ⟨39, _⟩ => ⟨S128x1, .i32⟩
  | .hbm, ⟨40, _⟩ => ⟨S128x1, .i32⟩
  | .hbm, ⟨41, _⟩ => ⟨S128, .i32⟩
  | .hbm, ⟨42, _⟩ => ⟨S1x128, .i32⟩
  | .hbm, ⟨43, _⟩ => ⟨S_, .i32⟩
  | .hbm, ⟨44, _⟩ => ⟨S_, .i32⟩
  | .hbm, ⟨45, _⟩ => ⟨S1x128, .i32⟩
  | .hbm, ⟨46, _⟩ => ⟨S1x128, .i32⟩
  | .hbm, ⟨47, _⟩ => ⟨S1x128, .i32⟩
  | .hbm, ⟨48, _⟩ => ⟨S_, .i32⟩
  | .hbm, ⟨49, _⟩ => ⟨S1x128, .i32⟩
  | .hbm, ⟨50, _⟩ => ⟨S1x128, .i1⟩
  | .hbm, ⟨51, _⟩ => ⟨S1x128, .i32⟩
  | .hbm, ⟨52, _⟩ => ⟨S1x128, .i32⟩
  | .hbm, ⟨53, _⟩ => ⟨S_, .i32⟩
  | .hbm, ⟨54, _⟩ => ⟨S1x128, .i32⟩
  | .hbm, ⟨55, _⟩ => ⟨S1x128, .i1⟩
  | .hbm, ⟨56, _⟩ => ⟨S1x128, .i1⟩
  | .hbm, ⟨57, _⟩ => ⟨S_, .i32⟩
  | .hbm, ⟨58, _⟩ => ⟨S1x128, .i32⟩
  | .hbm, ⟨59, _⟩ => ⟨S1x128, .i32⟩
  | .hbm, ⟨60, _⟩ => ⟨S1x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S128x128, .bf16⟩
  | .hbm, ⟨65, _⟩ => ⟨S128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S16x8192x64, .bf16⟩
  | .hbm, ⟨70, _⟩ => ⟨S16x8192x64, .bf16⟩
  | .hbm, ⟨71, _⟩ => ⟨S8x8192x256, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S128x128, .bf16⟩
  | .local _ .vmem, ⟨15, _⟩ => ⟨S16x512x64, .bf16⟩
  | .local _ .vmem, ⟨16, _⟩ => ⟨S16x512x64, .bf16⟩
  | .local _ .vmem, ⟨17, _⟩ => ⟨S16x512x64, .bf16⟩
  | .local _ .vmem, ⟨18, _⟩ => ⟨S16x512x64, .bf16⟩
  | .local _ .vmem, ⟨19, _⟩ => ⟨S8x512x256, .bf16⟩
  | .local _ .vmem, ⟨20, _⟩ => ⟨S8x512x256, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26_0 : Ref sig .tc := ⟨.hbm, 69, rfl⟩
abbrev main_v26_1 : Ref sig .tc := ⟨.hbm, 70, rfl⟩
abbrev main_v26_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PrepRefIdeal.lean ====
abbrev S8192x8192 : Shape := ⟨2, ![8192, 8192]⟩
abbrev S64 : Shape := ⟨1, ![64]⟩
abbrev S8192x8 : Shape := ⟨2, ![8192, 8]⟩
abbrev S8192x1x8 : Shape := ⟨3, ![8192, 1, 8]⟩
abbrev S8192x1024 : Shape := ⟨2, ![8192, 1024]⟩
abbrev S8192x16x64 : Shape := ⟨3, ![8192, 16, 64]⟩
abbrev S_ : Shape := ⟨0, ![]⟩
abbrev S8192x16 : Shape := ⟨2, ![8192, 16]⟩
abbrev S8192x16x1 : Shape := ⟨3, ![8192, 16, 1]⟩
abbrev S1x1x64 : Shape := ⟨3, ![1, 1, 64]⟩
abbrev S8192x16x8 : Shape := ⟨3, ![8192, 16, 8]⟩
abbrev S8192x16x48 : Shape := ⟨3, ![8192, 16, 48]⟩
abbrev S8192x8x128 : Shape := ⟨3, ![8192, 8, 128]⟩
abbrev S8x8192x128 : Shape := ⟨3, ![8, 8192, 128]⟩
abbrev S16x8192x64 : Shape := ⟨3, ![16, 8192, 64]⟩
abbrev S8x8192x256 : Shape := ⟨3, ![8, 8192, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S64, .f32⟩
  | .hbm, ⟨2, _⟩ => ⟨S64, .f32⟩
  | .hbm, ⟨3, _⟩ => ⟨S8192x8, .f32⟩
  | .hbm, ⟨4, _⟩ => ⟨S8192x8, .f32⟩
  | .hbm, ⟨5, _⟩ => ⟨S8192x1x8, .f32⟩
  | .hbm, ⟨6, _⟩ => ⟨S8192x1x8, .f32⟩
  | .hbm, ⟨7, _⟩ => ⟨S8192x1024, .bf16⟩
  | .hbm, ⟨8, _⟩ => ⟨S8192x1024, .f32⟩
  | .hbm, ⟨9, _⟩ => ⟨S8192x16x64, .f32⟩
  | .hbm, ⟨10, _⟩ => ⟨S8192x16x64, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x64, .f32⟩
  | .hbm, ⟨22, _⟩ => ⟨S8192x16x64, .f32⟩
  | .hbm, ⟨23, _⟩ => ⟨S1x1x64, .f32⟩
  | .hbm, ⟨24, _⟩ => ⟨S8192x16x64, .f32⟩
  | .hbm, ⟨25, _⟩ => ⟨S8192x16x64, .f32⟩
  | .hbm, ⟨26, _⟩ => ⟨S8192x16x8, .f32⟩
  | .hbm, ⟨27, _⟩ => ⟨S8192x16x8, .f32⟩
  | .hbm, ⟨28, _⟩ => ⟨S8192x16x8, .f32⟩
  | .hbm, ⟨29, _⟩ => ⟨S8192x16x8, .f32⟩
  | .hbm, ⟨30, _⟩ => ⟨S8192x16x8, .f32⟩
  | .hbm, ⟨31, _⟩ => ⟨S8192x16x8, .f32⟩
  | .hbm, ⟨32, _⟩ => ⟨S8192x16x8, .f32⟩
  | .hbm, ⟨33, _⟩ => ⟨S8192x16x8, .f32⟩
  | .hbm, ⟨34, _⟩ => ⟨S8192x16x8, .f32⟩
  | .hbm, ⟨35, _⟩ => ⟨S8192x16x8, .f32⟩
  | .hbm, ⟨36, _⟩ => ⟨S8192x16x8, .f32⟩
  | .hbm, ⟨37, _⟩ => ⟨S8192x16x8, .f32⟩
  | .hbm, ⟨38, _⟩ => ⟨S8192x16x48, .f32⟩
  | .hbm, ⟨39, _⟩ => ⟨S8192x16x64, .f32⟩
  | .hbm, ⟨40, _⟩ => ⟨S_, .f32⟩
  | .hbm, ⟨41, _⟩ => ⟨S8192x16x64, .f32⟩
  | .hbm, ⟨42, _⟩ => ⟨S8192x16x64, .f32⟩
  | .hbm, ⟨43, _⟩ => ⟨S8192x1024, .bf16⟩
  | .hbm, ⟨44, _⟩ => ⟨S8192x1024, .f32⟩
  | .hbm, ⟨45, _⟩ => ⟨S8192x16x64, .f32⟩
  | .hbm, ⟨46, _⟩ => ⟨S8192x16x64, .f32⟩
  | .hbm, ⟨47, _⟩ => ⟨S_, .f32⟩
  | .hbm, ⟨48, _⟩ => ⟨S8192x16, .f32⟩
  | .hbm, ⟨49, _⟩ => ⟨S8192x16x1, .f32⟩
  | .hbm, ⟨50, _⟩ => ⟨S_, .f32⟩
  | .hbm, ⟨51, _⟩ => ⟨S8192x16x1, .f32⟩
  | .hbm, ⟨52, _⟩ => ⟨S8192x16x1, .f32⟩
  | .hbm, ⟨53, _⟩ => ⟨S_, .f32⟩
  | .hbm, ⟨54, _⟩ => ⟨S8192x16x1, .f32⟩
  | .hbm, ⟨55, _⟩ => ⟨S8192x16x1, .f32⟩
  | .hbm, ⟨56, _⟩ => ⟨S8192x16x1, .f32⟩
  | .hbm, ⟨57, _⟩ => ⟨S8192x16x64, .f32⟩
  | .hbm, ⟨58, _⟩ => ⟨S8192x16x64, .f32⟩
  | .hbm, ⟨59, _⟩ => ⟨S1x1x64, .f32⟩
  | .hbm, ⟨60, _⟩ => ⟨S8192x16x64, .f32⟩
  | .hbm, ⟨61, _⟩ => ⟨S8192x16x64, .f32⟩
  | .hbm, ⟨62, _⟩ => ⟨S8192x16x8, .f32⟩
  | .hbm, ⟨63, _⟩ => ⟨S8192x16x8, .f32⟩
  | .hbm, ⟨64, _⟩ => ⟨S8192x16x8, .f32⟩
  | .hbm, ⟨65, _⟩ => ⟨S8192x16x8, .f32⟩
  | .hbm, ⟨66, _⟩ => ⟨S8192x16x8, .f32⟩
  | .hbm, ⟨67, _⟩ => ⟨S8192x16x8, .f32⟩
  | .hbm, ⟨68, _⟩ => ⟨S8192x16x8, .f32⟩
  | .hbm, ⟨69, _⟩ => ⟨S8192x16x8, .f32⟩
  | .hbm, ⟨70, _⟩ => ⟨S8192x16x8, .f32⟩
  | .hbm, ⟨71, _⟩ => ⟨S8192x16x8, .f32⟩
  | .hbm, ⟨72, _⟩ => ⟨S8192x16x8, .f32⟩
  | .hbm, ⟨73, _⟩ => ⟨S8192x16x8, .f32⟩
  | .hbm, ⟨74, _⟩ => ⟨S8192x16x48, .f32⟩
  | .hbm, ⟨75, _⟩ => ⟨S8192x16x64, .f32⟩
  | .hbm, ⟨76, _⟩ => ⟨S8192x1024, .bf16⟩
  | .hbm, ⟨77, _⟩ => ⟨S8192x8x128, .bf16⟩
  | .hbm, ⟨78, _⟩ => ⟨S8x8192x128, .bf16⟩
  | .hbm, ⟨79, _⟩ => ⟨S16x8192x64, .f32⟩
  | .hbm, ⟨80, _⟩ => ⟨S16x8192x64, .bf16⟩
  | .hbm, ⟨81, _⟩ => ⟨S16x8192x64, .f32⟩
  | .hbm, ⟨82, _⟩ => ⟨S16x8192x64, .bf16⟩
  | .hbm, ⟨83, _⟩ => ⟨S_, .bf16⟩
  | .hbm, ⟨84, _⟩ => ⟨S8x8192x128, .bf16⟩
  | .hbm, ⟨85, _⟩ => ⟨S8x8192x256, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_v71 : Ref sig .tc := ⟨.hbm, 84, rfl⟩
abbrev main_v72 : Ref sig .tc := ⟨.hbm, 85, rfl⟩

abbrev nD : Nat := 1
abbrev τ : Topo := Topo.v7x

variable {F : FTy → Type} [FloatOps F]
-- ==== Proof.Step.lean ====
/- What one grid point's body leaves in the two scratch buffers and in the output block, as the body's own pure values: the
   slab of component 0 and the slab of component 1 are each one step of the online softmax over the slab before. -/
module

public import proofs.«01_k».proof.Proof.Gen.KernelIdeal.Frame
public import Idealize.ShloMosaic.Lib.Pointwise
public import Idealize.ShloMosaic.Lib.Pipeline.ReadBack
public import Idealize.ShloMosaic.Lib.Pipeline.Value

@[expose] public section

noncomputable section

namespace Cert.KernelIdeal.Step

open Idealize.ShloMosaic Idealize.SL.Sem
open Cert.KernelIdeal Cert.KernelIdeal.Gen

variable {F : FTy → Type} [FloatOps F]

/-- One component's slab of a two-component array. -/
def slab {α : Type} {D : ℕ} (n : Fin 2) (x : (⟨3, ![2, 512, D]⟩ : Shape).Idx → α) : (⟨3, ![1, 512, D]⟩ : Shape).Idx → α :=
  fun i => x (ix3 n (i 1) (i 2))

/-- Two slabs, one for each component, as one array. -/
def both {α : Type} {D : ℕ} (w₀ w₁ : (⟨3, ![1, 512, D]⟩ : Shape).Idx → α) : (⟨3, ![2, 512, D]⟩ : Shape).Idx → α :=
  fun i => if (i 0).val = 0 then w₀ (ix3 0 (i 1) (i 2)) else w₁ (ix3 0 (i 1) (i 2))

/-- The first slab of two stacked blocks is the first block. -/
theorem slab_both_zero {α : Type} {D : ℕ} (w₀ w₁ : (⟨3, ![1, 512, D]⟩ : Shape).Idx → α) : slab 0 (both w₀ w₁) = w₀ := by
  funext i
  have h : ix3 (0 : Fin 1) (i 1) (i 2) = i := by
    conv_rhs => rw [eq_ix3 i]
    congr 1
    exact Subsingleton.elim (α := Fin 1) _ _
  exact congrArg w₀ h

/-- The second slab of two stacked blocks is the second block. -/
theorem slab_both_one {α : Type} {D : ℕ} (w₀ w₁ : (⟨3, ![1, 512, D]⟩ : Shape).Idx → α) : slab 1 (both w₀ w₁) = w₁ := by
  funext i
  have h : ix3 (0 : Fin 1) (i 1) (i 2) = i := by
    conv_rhs => rw [eq_ix3 i]
    congr 1
    exact Subsingleton.elim (α := Fin 1) _ _
  exact congrArg w₁ h

/-- A load of one component's slab reads that slab. -/
theorem ld_slab {e : EltTy} {D : ℕ} (X : (⟨3, ![2, 512, D]⟩ : Shape).Idx → Elt F e) (n : Fin 2)
    (inb : ∀ a, (![n.val, 0, 0] : Fin 3 → ℕ) a + (![1, 512, D] : Fin 3 → ℕ) a ≤ (⟨3, ![2, 512, D]⟩ : Shape).size a) :
    View.ld X (Rect.unit (s := ⟨3, ![2, 512, D]⟩) ![n.val, 0, 0] ![1, 512, D] inb) = slab n X := by
  funext x
  refine congrArg X (funext fun a => Fin.ext ?_)
  match a with
  | ⟨0, _⟩ =>
    have h : (x 0).val < 1 := (x 0).isLt
    show n.val + 1 * (x 0).val = n.val
    omega
  | ⟨1, _⟩ => show 0 + 1 * (x 1).val = (x 1).val; omega
  | ⟨2, _⟩ => show 0 + 1 * (x 2).val = (x 2).val; omega

/-- A load of the first slab reads the first half of the buffer. -/
theorem ld_slab_zero {e : EltTy} {D : ℕ} (X : (⟨3, ![2, 512, D]⟩ : Shape).Idx → Elt F e)
    (inb : ∀ a, (![0, 0, 0] : Fin 3 → ℕ) a + (![1, 512, D] : Fin 3 → ℕ) a ≤ (⟨3, ![2, 512, D]⟩ : Shape).size a) :
    View.ld X (Rect.unit (s := ⟨3, ![2, 512, D]⟩) ![0, 0, 0] ![1, 512, D] inb) = slab 0 X := ld_slab X 0 inb

/-- A load of the second slab reads the second half of the buffer. -/
theorem ld_slab_one {e : EltTy} {D : ℕ} (X : (⟨3, ![2, 512, D]⟩ : Shape).Idx → Elt F e)
    (inb : ∀ a, (![1, 0, 0] : Fin 3 → ℕ) a + (![1, 512, D] : Fin 3 → ℕ) a ≤ (⟨3, ![2, 512, D]⟩ : Shape).size a) :
    View.ld X (Rect.unit (s := ⟨3, ![2, 512, D]⟩) ![1, 0, 0] ![1, 512, D] inb) = slab 1 X := ld_slab X 1 inb

/-- The index of a two-component array as an index of one slab. -/
def low {D : ℕ} (y : (⟨3, ![2, 512, D]⟩ : Shape).Idx) : (⟨3, ![1, 512, D]⟩ : Shape).Idx := ix3 0 (y 1) (y 2)

/-- An index in component `n`'s slab has first coordinate `n`. -/
theorem first_of_mem {D n : ℕ} {inb : ∀ a, (![n, 0, 0] : Fin 3 → ℕ) a + (![1, 512, D] : Fin 3 → ℕ) a ≤ (⟨3, ![2, 512, D]⟩ : Shape).size a}
    {y : (⟨3, ![2, 512, D]⟩ : Shape).Idx} (h : y ∈ (Rect.unit (s := ⟨3, ![2, 512, D]⟩) ![n, 0, 0] ![1, 512, D] inb).set) : (y 0).val = n := by
  obtain ⟨j, hj, e⟩ := (Rect.unit (s := ⟨3, ![2, 512, D]⟩) ![n, 0, 0] ![1, 512, D] inb).toLoadRect.mem_set.mp h 0
  have hj' : j < 1 := hj
  have e' : (y 0).val = n + 1 * j := e
  omega

/-- A store of component 1's slab after a store of component 0's leaves both. -/
theorem canon_both {e : EltTy} {D : ℕ} (w₀ w₁ : (⟨3, ![1, 512, D]⟩ : Shape).Idx → Elt F e)
    (inb₀ : ∀ a, (![0, 0, 0] : Fin 3 → ℕ) a + (![1, 512, D] : Fin 3 → ℕ) a ≤ (⟨3, ![2, 512, D]⟩ : Shape).size a)
    (inb₁ : ∀ a, (![1, 0, 0] : Fin 3 → ℕ) a + (![1, 512, D] : Fin 3 → ℕ) a ≤ (⟨3, ![2, 512, D]⟩ : Shape).size a)
    (L : List (View.Piece (Elt F) (⟨3, ![2, 512, D]⟩ : Shape) e)) :
    View.canon (⟨Rect.unit (s := ⟨3, ![2, 512, D]⟩) ![1, 0, 0] ![1, 512, D] inb₁, w₁⟩ :: ⟨Rect.unit (s := ⟨3, ![2, 512, D]⟩) ![0, 0, 0] ![1, 512, D] inb₀, w₀⟩ :: L)
      = both w₀ w₁ := by
  funext y
  by_cases hy : (y 0).val = 0
  · have hmem : y ∉ (Rect.unit (s := ⟨3, ![2, 512, D]⟩) ![1, 0, 0] ![1, 512, D] inb₁).set := by
      intro h
      have e1 := first_of_mem (n := 1) (inb := inb₁) h
      omega
    refine (View.canon_cons_of_not_mem (Val := Elt F) ⟨Rect.unit (s := ⟨3, ![2, 512, D]⟩) ![1, 0, 0] ![1, 512, D] inb₁, w₁⟩
      (⟨Rect.unit (s := ⟨3, ![2, 512, D]⟩) ![0, 0, 0] ![1, 512, D] inb₀, w₀⟩ :: L) hmem).trans ?_
    have ey : (Rect.unit (s := ⟨3, ![2, 512, D]⟩) ![0, 0, 0] ![1, 512, D] inb₀).emb (low y) = y := by
      refine funext fun a => Fin.ext ?_
      match a with
      | ⟨0, _⟩ => show 0 + 1 * 0 = (y 0).val; omega
      | ⟨1, _⟩ => show 0 + 1 * (y 1).val = (y 1).val; omega
      | ⟨2, _⟩ => show 0 + 1 * (y 2).val = (y 2).val; omega
    have h := View.canon_cons_emb (Val := Elt F) (Rect.unit (s := ⟨3, ![2, 512, D]⟩) ![0, 0, 0] ![1, 512, D] inb₀) w₀ L (low y)
    exact ((congrArg _ ey.symm).trans h).trans (if_pos hy).symm
  · have ey : (Rect.unit (s := ⟨3, ![2, 512, D]⟩) ![1, 0, 0] ![1, 512, D] inb₁).emb (low y) = y := by
      refine funext fun a => Fin.ext ?_
      match a with
      | ⟨0, _⟩ =>
        have h2 : (y 0).val < 2 := (y 0).isLt
        show 1 + 1 * 0 = (y 0).val
        omega
      | ⟨1, _⟩ => show 0 + 1 * (y 1).val = (y 1).val; omega
      | ⟨2, _⟩ => show 0 + 1 * (y 2).val = (y 2).val; omega
    have h := View.canon_cons_emb (Val := Elt F) (Rect.unit (s := ⟨3, ![2, 512, D]⟩) ![1, 0, 0] ![1, 512, D] inb₁) w₁
      (⟨Rect.unit (s := ⟨3, ![2, 512, D]⟩) ![0, 0, 0] ![1, 512, D] inb₀, w₀⟩ :: L) (low y)
    exact ((congrArg _ ey.symm).trans h).trans (if_neg hy).symm

/-- The zero start of a 3-axis view, as a constant function. -/
theorem hz3 : (![0, 0, 0] : Fin 3 → ℕ) = fun _ => 0 := by funext a; fin_cases a <;> rfl
/-- The zero start of a 2-axis view, as a constant function. -/
theorem hz2 : (![0, 0] : Fin 2 → ℕ) = fun _ => 0 := by funext a; fin_cases a <;> rfl
/-- The zero start of a 1-axis view, as a constant function. -/
theorem hz1 : (![0] : Fin 1 → ℕ) = fun _ => 0 := by funext a; fin_cases a; rfl
/-- The zero start, entry by entry. -/
theorem zz3 : ∀ a : Fin 3, (![0, 0, 0] : Fin 3 → ℕ) a = 0 := fun a => congrFun hz3 a

/-- A read of component 0's slab after a fill of the whole reads the fill. -/
theorem readCov_first {κ : Kind} {sp : Space} {e : EltTy} {D : ℕ} (v : View sig κ sp (⟨3, ![2, 512, D]⟩ : Shape) e)
    (Z : (⟨3, ![2, 512, D]⟩ : Shape).Idx → Elt F e)
    (inb₀ : ∀ a, (![0, 0, 0] : Fin 3 → ℕ) a + (![1, 512, D] : Fin 3 → ℕ) a ≤ (⟨3, ![2, 512, D]⟩ : Shape).size a)
    (inb : ∀ a, (![0, 0, 0] : Fin 3 → ℕ) a + (![2, 512, D] : Fin 3 → ℕ) a ≤ (⟨3, ![2, 512, D]⟩ : Shape).size a) :
    v.readCov [⟨Rect.unit (s := ⟨3, ![2, 512, D]⟩) ![0, 0, 0] ![2, 512, D] inb, Z⟩]
      (Rect.unit (s := ⟨3, ![2, 512, D]⟩) ![0, 0, 0] ![1, 512, D] inb₀).toLoadRect = slab 0 Z :=
  (View.readCov_fill v inb Z [] _ zz3).trans (ld_slab_zero Z inb₀)

/-- A read of component 1's slab after a store of component 0's over a fill of the whole reads the fill. -/
theorem readCov_one {κ : Kind} {sp : Space} {e : EltTy} {D : ℕ} (v : View sig κ sp (⟨3, ![2, 512, D]⟩ : Shape) e)
    (w₀ : (⟨3, ![1, 512, D]⟩ : Shape).Idx → Elt F e) (Z : (⟨3, ![2, 512, D]⟩ : Shape).Idx → Elt F e)
    (inb₀ : ∀ a, (![0, 0, 0] : Fin 3 → ℕ) a + (![1, 512, D] : Fin 3 → ℕ) a ≤ (⟨3, ![2, 512, D]⟩ : Shape).size a)
    (inb₁ : ∀ a, (![1, 0, 0] : Fin 3 → ℕ) a + (![1, 512, D] : Fin 3 → ℕ) a ≤ (⟨3, ![2, 512, D]⟩ : Shape).size a)
    (inb : ∀ a, (![0, 0, 0] : Fin 3 → ℕ) a + (![2, 512, D] : Fin 3 → ℕ) a ≤ (⟨3, ![2, 512, D]⟩ : Shape).size a) :
    v.readCov [⟨Rect.unit (s := ⟨3, ![2, 512, D]⟩) ![0, 0, 0] ![1, 512, D] inb₀, w₀⟩, ⟨Rect.unit (s := ⟨3, ![2, 512, D]⟩) ![0, 0, 0] ![2, 512, D] inb, Z⟩]
      (Rect.unit (s := ⟨3, ![2, 512, D]⟩) ![1, 0, 0] ![1, 512, D] inb₁).toLoadRect = slab 1 Z := by
  rw [View.readCov_cons_of_disjoint]
  · exact (View.readCov_fill v inb Z [] _ zz3).trans (ld_slab_one Z inb₁)
  · rw [Finset.disjoint_left]
    intro y h₀ h₁
    have e0 := first_of_mem (n := 0) (inb := inb₀) h₀
    have e1 := first_of_mem (n := 1) (inb := inb₁) h₁
    omega

/-- A read of component 0's slab after the stores of both slabs reads component 0's store. -/
theorem readCov_zero {κ : Kind} {sp : Space} {e : EltTy} {D : ℕ} (v : View sig κ sp (⟨3, ![2, 512, D]⟩ : Shape) e)
    (w₀ w₁ : (⟨3, ![1, 512, D]⟩ : Shape).Idx → Elt F e)
    (inb₀ : ∀ a, (![0, 0, 0] : Fin 3 → ℕ) a + (![1, 512, D] : Fin 3 → ℕ) a ≤ (⟨3, ![2, 512, D]⟩ : Shape).size a)
    (inb₁ : ∀ a, (![1, 0, 0] : Fin 3 → ℕ) a + (![1, 512, D] : Fin 3 → ℕ) a ≤ (⟨3, ![2, 512, D]⟩ : Shape).size a)
    (L : List (View.Piece (Elt F) (⟨3, ![2, 512, D]⟩ : Shape) e)) :
    v.readCov (⟨Rect.unit (s := ⟨3, ![2, 512, D]⟩) ![1, 0, 0] ![1, 512, D] inb₁, w₁⟩ :: ⟨Rect.unit (s := ⟨3, ![2, 512, D]⟩) ![0, 0, 0] ![1, 512, D] inb₀, w₀⟩ :: L)
      (Rect.unit (s := ⟨3, ![2, 512, D]⟩) ![0, 0, 0] ![1, 512, D] inb₀).toLoadRect = w₀ := by
  rw [View.readCov_eq_canon', canon_both w₀ w₁ inb₀ inb₁ L]
  exact (ld_slab_zero (F := F) (both w₀ w₁) inb₀).trans (slab_both_zero w₀ w₁)

/-- The slab of the running maximum after one step. -/
def stepMax (q : Vec F S1x512x64 .bf16) (k : Vec F S1x1024x64 .bf16) (mx : Vec F S1x512x1 .f32) : Vec F S1x512x1 .f32 :=
  k0_pay9 (k0_pay7 q k mx)

/-- The slab of the running sums after one step. -/
def stepAcc (v : Vec F S1x1024x256 .bf16) (q : Vec F S1x512x64 .bf16) (k : Vec F S1x1024x64 .bf16) (mx : Vec F S1x512x1 .f32)
    (acc : Vec F S1x512x256 .f32) : Vec F S1x512x256 .f32 :=
  k0_pay8 v q k mx acc

/-- The stored slab of running sums of the second component is one step of the running sums. -/
theorem pay13_eq (v : Vec F S1x1024x256 .bf16) (q : Vec F S1x512x64 .bf16) (k : Vec F S1x1024x64 .bf16) (mx : Vec F S1x512x1 .f32)
    (acc : Vec F S1x512x256 .f32) : k0_pay13 (k0_pay4 v) q k mx acc = stepAcc v q k mx acc := rfl

/-- The stored slab of running maxima of the second component is one step of the running maxima. -/
theorem pay14_eq (q : Vec F S1x512x64 .bf16) (k : Vec F S1x1024x64 .bf16) (mx : Vec F S1x512x1 .f32) :
    k0_pay14 q k mx = stepMax q k mx := rfl

/-- The stored slab of running sums of the first component is one step of the running sums. -/
theorem pay8_eq (v : Vec F S1x1024x256 .bf16) (q : Vec F S1x512x64 .bf16) (k : Vec F S1x1024x64 .bf16) (mx : Vec F S1x512x1 .f32)
    (acc : Vec F S1x512x256 .f32) : k0_pay8 v q k mx acc = stepAcc v q k mx acc := rfl

/-- The stored slab of running maxima of the first component is one step of the running maxima. -/
theorem pay9_eq (q : Vec F S1x512x64 .bf16) (k : Vec F S1x1024x64 .bf16) (mx : Vec F S1x512x1 .f32) :
    k0_pay9 (k0_pay7 q k mx) = stepMax q k mx := rfl

/-- The running sums after the first point of a block row: the slabs start from the fills. -/
theorem sout_A_0 (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : cond0_0 i) (hc1 : ¬cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = both (stepAcc x5 x1 x3 (slab 0 k0_pay3) (slab 0 k0_pay2)) (stepAcc x5 x2 x4 (slab 1 k0_pay3) (slab 1 k0_pay2)) := by
  unfold sout0_A_0
  rw [View.read_writes_junk_eq_canon]
  unfold kernelRun0_A
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have f11_0 : arg11.view.readCov [(⟨Rect.unit ![0, 0, 0] S2x512x256.size inb_S2x512x256_S2x512x256_0_0_0, k0_pay2 (F := F)⟩ : View.Piece (Elt F) S2x512x256 .f32)] (Rect.unit (s := S2x512x256) ![0, 0, 0] S1x512x256.size inb_S2x512x256_S1x512x256_0_0_0).toLoadRect = slab 0 (k0_pay2 (F := F)) :=
    readCov_first (F := F) (e := .f32) arg11.view (k0_pay2 (F := F)) _ _
  have f11_1 : ∀ w, arg11.view.readCov [⟨Rect.unit (s := S2x512x256) ![0, 0, 0] S1x512x256.size inb_S2x512x256_S1x512x256_0_0_0, w⟩, (⟨Rect.unit ![0, 0, 0] S2x512x256.size inb_S2x512x256_S2x512x256_0_0_0, k0_pay2 (F := F)⟩ : View.Piece (Elt F) S2x512x256 .f32)] (Rect.unit (s := S2x512x256) ![1, 0, 0] S1x512x256.size inb_S2x512x256_S1x512x256_1_0_0).toLoadRect = slab 1 (k0_pay2 (F := F)) :=
    fun w => readCov_one (F := F) (e := .f32) arg11.view w (k0_pay2 (F := F)) _ _ _
  have f12_0 : arg12.view.readCov [(⟨Rect.unit ![0, 0, 0] S2x512x1.size inb_S2x512x1_S2x512x1_0_0_0, k0_pay3 (F := F)⟩ : View.Piece (Elt F) S2x512x1 .f32)] (Rect.unit (s := S2x512x1) ![0, 0, 0] S1x512x1.size inb_S2x512x1_S1x512x1_0_0_0).toLoadRect = slab 0 (k0_pay3 (F := F)) :=
    readCov_first (F := F) (e := .f32) arg12.view (k0_pay3 (F := F)) _ _
  have f12_1 : ∀ w, arg12.view.readCov [⟨Rect.unit (s := S2x512x1) ![0, 0, 0] S1x512x1.size inb_S2x512x1_S1x512x1_0_0_0, w⟩, (⟨Rect.unit ![0, 0, 0] S2x512x1.size inb_S2x512x1_S2x512x1_0_0_0, k0_pay3 (F := F)⟩ : View.Piece (Elt F) S2x512x1 .f32)] (Rect.unit (s := S2x512x1) ![1, 0, 0] S1x512x1.size inb_S2x512x1_S1x512x1_1_0_0).toLoadRect = slab 1 (k0_pay3 (F := F)) :=
    fun w => readCov_one (F := F) (e := .f32) arg12.view w (k0_pay3 (F := F)) _ _ _
  refine (canon_both (F := F) _ _ _ _ _).trans ?_
  simp only [r4, r5, r6, r7, r8, f11_0, f11_1, f12_0, f12_1, pay13_eq, pay14_eq, pay8_eq, pay9_eq]

/-- The running maximum after the first point of a block row: the slabs start from the fills. -/
theorem sout_A_1 (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : cond0_0 i) (hc1 : ¬cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) :
    sout0_A_1 c i arg3 harg3 arg4 harg4 arg5 harg5 arg6 harg6 arg7 harg7 arg8 harg8 arg9 harg9 arg10 harg10 arg11 harg11 arg12 harg12 hc0 hc1 x0 x1 x2 x3 x4 x5 x6
      = both (stepMax x1 x3 (slab 0 k0_pay3)) (stepMax x2 x4 (slab 1 k0_pay3)) := by
  unfold sout0_A_1
  rw [View.read_writes_junk_eq_canon]
  unfold kernelRun0_A
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have f11_0 : arg11.view.readCov [(⟨Rect.unit ![0, 0, 0] S2x512x256.size inb_S2x512x256_S2x512x256_0_0_0, k0_pay2 (F := F)⟩ : View.Piece (Elt F) S2x512x256 .f32)] (Rect.unit (s := S2x512x256) ![0, 0, 0] S1x512x256.size inb_S2x512x256_S1x512x256_0_0_0).toLoadRect = slab 0 (k0_pay2 (F := F)) :=
    readCov_first (F := F) (e := .f32) arg11.view (k0_pay2 (F := F)) _ _
  have f11_1 : ∀ w, arg11.view.readCov [⟨Rect.unit (s := S2x512x256) ![0, 0, 0] S1x512x256.size inb_S2x512x256_S1x512x256_0_0_0, w⟩, (⟨Rect.unit ![0, 0, 0] S2x512x256.size inb_S2x512x256_S2x512x256_0_0_0, k0_pay2 (F := F)⟩ : View.Piece (Elt F) S2x512x256 .f32)] (Rect.unit (s := S2x512x256) ![1, 0, 0] S1x512x256.size inb_S2x512x256_S1x512x256_1_0_0).toLoadRect = slab 1 (k0_pay2 (F := F)) :=
    fun w => readCov_one (F := F) (e := .f32) arg11.view w (k0_pay2 (F := F)) _ _ _
  have f12_0 : arg12.view.readCov [(⟨Rect.unit ![0, 0, 0] S2x512x1.size inb_S2x512x1_S2x512x1_0_0_0, k0_pay3 (F := F)⟩ : View.Piece (Elt F) S2x512x1 .f32)] (Rect.unit (s := S2x512x1) ![0, 0, 0] S1x512x1.size inb_S2x512x1_S1x512x1_0_0_0).toLoadRect = slab 0 (k0_pay3 (F := F)) :=
    readCov_first (F := F) (e := .f32) arg12.view (k0_pay3 (F := F)) _ _
  have f12_1 : ∀ w, arg12.view.readCov [⟨Rect.unit (s := S2x512x1) ![0, 0, 0] S1x512x1.size inb_S2x512x1_S1x512x1_0_0_0, w⟩, (⟨Rect.unit ![0, 0, 0] S2x512x1.size inb_S2x512x1_S2x512x1_0_0_0, k0_pay3 (F := F)⟩ : View.Piece (Elt F) S2x512x1 .f32)] (Rect.unit (s := S2x512x1) ![1, 0, 0] S1x512x1.size inb_S2x512x1_S1x512x1_1_0_0).toLoadRect = slab 1 (k0_pay3 (F := F)) :=
    fun w => readCov_one (F := F) (e := .f32) arg12.view w (k0_pay3 (F := F)) _ _ _
  refine (canon_both (F := F) _ _ _ _ _).trans ?_
  simp only [r4, r5, r6, r7, r8, f11_0, f11_1, f12_0, f12_1, pay13_eq, pay14_eq, pay8_eq, pay9_eq]

/-- The running sums after a middle point. -/
theorem sout_B_0 (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : ¬cond0_0 i) (hc1 : ¬cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) (xs0 : Vec F S2x512x256 .f32) (xs1 : Vec F S2x512x1 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1
      = both (stepAcc x5 x1 x3 (slab 0 xs1) (slab 0 xs0)) (stepAcc x5 x2 x4 (slab 1 xs1) (slab 1 xs0)) := by
  unfold sout0_B_0
  rw [View.read_writes_junk_eq_canon]
  unfold kernelRun0_B
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have s11_0 : View.readAt (Elt F) arg11.view (Rect.unit (s := S2x512x256) ![0, 0, 0] S1x512x256.size inb_S2x512x256_S1x512x256_0_0_0).toLoadRect (harg11.unread xs0) = slab 0 xs0 := by
    rw [View.readAt_eq_ld, harg11.read_unread]; exact ld_slab_zero (F := F) xs0 _
  have s12_0 : View.readAt (Elt F) arg12.view (Rect.unit (s := S2x512x1) ![0, 0, 0] S1x512x1.size inb_S2x512x1_S1x512x1_0_0_0).toLoadRect (harg12.unread xs1) = slab 0 xs1 := by
    rw [View.readAt_eq_ld, harg12.read_unread]; exact ld_slab_zero (F := F) xs1 _
  have s11_1 : View.readAt (Elt F) arg11.view (Rect.unit (s := S2x512x256) ![1, 0, 0] S1x512x256.size inb_S2x512x256_S1x512x256_1_0_0).toLoadRect (harg11.unread xs0) = slab 1 xs0 := by
    rw [View.readAt_eq_ld, harg11.read_unread]; exact ld_slab_one (F := F) xs0 _
  have s12_1 : View.readAt (Elt F) arg12.view (Rect.unit (s := S2x512x1) ![1, 0, 0] S1x512x1.size inb_S2x512x1_S1x512x1_1_0_0).toLoadRect (harg12.unread xs1) = slab 1 xs1 := by
    rw [View.readAt_eq_ld, harg12.read_unread]; exact ld_slab_one (F := F) xs1 _
  refine (canon_both (F := F) _ _ _ _ _).trans ?_
  simp only [r4, r5, r6, r7, r8, s11_0, s11_1, s12_0, s12_1, pay13_eq, pay14_eq, pay8_eq, pay9_eq]

/-- The running maximum after a middle point. -/
theorem sout_B_1 (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : ¬cond0_0 i) (hc1 : ¬cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) (xs0 : Vec F S2x512x256 .f32) (xs1 : Vec F S2x512x1 .f32) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1
      = both (stepMax x1 x3 (slab 0 xs1)) (stepMax x2 x4 (slab 1 xs1)) := by
  unfold sout0_B_1
  rw [View.read_writes_junk_eq_canon]
  unfold kernelRun0_B
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have s11_0 : View.readAt (Elt F) arg11.view (Rect.unit (s := S2x512x256) ![0, 0, 0] S1x512x256.size inb_S2x512x256_S1x512x256_0_0_0).toLoadRect (harg11.unread xs0) = slab 0 xs0 := by
    rw [View.readAt_eq_ld, harg11.read_unread]; exact ld_slab_zero (F := F) xs0 _
  have s12_0 : View.readAt (Elt F) arg12.view (Rect.unit (s := S2x512x1) ![0, 0, 0] S1x512x1.size inb_S2x512x1_S1x512x1_0_0_0).toLoadRect (harg12.unread xs1) = slab 0 xs1 := by
    rw [View.readAt_eq_ld, harg12.read_unread]; exact ld_slab_zero (F := F) xs1 _
  have s11_1 : View.readAt (Elt F) arg11.view (Rect.unit (s := S2x512x256) ![1, 0, 0] S1x512x256.size inb_S2x512x256_S1x512x256_1_0_0).toLoadRect (harg11.unread xs0) = slab 1 xs0 := by
    rw [View.readAt_eq_ld, harg11.read_unread]; exact ld_slab_one (F := F) xs0 _
  have s12_1 : View.readAt (Elt F) arg12.view (Rect.unit (s := S2x512x1) ![1, 0, 0] S1x512x1.size inb_S2x512x1_S1x512x1_1_0_0).toLoadRect (harg12.unread xs1) = slab 1 xs1 := by
    rw [View.readAt_eq_ld, harg12.read_unread]; exact ld_slab_one (F := F) xs1 _
  refine (canon_both (F := F) _ _ _ _ _).trans ?_
  simp only [r4, r5, r6, r7, r8, s11_0, s11_1, s12_0, s12_1, pay13_eq, pay14_eq, pay8_eq, pay9_eq]

/-- The running sums after the last point of a block row. -/
theorem sout_C_0 (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : ¬cond0_0 i) (hc1 : cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) (xs0 : Vec F S2x512x256 .f32) (xs1 : Vec F S2x512x1 .f32) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1
      = both (stepAcc x5 x1 x3 (slab 0 xs1) (slab 0 xs0)) (stepAcc x5 x2 x4 (slab 1 xs1) (slab 1 xs0)) := by
  unfold sout0_C_0
  rw [View.read_writes_junk_eq_canon]
  unfold kernelRun0_C
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have s11_0 : View.readAt (Elt F) arg11.view (Rect.unit (s := S2x512x256) ![0, 0, 0] S1x512x256.size inb_S2x512x256_S1x512x256_0_0_0).toLoadRect (harg11.unread xs0) = slab 0 xs0 := by
    rw [View.readAt_eq_ld, harg11.read_unread]; exact ld_slab_zero (F := F) xs0 _
  have s12_0 : View.readAt (Elt F) arg12.view (Rect.unit (s := S2x512x1) ![0, 0, 0] S1x512x1.size inb_S2x512x1_S1x512x1_0_0_0).toLoadRect (harg12.unread xs1) = slab 0 xs1 := by
    rw [View.readAt_eq_ld, harg12.read_unread]; exact ld_slab_zero (F := F) xs1 _
  have s11_1 : View.readAt (Elt F) arg11.view (Rect.unit (s := S2x512x256) ![1, 0, 0] S1x512x256.size inb_S2x512x256_S1x512x256_1_0_0).toLoadRect (harg11.unread xs0) = slab 1 xs0 := by
    rw [View.readAt_eq_ld, harg11.read_unread]; exact ld_slab_one (F := F) xs0 _
  have s12_1 : View.readAt (Elt F) arg12.view (Rect.unit (s := S2x512x1) ![1, 0, 0] S1x512x1.size inb_S2x512x1_S1x512x1_1_0_0).toLoadRect (harg12.unread xs1) = slab 1 xs1 := by
    rw [View.readAt_eq_ld, harg12.read_unread]; exact ld_slab_one (F := F) xs1 _
  refine (canon_both (F := F) _ _ _ _ _).trans ?_
  simp only [r4, r5, r6, r7, r8, s11_0, s11_1, s12_0, s12_1, pay13_eq, pay14_eq, pay8_eq, pay9_eq]

/-- The running maximum after the last point of a block row. -/
theorem sout_C_1 (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : ¬cond0_0 i) (hc1 : cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) (xs0 : Vec F S2x512x256 .f32) (xs1 : Vec F S2x512x1 .f32) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1
      = both (stepMax x1 x3 (slab 0 xs1)) (stepMax x2 x4 (slab 1 xs1)) := by
  unfold sout0_C_1
  rw [View.read_writes_junk_eq_canon]
  unfold kernelRun0_C
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have s11_0 : View.readAt (Elt F) arg11.view (Rect.unit (s := S2x512x256) ![0, 0, 0] S1x512x256.size inb_S2x512x256_S1x512x256_0_0_0).toLoadRect (harg11.unread xs0) = slab 0 xs0 := by
    rw [View.readAt_eq_ld, harg11.read_unread]; exact ld_slab_zero (F := F) xs0 _
  have s12_0 : View.readAt (Elt F) arg12.view (Rect.unit (s := S2x512x1) ![0, 0, 0] S1x512x1.size inb_S2x512x1_S1x512x1_0_0_0).toLoadRect (harg12.unread xs1) = slab 0 xs1 := by
    rw [View.readAt_eq_ld, harg12.read_unread]; exact ld_slab_zero (F := F) xs1 _
  have s11_1 : View.readAt (Elt F) arg11.view (Rect.unit (s := S2x512x256) ![1, 0, 0] S1x512x256.size inb_S2x512x256_S1x512x256_1_0_0).toLoadRect (harg11.unread xs0) = slab 1 xs0 := by
    rw [View.readAt_eq_ld, harg11.read_unread]; exact ld_slab_one (F := F) xs0 _
  have s12_1 : View.readAt (Elt F) arg12.view (Rect.unit (s := S2x512x1) ![1, 0, 0] S1x512x1.size inb_S2x512x1_S1x512x1_1_0_0).toLoadRect (harg12.unread xs1) = slab 1 xs1 := by
    rw [View.readAt_eq_ld, harg12.read_unread]; exact ld_slab_one (F := F) xs1 _
  refine (canon_both (F := F) _ _ _ _ _).trans ?_
  simp only [r4, r5, r6, r7, r8, s11_0, s11_1, s12_0, s12_1, pay13_eq, pay14_eq, pay8_eq, pay9_eq]

/-- The output block of the last point of a block row: the quotients of the two components' sums, subtracted, normalised and scaled. -/
theorem out_C (c : Dev nD) (i : grid0.Coords) (arg3 : Memref sig .tc .smem S1 .f32) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1x1024x64 .bf16) (harg7 : arg7.IsWhole) (arg8 : Memref sig .tc .vmem S1x1024x256 .bf16) (harg8 : arg8.IsWhole) (arg9 : Memref sig .tc .vmem S1x128 .f32) (harg9 : arg9.IsWhole) (arg10 : Memref sig .tc .vmem S512x128 .bf16) (harg10 : arg10.IsWhole) (arg11 : Memref sig .tc .vmem S2x512x256 .f32) (harg11 : arg11.IsWhole) (arg12 : Memref sig .tc .vmem S2x512x1 .f32) (harg12 : arg12.IsWhole) (hc0 : ¬cond0_0 i) (hc1 : cond0_1 i)
    (x0 : Vec F S1 .f32) (x1 : Vec F S1x512x64 .bf16) (x2 : Vec F S1x512x64 .bf16) (x3 : Vec F S1x1024x64 .bf16) (x4 : Vec F S1x1024x64 .bf16) (x5 : Vec F S1x1024x256 .bf16) (x6 : Vec F S1x128 .f32) (xs0 : Vec F S2x512x256 .f32) (xs1 : Vec F S2x512x1 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay1 (stepAcc x5 x1 x3 (slab 0 xs1) (slab 0 xs0)) (stepAcc x5 x2 x4 (slab 1 xs1) (slab 1 xs0)) (x0 (ix1 0)) x6 := by
  unfold out0_C_7
  rw [View.read_writes_junk_eq_canon]
  unfold kernelRun0_C
  dsimp only
  sl_unfold_words
  have r4 : View.readAt (Elt F) arg4.view (Rect.unit ![0, 0, 0] S1x512x64.size inb_S1x512x64_S1x512x64_0_0_0).toLoadRect (harg4.unread x1) = x1 := by
    rw [View.readAt_eq_ld, harg4.read_unread]; exact View.ld_unit_zero (S := S1x512x64) hz3 _ _
  have r5 : View.readAt (Elt F) arg5.view (Rect.unit ![0, 0, 0] S1x512x64.size inb_S1x512x64_S1x512x64_0_0_0).toLoadRect (harg5.unread x2) = x2 := by
    rw [View.readAt_eq_ld, harg5.read_unread]; exact View.ld_unit_zero (S := S1x512x64) hz3 _ _
  have r6 : View.readAt (Elt F) arg6.view (Rect.unit ![0, 0, 0] S1x1024x64.size inb_S1x1024x64_S1x1024x64_0_0_0).toLoadRect (harg6.unread x3) = x3 := by
    rw [View.readAt_eq_ld, harg6.read_unread]; exact View.ld_unit_zero (S := S1x1024x64) hz3 _ _
  have r7 : View.readAt (Elt F) arg7.view (Rect.unit ![0, 0, 0] S1x1024x64.size inb_S1x1024x64_S1x1024x64_0_0_0).toLoadRect (harg7.unread x4) = x4 := by
    rw [View.readAt_eq_ld, harg7.read_unread]; exact View.ld_unit_zero (S := S1x1024x64) hz3 _ _
  have r8 : View.readAt (Elt F) arg8.view (Rect.unit ![0, 0, 0] S1x1024x256.size inb_S1x1024x256_S1x1024x256_0_0_0).toLoadRect (harg8.unread x5) = x5 := by
    rw [View.readAt_eq_ld, harg8.read_unread]; exact View.ld_unit_zero (S := S1x1024x256) hz3 _ _
  have s11_0 : View.readAt (Elt F) arg11.view (Rect.unit (s := S2x512x256) ![0, 0, 0] S1x512x256.size inb_S2x512x256_S1x512x256_0_0_0).toLoadRect (harg11.unread xs0) = slab 0 xs0 := by
    rw [View.readAt_eq_ld, harg11.read_unread]; exact ld_slab_zero (F := F) xs0 _
  have s12_0 : View.readAt (Elt F) arg12.view (Rect.unit (s := S2x512x1) ![0, 0, 0] S1x512x1.size inb_S2x512x1_S1x512x1_0_0_0).toLoadRect (harg12.unread xs1) = slab 0 xs1 := by
    rw [View.readAt_eq_ld, harg12.read_unread]; exact ld_slab_zero (F := F) xs1 _
  have s11_1 : View.readAt (Elt F) arg11.view (Rect.unit (s := S2x512x256) ![1, 0, 0] S1x512x256.size inb_S2x512x256_S1x512x256_1_0_0).toLoadRect (harg11.unread xs0) = slab 1 xs0 := by
    rw [View.readAt_eq_ld, harg11.read_unread]; exact ld_slab_one (F := F) xs0 _
  have s12_1 : View.readAt (Elt F) arg12.view (Rect.unit (s := S2x512x1) ![1, 0, 0] S1x512x1.size inb_S2x512x1_S1x512x1_1_0_0).toLoadRect (harg12.unread xs1) = slab 1 xs1 := by
    rw [View.readAt_eq_ld, harg12.read_unread]; exact ld_slab_one (F := F) xs1 _
  have r9 : View.readAt (Elt F) arg9.view (Rect.unit ![0, 0] S1x128.size inb_S1x128_S1x128_0_0).toLoadRect (harg9.unread x6) = x6 := by
    rw [View.readAt_eq_ld, harg9.read_unread]; exact View.ld_unit_zero (S := S1x128) hz2 _ _
  refine (View.canon_unit_zero (S := S512x128) hz2 _ _).trans ?_
  rw [readCov_zero, View.readCov_cons_toLoadRect]
  simp only [r4, r5, r6, r7, r8, r9, s11_0, s11_1, s12_0, s12_1, pay13_eq, pay8_eq]
  rw [View.readAt_eq_ld, harg3.read_unread]
  exact congrArg (fun z => k0_pay1 _ _ (x0 z) x6) ((eq_ix1 _).trans (congrArg ix1 (Subsingleton.elim (α := Fin 1) _ _)))

end Cert.KernelIdeal.Step

end
-- ==== Proof.Online.lean ====
/- The arithmetic of a softmax computed block by block, over the extended reals: a running sum of `2 ^ (s - μ) * v` rescaled
   whenever its shift `μ` moves, the quotient of two such sums, and the plain softmax they are compared with. -/
module

public import Idealize.ShloMosaic.PureOps.Ideal

@[expose] public section

noncomputable section

namespace Cert.Online

open Idealize.ShloMosaic

/-- A finite sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `exp2` of a real is a power of two. -/
theorem exp2_real (x : ℝ) : Ideal.exp2 (x : EReal) = (((2 : ℝ) ^ x : ℝ) : EReal) := rfl

/-- A quotient of reals with a divisor other than zero is the quotient in the extended reals. -/
theorem div_real (x y : ℝ) (h : y ≠ 0) : Ideal.div (x : EReal) (y : EReal) = ((x / y : ℝ) : EReal) := by
  rw [Ideal.div_coe h, ← EReal.coe_mul, mul_one_div]

/-- The running maximum of reals, begun at `-∞`, is a real once one real has entered. -/
theorem max_real {m : EReal} (hm : m = ⊥ ∨ ∃ μ : ℝ, m = μ) (b : ℝ) : ∃ μ : ℝ, max m (b : EReal) = μ := by
  rcases hm with rfl | ⟨μ, rfl⟩
  · exact ⟨b, by simp⟩
  · exact ⟨max μ b, (EReal.coe_strictMono.monotone.map_max).symm⟩

/-- What a row's running maximum `m` and one running sum `a` hold once terms adding up to `B` (each `2 ^ s * v`) went in:
    either nothing went in yet, or the maximum is a real `μ` and the sum is `2 ^ (-μ) * B`. -/
def Holds (m a : EReal) (B : ℝ) : Prop :=
  (m = ⊥ ∧ a = 0 ∧ B = 0) ∨ ∃ μ : ℝ, m = μ ∧ a = (((2 : ℝ) ^ (-μ) * B : ℝ) : EReal)

/-- The state at the start. -/
theorem holds_start : Holds ⊥ 0 0 := .inl ⟨rfl, rfl, rfl⟩

/-- What the running maximum of such a state can be. -/
theorem Holds.bot_or_real {m a : EReal} {B : ℝ} (h : Holds m a B) : m = ⊥ ∨ ∃ μ : ℝ, m = μ := by
  rcases h with ⟨h, _, _⟩ | ⟨μ, h, _⟩
  exacts [.inl h, .inr ⟨μ, h⟩]

/-- ONE STEP: the sum is rescaled from the old shift to the new one and the block's terms are added. -/
theorem Holds.step {m a : EReal} {B : ℝ} (h : Holds m a B) {n : ℕ} (s v : Fin n → ℝ) (μ : ℝ) :
    Holds μ (a * Ideal.exp2 (m - μ) + ∑ k, Ideal.exp2 ((s k : EReal) - μ) * (v k : EReal))
      (B + ∑ k, (2 : ℝ) ^ s k * v k) := by
  have two : (0 : ℝ) < 2 := by norm_num
  have hs : ∑ k, Ideal.exp2 ((s k : EReal) - μ) * (v k : EReal) = (((2 : ℝ) ^ (-μ) * ∑ k, (2 : ℝ) ^ s k * v k : ℝ) : EReal) := by
    rw [Finset.mul_sum, coe_sum]
    refine Finset.sum_congr rfl fun k _ => ?_
    rw [← EReal.coe_sub, exp2_real, ← EReal.coe_mul, sub_eq_add_neg, Real.rpow_add two]
    congr 1
    ring
  refine .inr ⟨μ, rfl, ?_⟩
  rw [hs]
  rcases h with ⟨rfl, rfl, rfl⟩ | ⟨ν, rfl, rfl⟩
  · rw [EReal.bot_sub, Ideal.exp2_bot, mul_zero, zero_add, zero_add]
  · rw [← EReal.coe_sub, exp2_real, ← EReal.coe_mul, ← EReal.coe_add]
    congr 1
    have e : (2 : ℝ) ^ (-ν) * (2 : ℝ) ^ (ν - μ) = (2 : ℝ) ^ (-μ) := by
      rw [← Real.rpow_add two]
      congr 1
      ring
    calc (2 : ℝ) ^ (-ν) * B * (2 : ℝ) ^ (ν - μ) + (2 : ℝ) ^ (-μ) * ∑ k, (2 : ℝ) ^ s k * v k
        = ((2 : ℝ) ^ (-ν) * (2 : ℝ) ^ (ν - μ)) * B + (2 : ℝ) ^ (-μ) * ∑ k, (2 : ℝ) ^ s k * v k := by ring
      _ = _ := by rw [e]; ring

/-- THE QUOTIENT of two running sums under one running maximum forgets the shift. -/
theorem Holds.quotient {m a b : EReal} {A B : ℝ} (ha : Holds m a A) (hb : Holds m b B) (hB : 0 < B) :
    Ideal.div a b = ((A / B : ℝ) : EReal) := by
  rcases hb with ⟨_, _, rfl⟩ | ⟨ν, hm, rfl⟩
  · exact absurd hB (lt_irrefl 0)
  rcases ha with ⟨h, _, _⟩ | ⟨μ, hm', rfl⟩
  · rw [hm] at h
    exact absurd h (EReal.coe_ne_bot ν)
  obtain rfl : ν = μ := EReal.coe_injective (hm.symm.trans hm')
  have hp : (0 : ℝ) < (2 : ℝ) ^ (-ν) := Real.rpow_pos_of_pos (by norm_num) _
  rw [div_real _ _ (mul_pos hp hB).ne', mul_div_mul_left _ _ hp.ne']

/-- A power of two of a score divided by `log 2` is the exponential of the score. -/
theorem two_rpow_div_log (t : ℝ) : (2 : ℝ) ^ (t / Real.log 2) = Real.exp t := by
  have h : Real.log 2 ≠ 0 := (Real.log_pos (by norm_num)).ne'
  rw [Real.rpow_def_of_pos (by norm_num)]
  congr 1
  field_simp

/-- A softmax weight, computed with the scores shifted by `T`, is the plain quotient of exponentials. -/
theorem softmax_weight {ι : Type} [Fintype ι] [Nonempty ι] (t : ι → ℝ) (T : ℝ) (k : ι) :
    Ideal.div (Ideal.exp ((t k : EReal) - T)) (0 + ∑ j, Ideal.exp ((t j : EReal) - T))
      = ((Real.exp (t k) / ∑ j, Real.exp (t j) : ℝ) : EReal) := by
  have e : ∀ j, Ideal.exp ((t j : EReal) - T) = ((Real.exp (-T) * Real.exp (t j) : ℝ) : EReal) := fun j => by
    rw [← EReal.coe_sub, Ideal.exp_coe, sub_eq_add_neg, Real.exp_add, mul_comm]
  have hp : 0 < ∑ j, Real.exp (t j) := Finset.sum_pos (fun j _ => Real.exp_pos _) Finset.univ_nonempty
  simp only [e]
  rw [zero_add, ← coe_sum, ← Finset.mul_sum, div_real _ _ (mul_pos (Real.exp_pos _) hp).ne',
    mul_div_mul_left _ _ (Real.exp_pos _).ne']

/-- The difference of two softmaxes applied to values is the difference of two quotients. -/
theorem two_softmaxes {ι : Type} [Fintype ι] (e₁ e₂ v : ι → ℝ) (D₁ D₂ lam : ℝ) :
    ∑ k, (((e₁ k / D₁ : ℝ) : EReal) - (lam : EReal) * ((e₂ k / D₂ : ℝ) : EReal)) * (v k : EReal)
      = (((∑ k, e₁ k * v k) / D₁ - lam * ((∑ k, e₂ k * v k) / D₂) : ℝ) : EReal) := by
  have h : ∀ k, (((e₁ k / D₁ : ℝ) : EReal) - (lam : EReal) * ((e₂ k / D₂ : ℝ) : EReal)) * (v k : EReal)
      = ((e₁ k * v k / D₁ - lam * (e₂ k * v k / D₂) : ℝ) : EReal) := fun k => by
    rw [← EReal.coe_mul, ← EReal.coe_sub, ← EReal.coe_mul]
    congr 1
    ring
  simp only [h]
  rw [← coe_sum, Finset.sum_sub_distrib, ← Finset.mul_sum, ← Finset.sum_div, ← Finset.sum_div]

/-- An extended real whose absolute value is below `+∞` is a real. -/
theorem real_of_abs_lt_top {x : EReal} (h : max x (-x) < ⊤) : ∃ r : ℝ, x = r := by
  induction x with
  | bot => simp at h
  | top => simp at h
  | coe r => exact ⟨r, rfl⟩

end Cert.Online

end
-- ==== Proof.PayValue.lean ====
/- One step of the online softmax, and the closing quotient and norm, read at an index over the extended reals. -/
module

public import proofs.«01_k».proof.Proof.Step
public import proofs.«01_k».proof.Proof.Online
public import Idealize.ShloMosaic.Lib.IdealHost
public import Idealize.ShloMosaic.Lib.Pointwise

@[expose] public section

noncomputable section

namespace Cert.KernelIdeal.Step

open Idealize.ShloMosaic Idealize.SL.Sem
open Cert.KernelIdeal Cert.KernelIdeal.Gen

/-- The score of a row of the query block against a row of the key block. -/
def score (q : Vec Ideal S1x512x64 .bf16) (k : Vec Ideal S1x1024x64 .bf16) (r : Fin 512) (j : Fin 1024) : EReal :=
  ∑ d : Fin 64, q (ix3 0 r d) * k (ix3 0 j d)

/-- The pattern of `-∞`. -/
theorem ofBits_bot : Ideal.ofBits .f32 0xFF800000#32 = ⊥ := by simp [Ideal.ofBits, Ideal.ieee]

/-- The largest of finitely many reals, at least one, is a real. -/
theorem fold_max_real {n : ℕ} (s : Fin (n + 1) → ℝ) :
    ∃ μ : ℝ, (Finset.univ : Finset (Fin (n + 1))).fold max (⊥ : EReal) (fun j => (s j : EReal)) = μ := by
  classical
  have key : ∀ t : Finset (Fin (n + 1)), t.fold max (⊥ : EReal) (fun j => (s j : EReal)) = ⊥ ∧ t = ∅
      ∨ ∃ μ : ℝ, t.fold max (⊥ : EReal) (fun j => (s j : EReal)) = μ := by
    intro t
    induction t using Finset.induction_on with
    | empty => exact .inl ⟨by simp, rfl⟩
    | insert a t ha ih =>
      refine .inr ?_
      rw [Finset.fold_insert ha, max_comm]
      exact Cert.Online.max_real (ih.imp (fun h => h.1) id) (s a)
  rcases key Finset.univ with ⟨_, h⟩ | h
  · exact absurd h (Finset.univ_nonempty.ne_empty)
  · exact h

/-- The scores product, at an index. -/
theorem pay5_apply (q : Vec Ideal S1x512x64 .bf16) (k : Vec Ideal S1x1024x64 .bf16) (r : Fin 512) (j : Fin 1024) :
    k0_pay5 (F := Ideal) q k (ix2 r j) = score q k r j := by
  unfold k0_pay5
  pointwise
  rfl

/-- The new running maximum of a row. -/
theorem pay7_apply (q : Vec Ideal S1x512x64 .bf16) (k : Vec Ideal S1x1024x64 .bf16) (mx : Vec Ideal S1x512x1 .f32) (r : Fin 512) :
    k0_pay7 (F := Ideal) q k mx (ix2 r 0)
      = max (mx (ix3 0 r 0)) ((Finset.univ : Finset (Fin 1024)).fold max ⊥ (fun j => score q k r j)) := by
  unfold k0_pay7 k0_pay6
  pointwise
  simp only [pay5_apply, ofBits_bot]

/-- The new running maximum of a row, as the scratch buffer holds it. -/
theorem stepMax_apply (q : Vec Ideal S1x512x64 .bf16) (k : Vec Ideal S1x1024x64 .bf16) (mx : Vec Ideal S1x512x1 .f32) (r : Fin 512) :
    stepMax (F := Ideal) q k mx (ix3 0 r 0) = k0_pay7 (F := Ideal) q k mx (ix2 r 0) := by
  unfold stepMax k0_pay9
  pointwise

/-- The new running sum of a row and a column. -/
theorem stepAcc_apply (v : Vec Ideal S1x1024x256 .bf16) (q : Vec Ideal S1x512x64 .bf16) (k : Vec Ideal S1x1024x64 .bf16) (mx : Vec Ideal S1x512x1 .f32)
    (acc : Vec Ideal S1x512x256 .f32) (r : Fin 512) (col : Fin 256) :
    stepAcc (F := Ideal) v q k mx acc (ix3 0 r col)
      = acc (ix3 0 r col) * Ideal.exp2 (mx (ix3 0 r 0) - k0_pay7 (F := Ideal) q k mx (ix2 r 0))
        + ∑ j : Fin 1024, Ideal.exp2 (score q k r j - k0_pay7 (F := Ideal) q k mx (ix2 r 0)) * v (ix3 0 j col) := by
  unfold stepAcc k0_pay8 k0_pay6 k0_pay4
  pointwise
  simp only [pay5_apply]
  rfl

/-- One step keeps the running maximum and the running sum what they should be, when the block's scores and values are reals. -/
theorem step_holds {v : Vec Ideal S1x1024x256 .bf16} {q : Vec Ideal S1x512x64 .bf16} {k : Vec Ideal S1x1024x64 .bf16} {mx : Vec Ideal S1x512x1 .f32}
    {acc : Vec Ideal S1x512x256 .f32} {r : Fin 512} {col : Fin 256} {B : ℝ} (s w : Fin 1024 → ℝ)
    (hs : ∀ j, score q k r j = (s j : EReal)) (hw : ∀ j, v (ix3 0 j col) = (w j : EReal))
    (h : Cert.Online.Holds (mx (ix3 0 r 0)) (acc (ix3 0 r col)) B) :
    Cert.Online.Holds (stepMax (F := Ideal) q k mx (ix3 0 r 0)) (stepAcc (F := Ideal) v q k mx acc (ix3 0 r col)) (B + ∑ j, (2 : ℝ) ^ s j * w j) := by
  obtain ⟨b, hb⟩ := fold_max_real s
  obtain ⟨μ, hμ⟩ := Cert.Online.max_real h.bot_or_real b
  have h7 : k0_pay7 (F := Ideal) q k mx (ix2 r 0) = (μ : EReal) := by
    rw [pay7_apply, ← hμ, ← hb]
    simp only [hs]
  rw [stepMax_apply, stepAcc_apply, h7]
  simp only [hs, hw]
  exact h.step s w μ

/-- A column of the result as a column of the running sums. -/
def wide (col : Fin 128) : Fin 256 := ⟨col.val, by omega⟩

/-- The closing quotient, difference and norm of a row, at a column, from the row's two quotients `o₁` and `o₂`. -/
def closing (o₁ o₂ : Fin 128 → EReal) (lam : EReal) (g : EReal) (col : Fin 128) : EReal :=
  (o₁ col - lam * o₂ col)
    * Ideal.rsqrt (Ideal.div (∑ x, (o₁ x - lam * o₂ x) * (o₁ x - lam * o₂ x)) (Ideal.ofBits .f32 0x43000000#32) + Ideal.ofBits .f32 897988541#32)
    * g * Ideal.ofBits .f32 1061997773#32

/-- The output block of a point that closes a row block, at an index. -/
theorem pay1_apply (a₁ a₂ : Vec Ideal S1x512x256 .f32) (lam : EReal) (g : Vec Ideal S1x128 .f32) (r : Fin 512) (col : Fin 128) :
    k0_pay1 (F := Ideal) a₁ a₂ lam g (ix2 r col)
      = closing (fun x => Ideal.div (a₁ (ix3 0 r (wide x))) (a₁ (ix3 0 r 128))) (fun x => Ideal.div (a₂ (ix3 0 r (wide x))) (a₂ (ix3 0 r 128)))
          lam (g (ix2 0 col)) col := by
  unfold k0_pay1
  pointwise
  rfl

/-- The running sums begin at zero. -/
theorem pay2_apply (n : Fin 2) (r : Fin 512) (col : Fin 256) : slab n (k0_pay2 (F := Ideal)) (ix3 0 r col) = 0 := by
  show k0_pay2 (F := Ideal) (ix3 n r col) = 0
  unfold k0_pay2
  pointwise
  try simp

/-- The running maxima begin at `-∞`. -/
theorem pay3_apply (n : Fin 2) (r : Fin 512) : slab n (k0_pay3 (F := Ideal)) (ix3 0 r 0) = ⊥ := by
  show k0_pay3 (F := Ideal) (ix3 n r 0) = ⊥
  unfold k0_pay3
  pointwise
  try exact ofBits_bot

end Cert.KernelIdeal.Step

end
-- ==== Proof.HostValue.lean ====
/- The kernel's prepared arguments, read at an index as values of the attention's own arguments. -/
module

public import proofs.«01_k».proof.Proof.Gen.KernelIdeal.Frame
public import Idealize.ShloMosaic.Lib.IdealHost
public import Idealize.ShloMosaic.Lib.Pointwise
public import Idealize.ShloMosaic.Lib.StableHlo.ReadAt

@[expose] public section

noncomputable section

namespace Cert.KernelIdeal.HostValue

open Idealize.ShloMosaic Idealize.SL.Sem
open Cert.KernelIdeal Cert.KernelIdeal.Gen

variable (m : (ℓ : Loc nD τ sig) → Buf (Elt Ideal) ℓ) (c : Dev nD)

/-- The two parameters' difference of exponentials that weighs the second softmax. -/
def lamOf (q₁ k₁ q₂ k₂ : Fin 64 → EReal) : EReal :=
  Ideal.exp (∑ x, q₁ x * k₁ x) - Ideal.exp (∑ x, q₂ x * k₂ x) + Ideal.ofBits .f32 1045220557#32

/-- The factor the queries are scaled by: `0.125 / log 2`. -/
def qScale : EReal := Ideal.div (Ideal.ofBits .f32 1040187392#32) (Ideal.log (Ideal.ofBits .f32 1073741824#32))

/-- The arguments, as arrays of extended reals. -/
abbrev argQ : S1x8192x8x2x64.Idx → EReal := m (c.tc.loc main_arg0)
/-- The argument in buffer `main_arg1`. -/
abbrev argK : S1x8192x8x2x64.Idx → EReal := m (c.tc.loc main_arg1)
/-- The argument in buffer `main_arg2`. -/
abbrev argV : S1x8192x8x128.Idx → EReal := m (c.tc.loc main_arg2)
/-- The argument in buffer `main_arg3`. -/
abbrev arg3 : S64.Idx → EReal := m (c.tc.loc main_arg3)
/-- The argument in buffer `main_arg4`. -/
abbrev arg4 : S64.Idx → EReal := m (c.tc.loc main_arg4)
/-- The argument in buffer `main_arg5`. -/
abbrev arg5 : S64.Idx → EReal := m (c.tc.loc main_arg5)
/-- The argument in buffer `main_arg6`. -/
abbrev arg6 : S64.Idx → EReal := m (c.tc.loc main_arg6)
/-- The argument in buffer `main_arg7`. -/
abbrev argG : S128.Idx → EReal := m (c.tc.loc main_arg7)

/-- The prepared queries: head `h`, component `n` lie in plane `2 h + n`, scaled. -/
theorem V_q (h : Fin 8) (n : Fin 2) (s : Fin 8192) (d : Fin 64) (e : Fin 16) (he : e.val = 2 * h.val + n.val) :
    V m c main_v14 (ix3 e s d) = argQ m c (ix5 0 s h n d) * qScale := by
  have hh : (⟨e.val / 2, by omega⟩ : Fin 8) = h := Fin.ext (by show e.val / 2 = h.val; omega)
  have hn : (⟨e.val % 2, by omega⟩ : Fin 2) = n := Fin.ext (by show e.val % 2 = n.val; omega)
  have key : V m c main_v14 (ix3 e s d) = argQ m c (ix5 0 s ⟨e.val / 2, by omega⟩ ⟨e.val % 2, by omega⟩ d) * qScale := by
    unfold V
    after_reads_at
    try rfl
  rw [hh, hn] at key
  exact key

/-- The prepared keys: head `h`, component `n` lie in plane `2 h + n`. -/
theorem V_k (h : Fin 8) (n : Fin 2) (s : Fin 8192) (d : Fin 64) (e : Fin 16) (he : e.val = 2 * h.val + n.val) :
    V m c main_v17 (ix3 e s d) = argK m c (ix5 0 s h n d) := by
  have hh : (⟨e.val / 2, by omega⟩ : Fin 8) = h := Fin.ext (by show e.val / 2 = h.val; omega)
  have hn : (⟨e.val % 2, by omega⟩ : Fin 2) = n := Fin.ext (by show e.val % 2 = n.val; omega)
  have key : V m c main_v17 (ix3 e s d) = argK m c (ix5 0 s ⟨e.val / 2, by omega⟩ ⟨e.val % 2, by omega⟩ d) := by
    unfold V
    after_reads_at
    try rfl
  rw [hh, hn] at key
  exact key

/-- The prepared values: a head's 128 columns of values, then 128 columns of ones. -/
theorem V_v (h : Fin 8) (s : Fin 8192) (d : Fin 256) :
    V m c main_v22 (ix3 h s d) = if hd : d.val < 128 then argV m c (ix4 0 s h ⟨d.val, hd⟩) else 1 := by
  unfold V
  after_reads_at
  try rfl

/-- The weight of the second softmax. -/
theorem V_lam :
    V m c main_v23 (ix1 0) = lamOf (fun x => arg3 m c (ix1 x)) (fun x => arg4 m c (ix1 x)) (fun x => arg5 m c (ix1 x)) (fun x => arg6 m c (ix1 x)) := by
  unfold V
  after_reads_at
  rfl

/-- The norm's gain. -/
theorem V_g (col : Fin 128) : V m c main_v24 (ix2 0 col) = argG m c (ix1 col) := by
  unfold V
  after_reads_at
  try rfl

end Cert.KernelIdeal.HostValue

end
-- ==== Proof.Blocks.lean ====
/- The blocks a grid point reads, at an index. Point `t` treats head `t / 128`, query block `t / 8 % 16` and key block `t % 8`. -/
module

public import proofs.«01_k».proof.Proof.HostValue

@[expose] public section

noncomputable section

namespace Cert.KernelIdeal.Blocks

open Idealize.ShloMosaic Idealize.SL.Sem
open Cert.KernelIdeal Cert.KernelIdeal.Gen

/-- The printed index maps, decided over the grid. -/
theorem idx1 : ∀ t : Fin cfg0.N, win0_1.index t (0 : Fin 3) = 2 * (t.val / 128) ∧ win0_1.index t (1 : Fin 3) = t.val / 8 % 16 ∧ win0_1.index t (2 : Fin 3) = 0 := by decide +kernel
/-- Which block of operand 2 a grid step holds. -/
theorem idx2 : ∀ t : Fin cfg0.N, win0_2.index t (0 : Fin 3) = 2 * (t.val / 128) + 1 ∧ win0_2.index t (1 : Fin 3) = t.val / 8 % 16 ∧ win0_2.index t (2 : Fin 3) = 0 := by decide +kernel
/-- Which block of operand 3 a grid step holds. -/
theorem idx3 : ∀ t : Fin cfg0.N, win0_3.index t (0 : Fin 3) = 2 * (t.val / 128) ∧ win0_3.index t (1 : Fin 3) = t.val % 8 ∧ win0_3.index t (2 : Fin 3) = 0 := by decide +kernel
/-- Which block of operand 4 a grid step holds. -/
theorem idx4 : ∀ t : Fin cfg0.N, win0_4.index t (0 : Fin 3) = 2 * (t.val / 128) + 1 ∧ win0_4.index t (1 : Fin 3) = t.val % 8 ∧ win0_4.index t (2 : Fin 3) = 0 := by decide +kernel
/-- Which block of operand 5 a grid step holds. -/
theorem idx5 : ∀ t : Fin cfg0.N, win0_5.index t (0 : Fin 3) = t.val / 128 ∧ win0_5.index t (1 : Fin 3) = t.val % 8 ∧ win0_5.index t (2 : Fin 3) = 0 := by decide +kernel
/-- Which block of operand 6 a grid step holds. -/
theorem idx6 : ∀ t : Fin cfg0.N, win0_6.index t (0 : Fin 2) = 0 ∧ win0_6.index t (1 : Fin 2) = 0 := by decide +kernel
/-- Which block of operand 0 a grid step holds. -/
theorem idx0 : ∀ t : Fin cfg0.N, win0_0.index t (0 : Fin 1) = 0 := by decide +kernel

variable (m : (ℓ : Loc nD τ sig) → Buf (Elt Ideal) ℓ) (c : Dev nD)

/-- Query block, component 0: rows `512 i + r` of plane `e`. -/
theorem blk1 (t : Fin cfg0.N) (r : Fin 512) (d : Fin 64) (e : Fin 16) (s : Fin 8192) (he : e.val = 2 * (t.val / 128)) (hs : s.val = 512 * (t.val / 8 % 16) + r.val) :
    iblk m c 1 t (ix3 0 r d) = V m c main_v14 (ix3 e s d) := by
  obtain ⟨h0, h1, h2⟩ := idx1 t
  unfold iblk
  rw [View.read_apply]
  show V m c main_v14 _ = _
  congr 1
  funext a
  refine Fin.ext ?_
  match a with
  | ⟨0, _⟩ => show win0_1.index t (0 : Fin 3) * 1 + 1 * 0 = e.val; omega
  | ⟨1, _⟩ => show win0_1.index t (1 : Fin 3) * 512 + 1 * r.val = s.val; omega
  | ⟨2, _⟩ => show win0_1.index t (2 : Fin 3) * 64 + 1 * d.val = d.val; omega

/-- Query block, component 1. -/
theorem blk2 (t : Fin cfg0.N) (r : Fin 512) (d : Fin 64) (e : Fin 16) (s : Fin 8192) (he : e.val = 2 * (t.val / 128) + 1) (hs : s.val = 512 * (t.val / 8 % 16) + r.val) :
    iblk m c 2 t (ix3 0 r d) = V m c main_v14 (ix3 e s d) := by
  obtain ⟨h0, h1, h2⟩ := idx2 t
  unfold iblk
  rw [View.read_apply]
  show V m c main_v14 _ = _
  congr 1
  funext a
  refine Fin.ext ?_
  match a with
  | ⟨0, _⟩ => show win0_2.index t (0 : Fin 3) * 1 + 1 * 0 = e.val; omega
  | ⟨1, _⟩ => show win0_2.index t (1 : Fin 3) * 512 + 1 * r.val = s.val; omega
  | ⟨2, _⟩ => show win0_2.index t (2 : Fin 3) * 64 + 1 * d.val = d.val; omega

/-- Key block, component 0: rows `1024 j + r` of plane `e`. -/
theorem blk3 (t : Fin cfg0.N) (r : Fin 1024) (d : Fin 64) (e : Fin 16) (s : Fin 8192) (he : e.val = 2 * (t.val / 128)) (hs : s.val = 1024 * (t.val % 8) + r.val) :
    iblk m c 3 t (ix3 0 r d) = V m c main_v17 (ix3 e s d) := by
  obtain ⟨h0, h1, h2⟩ := idx3 t
  unfold iblk
  rw [View.read_apply]
  show V m c main_v17 _ = _
  congr 1
  funext a
  refine Fin.ext ?_
  match a with
  | ⟨0, _⟩ => show win0_3.index t (0 : Fin 3) * 1 + 1 * 0 = e.val; omega
  | ⟨1, _⟩ => show win0_3.index t (1 : Fin 3) * 1024 + 1 * r.val = s.val; omega
  | ⟨2, _⟩ => show win0_3.index t (2 : Fin 3) * 64 + 1 * d.val = d.val; omega

/-- Key block, component 1. -/
theorem blk4 (t : Fin cfg0.N) (r : Fin 1024) (d : Fin 64) (e : Fin 16) (s : Fin 8192) (he : e.val = 2 * (t.val / 128) + 1) (hs : s.val = 1024 * (t.val % 8) + r.val) :
    iblk m c 4 t (ix3 0 r d) = V m c main_v17 (ix3 e s d) := by
  obtain ⟨h0, h1, h2⟩ := idx4 t
  unfold iblk
  rw [View.read_apply]
  show V m c main_v17 _ = _
  congr 1
  funext a
  refine Fin.ext ?_
  match a with
  | ⟨0, _⟩ => show win0_4.index t (0 : Fin 3) * 1 + 1 * 0 = e.val; omega
  | ⟨1, _⟩ => show win0_4.index t (1 : Fin 3) * 1024 + 1 * r.val = s.val; omega
  | ⟨2, _⟩ => show win0_4.index t (2 : Fin 3) * 64 + 1 * d.val = d.val; omega

/-- Value block: rows `1024 j + r` of head `h`. -/
theorem blk5 (t : Fin cfg0.N) (r : Fin 1024) (d : Fin 256) (h : Fin 8) (s : Fin 8192) (he : h.val = t.val / 128) (hs : s.val = 1024 * (t.val % 8) + r.val) :
    iblk m c 5 t (ix3 0 r d) = V m c main_v22 (ix3 h s d) := by
  obtain ⟨h0, h1, h2⟩ := idx5 t
  unfold iblk
  rw [View.read_apply]
  show V m c main_v22 _ = _
  congr 1
  funext a
  refine Fin.ext ?_
  match a with
  | ⟨0, _⟩ => show win0_5.index t (0 : Fin 3) * 1 + 1 * 0 = h.val; omega
  | ⟨1, _⟩ => show win0_5.index t (1 : Fin 3) * 1024 + 1 * r.val = s.val; omega
  | ⟨2, _⟩ => show win0_5.index t (2 : Fin 3) * 256 + 1 * d.val = d.val; omega

/-- The norm's gain, whole at every point. -/
theorem blk6 (t : Fin cfg0.N) (d : Fin 128) : iblk m c 6 t (ix2 0 d) = V m c main_v24 (ix2 0 d) := by
  obtain ⟨h0, h1⟩ := idx6 t
  unfold iblk
  rw [View.read_apply]
  show V m c main_v24 _ = _
  congr 1
  funext a
  refine Fin.ext ?_
  match a with
  | ⟨0, _⟩ => show win0_6.index t (0 : Fin 2) * 1 + 1 * 0 = 0; omega
  | ⟨1, _⟩ => show win0_6.index t (1 : Fin 2) * 128 + 1 * d.val = d.val; omega

/-- The weight of the second softmax, whole at every point. -/
theorem blk0 (t : Fin cfg0.N) : iblk m c 0 t (ix1 0) = V m c main_v23 (ix1 0) := by
  have h0 := idx0 t
  unfold iblk
  rw [View.read_apply]
  show V m c main_v23 _ = _
  congr 1
  funext a
  refine Fin.ext ?_
  match a with
  | ⟨0, _⟩ => show win0_0.index t (0 : Fin 1) * 1 + 1 * 0 = 0; omega

end Cert.KernelIdeal.Blocks

end
-- ==== Proof.Fold.lean ====
/- The kernel's result, entry by entry: over a run of eight points that share a head and a query block, the scratch buffers gather
   the sums over all 8192 positions, and the run's last point writes the closing quotient and norm. -/
module

public import proofs.«01_k».proof.Proof.PayValue
public import proofs.«01_k».proof.Proof.Blocks
public import proofs.«01_k».proof.Proof.Gen.KernelIdeal.Value

@[expose] public section

noncomputable section

namespace Cert.KernelIdeal.Fold

open Idealize.ShloMosaic Idealize.SL.Sem
open Cert.KernelIdeal Cert.KernelIdeal.Gen Cert.KernelIdeal.Step Cert.KernelIdeal.HostValue Cert.KernelIdeal.Blocks

variable (m : (ℓ : Loc nD τ sig) → Buf (Elt Ideal) ℓ) (c : Dev nD)

/-- What the scratch buffers hold after point `t` is one step over what they held before it, or over the fresh start when the
    point begins a run. -/
theorem step_at (t : Fin cfg0.N) :
    ∃ (A : Vec Ideal S2x512x256 .f32) (M : Vec Ideal S2x512x1 .f32),
      (outsAt0 m c t.val t.isLt).2.1 = both (stepAcc (iblk m c 5 t) (iblk m c 1 t) (iblk m c 3 t) (slab 0 M) (slab 0 A)) (stepAcc (iblk m c 5 t) (iblk m c 2 t) (iblk m c 4 t) (slab 1 M) (slab 1 A))
      ∧ (outsAt0 m c t.val t.isLt).2.2 = both (stepMax (iblk m c 1 t) (iblk m c 3 t) (slab 0 M)) (stepMax (iblk m c 2 t) (iblk m c 4 t) (slab 1 M))
      ∧ (t.val % 8 = 0 → A = k0_pay2 (F := Ideal) ∧ M = k0_pay3 (F := Ideal))
      ∧ (¬t.val % 8 = 0 → A = (outsAt0 m c (t.val - 1) (Nat.lt_of_le_of_lt (Nat.sub_le _ _) t.isLt)).2.1 ∧ M = (outsAt0 m c (t.val - 1) (Nat.lt_of_le_of_lt (Nat.sub_le _ _) t.isLt)).2.2) := by
  by_cases h0 : t.val % 8 = 0
  · have h1 : ¬t.val % 8 = 7 := by omega
    refine ⟨k0_pay2 (F := Ideal), k0_pay3 (F := Ideal), ?_, ?_, fun _ => ⟨rfl, rfl⟩, fun h => absurd h0 h⟩
    · rw [outsAt0_A m c t h0 h1]
      dsimp only
      rw [sout_A_0 (F := Ideal)]
    · rw [outsAt0_A m c t h0 h1]
      dsimp only
      rw [sout_A_1 (F := Ideal)]
  · refine ⟨(outsAt0 m c (t.val - 1) (Nat.lt_of_le_of_lt (Nat.sub_le _ _) t.isLt)).2.1, (outsAt0 m c (t.val - 1) (Nat.lt_of_le_of_lt (Nat.sub_le _ _) t.isLt)).2.2,
      ?_, ?_, fun h => absurd h h0, fun _ => ⟨rfl, rfl⟩⟩
    · by_cases h1 : t.val % 8 = 7
      · rw [outsAt0_C m c t h0 h1]
        dsimp only
        rw [sout_C_0 (F := Ideal)]
      · rw [outsAt0_B m c t h0 h1]
        dsimp only
        rw [sout_B_0 (F := Ideal)]
    · by_cases h1 : t.val % 8 = 7
      · rw [outsAt0_C m c t h0 h1]
        dsimp only
        rw [sout_C_1 (F := Ideal)]
      · rw [outsAt0_B m c t h0 h1]
        dsimp only
        rw [sout_B_1 (F := Ideal)]

/-- What a run's last point writes, from what the scratch buffer of the running sums holds after it. -/
theorem out_at (t : Fin cfg0.N) (h1 : t.val % 8 = 7) :
    (outsAt0 m c t.val t.isLt).1 = k0_pay1 (slab 0 (outsAt0 m c t.val t.isLt).2.1) (slab 1 (outsAt0 m c t.val t.isLt).2.1) (iblk m c 0 t (ix1 0)) (iblk m c 6 t) := by
  have h0 : ¬t.val % 8 = 0 := by omega
  rw [outsAt0_C m c t h0 h1]
  dsimp only
  rw [out_C (F := Ideal), sout_C_0 (F := Ideal), slab_both_zero, slab_both_one]

/-- The real arrays the arguments hold. -/
structure Reals where
  Q : S1x8192x8x2x64.Idx → ℝ
  K : S1x8192x8x2x64.Idx → ℝ
  W : S1x8192x8x128.Idx → ℝ
  hQ : ∀ i, argQ m c i = (Q i : EReal)
  hK : ∀ i, argK m c i = (K i : EReal)
  hW : ∀ i, argV m c i = (W i : EReal)

variable {m c}

/-- The factor of the queries, as a real. -/
theorem qScale_real : qScale = ((1 / 8 / Real.log 2 : ℝ) : EReal) := by
  have h8 : Ideal.ofBits .f32 1040187392#32 = ((1 / 8 : ℝ) : EReal) := by
    simp [Ideal.ofBits, Ideal.ieee, -EReal.coe_mul]; norm_num
  have h2 : Ideal.ofBits .f32 1073741824#32 = ((2 : ℝ) : EReal) := by
    simp [Ideal.ofBits, Ideal.ieee, -EReal.coe_mul]; try norm_num
  unfold qScale
  rw [h8, h2, Ideal.log_coe, if_neg (by norm_num), Cert.Online.div_real]
  exact (Real.log_pos (by norm_num)).ne'

/-- The scaled score of the reference, as a real. -/
def Reals.T (R : Reals m c) (h : Fin 8) (n : Fin 2) (s t : Fin 8192) : ℝ := ∑ d : Fin 64, (R.Q (ix5 0 s h n d) * (1 / 8)) * R.K (ix5 0 t h n d)

/-- The values with the columns of ones beside them. -/
def Reals.X (R : Reals m c) (h : Fin 8) (t : Fin 8192) (col : Fin 256) : ℝ := if hd : col.val < 128 then R.W (ix4 0 t h ⟨col.val, hd⟩) else 1

/-- The term that position `p` adds to the running sum of row `s`, column `col`. -/
def Reals.term (R : Reals m c) (n : Fin 2) (col : Fin 256) (h s p : ℕ) : ℝ :=
  if hh : h < 8 ∧ s < 8192 ∧ p < 8192 then Real.exp (R.T ⟨h, hh.1⟩ n ⟨s, hh.2.1⟩ ⟨p, hh.2.2⟩) * R.X ⟨h, hh.1⟩ ⟨p, hh.2.2⟩ col else 0

/-- A sum over one more block. -/
theorem sum_block (f : ℕ → ℝ) (j : ℕ) : ∑ p ∈ Finset.range (1024 * (j + 1)), f p = ∑ p ∈ Finset.range (1024 * j), f p + ∑ x : Fin 1024, f (1024 * j + x.val) := by
  rw [show 1024 * (j + 1) = 1024 * j + 1024 by omega, Finset.sum_range_add, Finset.sum_range (fun x => f (1024 * j + x))]

/-- The kernel's score in base two is the reference's score over `log 2`. -/
theorem score_real (R : Reals m c) (h : Fin 8) (n : Fin 2) (s t : Fin 8192) (q : Fin 64 → EReal) (k : Fin 64 → EReal)
    (hq : ∀ d, q d = argQ m c (ix5 0 s h n d) * qScale) (hk : ∀ d, k d = argK m c (ix5 0 t h n d)) :
    ∑ d, q d * k d = ((R.T h n s t / Real.log 2 : ℝ) : EReal) := by
  unfold Reals.T
  rw [Finset.sum_div, Cert.Online.coe_sum]
  refine Finset.sum_congr rfl fun d _ => ?_
  rw [hq, hk, R.hQ, R.hK, qScale_real, ← EReal.coe_mul, ← EReal.coe_mul]
  congr 1
  ring

/-- The values' block, as reals. -/
theorem value_real (R : Reals m c) (t : Fin cfg0.N) (x : Fin 1024) (col : Fin 256) (h : Fin 8) (p : Fin 8192) (hh : h.val = t.val / 128) (hp : p.val = 1024 * (t.val % 8) + x.val) :
    (iblk m c 5 t (ix3 0 x col) : EReal) = (R.X h p col : EReal) := by
  rw [blk5 m c t x col h p hh hp, V_v]
  unfold Reals.X
  split
  · exact R.hW _
  · rfl

/-- The scores' block of component 0, as reals. -/
theorem score0_real (R : Reals m c) (t : Fin cfg0.N) (r : Fin 512) (x : Fin 1024) (h : Fin 8) (s p : Fin 8192) (hh : h.val = t.val / 128)
    (hs : s.val = 512 * (t.val / 8 % 16) + r.val) (hp : p.val = 1024 * (t.val % 8) + x.val) :
    score (iblk m c 1 t) (iblk m c 3 t) r x = ((R.T h 0 s p / Real.log 2 : ℝ) : EReal) := by
  have e : (⟨2 * h.val, by omega⟩ : Fin 16).val = 2 * h.val + (0 : Fin 2).val := rfl
  have e' : (⟨2 * h.val, by omega⟩ : Fin 16).val = 2 * (t.val / 128) := by show 2 * h.val = _; omega
  exact score_real R h 0 s p _ _ (fun d => (blk1 m c t r d _ s e' hs).trans (V_q m c h 0 s d _ e)) (fun d => (blk3 m c t x d _ p e' hp).trans (V_k m c h 0 p d _ e))

/-- The scores' block of component 1, as reals. -/
theorem score1_real (R : Reals m c) (t : Fin cfg0.N) (r : Fin 512) (x : Fin 1024) (h : Fin 8) (s p : Fin 8192) (hh : h.val = t.val / 128)
    (hs : s.val = 512 * (t.val / 8 % 16) + r.val) (hp : p.val = 1024 * (t.val % 8) + x.val) :
    score (iblk m c 2 t) (iblk m c 4 t) r x = ((R.T h 1 s p / Real.log 2 : ℝ) : EReal) := by
  have e : (⟨2 * h.val + 1, by omega⟩ : Fin 16).val = 2 * h.val + (1 : Fin 2).val := rfl
  have e' : (⟨2 * h.val + 1, by omega⟩ : Fin 16).val = 2 * (t.val / 128) + 1 := by show 2 * h.val + 1 = _; omega
  exact score_real R h 1 s p _ _ (fun d => (blk2 m c t r d _ s e' hs).trans (V_q m c h 1 s d _ e)) (fun d => (blk4 m c t x d _ p e' hp).trans (V_k m c h 1 p d _ e))

/-- THE INVARIANT: after point `k` a row's running maximum and running sums stand for the sums over the positions seen in its run. -/
theorem holds_at (R : Reals m c) (n : Fin 2) (r : Fin 512) (col : Fin 256) : ∀ (k : ℕ) (hk : k < cfg0.N),
    Cert.Online.Holds ((outsAt0 m c k hk).2.2 (ix3 n r 0)) ((outsAt0 m c k hk).2.1 (ix3 n r col))
      (∑ p ∈ Finset.range (1024 * (k % 8 + 1)), R.term n col (k / 128) (512 * (k / 8 % 16) + r.val) p) := by
  intro k
  induction k using Nat.strong_induction_on with
  | _ k ih =>
  intro hk
  have hN : k < 1024 := lt_of_lt_of_eq hk (show cfg0.N = 1024 from N_0)
  obtain ⟨A, M, hA, hM, hz, hp⟩ := step_at m c ⟨k, hk⟩
  rw [hA, hM, sum_block]
  have hold : Cert.Online.Holds (M (ix3 n r 0)) (A (ix3 n r col)) (∑ p ∈ Finset.range (1024 * (k % 8)), R.term n col (k / 128) (512 * (k / 8 % 16) + r.val) p) := by
    by_cases h0 : k % 8 = 0
    · obtain ⟨rfl, rfl⟩ := hz h0
      rw [h0, Nat.mul_zero, Finset.range_zero, Finset.sum_empty]
      have ha : k0_pay2 (F := Ideal) (ix3 n r col) = (0 : EReal) := pay2_apply n r col
      have hm : k0_pay3 (F := Ideal) (ix3 n r 0) = (⊥ : EReal) := pay3_apply n r
      rw [ha, hm]
      exact Cert.Online.holds_start
    · obtain ⟨rfl, rfl⟩ := hp h0
      have := ih (k - 1) (by omega) (Nat.lt_of_le_of_lt (Nat.sub_le _ _) hk)
      rw [show (k - 1) % 8 + 1 = k % 8 by omega, show (k - 1) / 128 = k / 128 by omega, show (k - 1) / 8 % 16 = k / 8 % 16 by omega] at this
      exact this
  have hw : ∀ x : Fin 1024, (iblk m c 5 ⟨k, hk⟩ (ix3 0 x col) : EReal) = (R.X ⟨k / 128, by omega⟩ ⟨1024 * (k % 8) + x.val, by omega⟩ col : EReal) :=
    fun x => value_real R ⟨k, hk⟩ x col _ _ rfl rfl
  have hterm : ∀ x : Fin 1024, R.term n col (k / 128) (512 * (k / 8 % 16) + r.val) (1024 * (k % 8) + x.val)
      = (2 : ℝ) ^ (R.T ⟨k / 128, by omega⟩ n ⟨512 * (k / 8 % 16) + r.val, by omega⟩ ⟨1024 * (k % 8) + x.val, by omega⟩ / Real.log 2)
        * R.X ⟨k / 128, by omega⟩ ⟨1024 * (k % 8) + x.val, by omega⟩ col := by
    intro x
    unfold Reals.term
    rw [dif_pos ⟨by omega, by omega, by omega⟩, Cert.Online.two_rpow_div_log]
  rw [Finset.sum_congr rfl fun x _ => hterm x]
  obtain rfl | rfl : n = 0 ∨ n = 1 := by omega
  · exact step_holds (v := iblk m c 5 ⟨k, hk⟩) (q := iblk m c 1 ⟨k, hk⟩) (k := iblk m c 3 ⟨k, hk⟩) (mx := slab 0 M) (acc := slab 0 A) (r := r) (col := col) _ _
      (fun x => score0_real R ⟨k, hk⟩ r x _ _ _ rfl rfl rfl) hw hold
  · exact step_holds (v := iblk m c 5 ⟨k, hk⟩) (q := iblk m c 2 ⟨k, hk⟩) (k := iblk m c 4 ⟨k, hk⟩) (mx := slab 1 M) (acc := slab 1 A) (r := r) (col := col) _ _
      (fun x => score1_real R ⟨k, hk⟩ r x _ _ _ rfl rfl rfl) hw hold

/-- The softmax-weighted mean of column `col`, row `s`, head `h`, component `n`. -/
def Reals.mean (R : Reals m c) (h : Fin 8) (n : Fin 2) (s : Fin 8192) (col : Fin 128) : ℝ :=
  (∑ t : Fin 8192, Real.exp (R.T h n s t) * R.W (ix4 0 t h col)) / ∑ t : Fin 8192, Real.exp (R.T h n s t)

/-- The sums over all positions. -/
theorem sum_term (R : Reals m c) (n : Fin 2) (col : Fin 256) (h : Fin 8) (s : Fin 8192) :
    ∑ p ∈ Finset.range 8192, R.term n col h.val s.val p = ∑ t : Fin 8192, Real.exp (R.T h n s t) * R.X h t col := by
  rw [Finset.sum_range]
  refine Finset.sum_congr rfl fun t _ => ?_
  unfold Reals.term
  rw [dif_pos ⟨h.isLt, s.isLt, t.isLt⟩]

/-- The quotient a run's last point forms. -/
theorem quotient_at (R : Reals m c) (n : Fin 2) (k : ℕ) (hk : k < cfg0.N) (h7 : k % 8 = 7) (r : Fin 512) (col : Fin 128) (h : Fin 8) (s : Fin 8192)
    (hh : h.val = k / 128) (hs : s.val = 512 * (k / 8 % 16) + r.val) :
    Ideal.div ((outsAt0 m c k hk).2.1 (ix3 n r (wide col))) ((outsAt0 m c k hk).2.1 (ix3 n r 128)) = (R.mean h n s col : EReal) := by
  have hb := holds_at R n r 128 k hk
  have ha := holds_at R n r (wide col) k hk
  rw [h7, ← hh, ← hs, sum_term] at ha hb
  have e1 : ∀ t, R.X h t (wide col) = R.W (ix4 0 t h col) := fun t => by
    unfold Reals.X
    exact dif_pos col.isLt
  have e2 : ∀ t, R.X h t 128 = 1 := fun t => by
    unfold Reals.X
    exact dif_neg (by decide)
  simp only [e1] at ha
  simp only [e2, mul_one] at hb
  exact ha.quotient hb (Finset.sum_pos (fun t _ => Real.exp_pos _) Finset.univ_nonempty)

/-- THE KERNEL'S RESULT at row `s`, head `h`, column `col`. -/
theorem result_at (R : Reals m c) (h : Fin 8) (s : Fin 8192) (col : Fin 128) (j : Fin 1024) (hj : j.val = 128 * h.val + col.val) :
    (Cert.KernelIdeal.Value.G7 m c (ix2 s j) : EReal)
      = closing (fun x => (R.mean h 0 s x : EReal)) (fun x => (R.mean h 1 s x : EReal))
          (lamOf (fun x => arg3 m c (ix1 x)) (fun x => arg4 m c (ix1 x)) (fun x => arg5 m c (ix1 x)) (fun x => arg6 m c (ix1 x))) (argG m c (ix1 col)) col := by
  have hN : cfg0.N = 1024 := N_0
  have hc := col.isLt
  have hpt : Cert.KernelIdeal.Value.pt7Of (ix2 s j) = 8 * (s.val / 512 + 16 * h.val) + 7 := by
    show 8 * (1 * (s.val / 512 - 0) + 16 * (j.val / 128 - 0)) + 7 = _
    omega
  have hlt : Cert.KernelIdeal.Value.pt7Of (ix2 s j) < cfg0.N := by rw [hpt, hN]; omega
  have hloc : Cert.KernelIdeal.Value.loc7Of (ix2 s j) = ix2 ⟨s.val % 512, Nat.mod_lt _ (by decide)⟩ col := by
    funext a
    refine Fin.ext ?_
    match a with
    | ⟨0, _⟩ => rfl
    | ⟨1, _⟩ => show j.val % 128 = col.val; omega
  generalize hk : Cert.KernelIdeal.Value.pt7Of (ix2 s j) = k at hpt hlt
  have h7 : k % 8 = 7 := by omega
  have e : (Cert.KernelIdeal.Value.G7 m c (ix2 s j) : EReal) = (outsAt0 m c k hlt).1 (ix2 ⟨s.val % 512, Nat.mod_lt _ (by decide)⟩ col) := by
    unfold Cert.KernelIdeal.Value.G7
    subst hk
    rw [dif_pos hlt, hloc, ← Cert.KernelIdeal.Value.outsAt0_sweep m c _ hlt]
  rw [e, out_at m c ⟨k, hlt⟩ h7]
  refine (pay1_apply _ _ _ _ _ _).trans ?_
  have q : ∀ (n : Fin 2) (x : Fin 128), Ideal.div (slab n (outsAt0 m c k hlt).2.1 (ix3 0 ⟨s.val % 512, Nat.mod_lt _ (by decide)⟩ (wide x)))
      (slab n (outsAt0 m c k hlt).2.1 (ix3 0 ⟨s.val % 512, Nat.mod_lt _ (by decide)⟩ 128)) = (R.mean h n s x : EReal) :=
    fun n x => quotient_at R n k hlt h7 _ x h s (by omega) (by show s.val = 512 * (k / 8 % 16) + s.val % 512; omega)
  rw [funext (q 0), funext (q 1), blk0, V_lam, blk6, V_g]

end Cert.KernelIdeal.Fold

end
-- ==== Proof.Finite.lean ====
/- What the precondition says: the queries, keys, values and the four parameter vectors are reals. -/
module

public import proofs.«01_k».proof.Defs
public import proofs.«01_k».proof.Proof.Online
public import proofs.«01_k».proof.Proof.Gen.Pre_finite
public import proofs.«01_k».proof.Proof.HostValue
public import Idealize.ShloMosaic.Lib.ReduceAll

@[expose] public section

noncomputable section

namespace Cert.Finite

open Idealize.ShloMosaic Idealize.SL.Sem

/-- An extended real whose absolute value is below `+∞` is a real. -/
theorem real_of_cmp (x : Ideal .f32)
    (h : FloatOps.cmpf (F := Ideal) .olt (FloatOps.absf x) (FloatOps.ofBits (F := Ideal) .f32 0x7F800000#32) = 1#1) : ∃ r : ℝ, (x : EReal) = r := by
  have ht : Ideal.ofBits .f32 0x7F800000#32 = ⊤ := by simp [Ideal.ofBits, Ideal.ieee]
  refine Cert.Online.real_of_abs_lt_top ?_
  by_contra hn
  have h' : Ideal.cmp .olt (max x (-x) : EReal) (Ideal.ofBits .f32 0x7F800000#32) = 1#1 := h
  rw [ht] at h'
  simp [Ideal.cmp, hn] at h'

/-- An array whose entries all compare so is an array of reals. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) hr hu j = 1#1) (i : s.Idx) : ∃ r : ℝ, (x i : EReal) = r := by
  have _ : Subsingleton Cert.Pre_finite.S_.Idx := ⟨fun a b => funext fun k => k.elim0⟩
  exact real_of_cmp _ (Host.reduce_andi_all _ _ hr hu j e i)

/-- Under the precondition every argument but the gain is an array of reals. -/
theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, Cert.KernelIdeal.HostValue.argQ m c i = r) ∧ (∀ i, ∃ r : ℝ, Cert.KernelIdeal.HostValue.argK m c i = r)
      ∧ (∀ i, ∃ r : ℝ, Cert.KernelIdeal.HostValue.argV m c i = r) ∧ (∀ i, ∃ r : ℝ, Cert.KernelIdeal.HostValue.arg3 m c i = r)
      ∧ (∀ i, ∃ r : ℝ, Cert.KernelIdeal.HostValue.arg4 m c i = r) ∧ (∀ i, ∃ r : ℝ, Cert.KernelIdeal.HostValue.arg5 m c i = r)
      ∧ (∀ i, ∃ r : ℝ, Cert.KernelIdeal.HostValue.arg6 m c i = r) := by
  have e := congrFun (h c) ix0
  unfold Cert.Pre_finite.fn Cert.Pre_finite.fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real _ _ _ _ _ e0, all_real _ _ _ _ _ e1, all_real _ _ _ _ _ e2, all_real _ _ _ _ _ e3, all_real _ _ _ _ _ e4,
    all_real _ _ _ _ _ e5, all_real _ _ _ _ _ e6⟩

end Cert.Finite

end
-- ==== Proof.RefValue.lean ====
/- The plain attention, read at an index. -/
module

public import proofs.«01_k».proof.Proof.Gen.ReferenceIdeal.Read
public import proofs.«01_k».proof.Proof.PayValue
public import Idealize.ShloMosaic.Lib.IdealHost
public import Idealize.ShloMosaic.Lib.Pointwise

@[expose] public section

noncomputable section

namespace Cert.ReferenceIdeal.RefValue

open Idealize.ShloMosaic Idealize.SL.Sem
open Cert.ReferenceIdeal Cert.ReferenceIdeal.Gen Cert.ReferenceIdeal.Read

variable (q k : Vec Ideal S1x8192x8x2x64 .f32) (v : Vec Ideal S1x8192x8x128 .f32) (x3 x4 x5 x6 : Vec Ideal S64 .f32) (g : Vec Ideal S128 .f32)

/-- The scaled score of position `s` against position `t`, head `h`, component `n`. -/
theorem r13 (h : Fin 8) (n : Fin 2) (s t : Fin 8192) :
    val_main_v13 (F := Ideal) q k (ix5 0 h n s t) = ∑ x : Fin 64, (q (ix5 0 s h n x) * Ideal.ofBits .f32 1040187392#32) * k (ix5 0 t h n x) := by
  unfold val_main_v13 val_main_v10 val_main_v11 val_main_v1 val_main_v0 val_main_cst
  pointwise

/-- A left fold of `max` over extended reals that are reals is a real, once begun at a real. -/
theorem foldl_max_real {ι : Type} (f : ι → EReal) (hf : ∀ i, ∃ r : ℝ, f i = r) :
    ∀ (l : List ι) (a : EReal), (a = ⊥ ∨ ∃ r : ℝ, a = r) →
      (l.foldl (fun r n => max r (f n)) a = ⊥ ∧ l = [] ∨ ∃ r : ℝ, l.foldl (fun r n => max r (f n)) a = r) := by
  intro l
  induction l with
  | nil =>
    rintro a (h | h)
    exacts [.inl ⟨h, rfl⟩, .inr h]
  | cons i l ih =>
    intro a h
    obtain ⟨r, hr⟩ := hf i
    obtain ⟨μ, hμ⟩ := Cert.Online.max_real h r
    have h2 := ih (max a (f i)) (.inr ⟨μ, by rw [hr, hμ]⟩)
    rcases h2 with ⟨h3, h4⟩ | h3
    · subst h4
      right
      exact ⟨μ, by show max a (f i) = _; rw [hr, hμ]⟩
    · exact .inr h3

/-- The shift the softmax of a row subtracts is a real when the row's scores are. -/
theorem r16_real (hs : ∀ i, ∃ r : ℝ, val_main_v13 (F := Ideal) q k i = r) (h : Fin 8) (n : Fin 2) (s : Fin 8192) :
    ∃ r : ℝ, val_main_v16 (F := Ideal) q k (ix4 0 h n s) = r := by
  have h14 : ∃ r : ℝ, val_main_v14 (F := Ideal) q k (ix4 0 h n s) = r := by
    unfold val_main_v14
    rw [Host.reduce_eq_foldl]
    refine (foldl_max_real _ hs _ _ (.inl (show val_main_cst_3 (F := Ideal) _ = (⊥ : EReal) from Cert.KernelIdeal.Step.ofBits_bot))).resolve_left ?_
    rintro ⟨_, h2⟩
    have hd : reducesTo_S1x8x2x8192x8192_S1x8x2x8192_d4.drop (ix5 0 h n s 0) = ix4 0 h n s := by
      funext b
      refine Fin.ext ?_
      match b with
      | ⟨0, _⟩ => exact Shape.ReducesTo.drop_apply_val_of_eq reducesTo_S1x8x2x8192x8192_S1x8x2x8192_d4 (ix5 0 h n s 0) 0 0
      | ⟨1, _⟩ => exact Shape.ReducesTo.drop_apply_val_of_eq reducesTo_S1x8x2x8192x8192_S1x8x2x8192_d4 (ix5 0 h n s 0) 1 1
      | ⟨2, _⟩ => exact Shape.ReducesTo.drop_apply_val_of_eq reducesTo_S1x8x2x8192x8192_S1x8x2x8192_d4 (ix5 0 h n s 0) 2 2
      | ⟨3, _⟩ => exact Shape.ReducesTo.drop_apply_val_of_eq reducesTo_S1x8x2x8192x8192_S1x8x2x8192_d4 (ix5 0 h n s 0) 3 3
    have hmem : (ix5 0 h n s 0 : S1x8x2x8192x8192.Idx) ∈ ((List.finRange S1x8x2x8192x8192.numel).map S1x8x2x8192x8192.rowMajor.symm).filter
        (fun i' => decide (reducesTo_S1x8x2x8192x8192_S1x8x2x8192_d4.drop i' = ix4 0 h n s)) := by
      rw [List.mem_filter]
      exact ⟨List.mem_map.2 ⟨S1x8x2x8192x8192.rowMajor (ix5 0 h n s 0), List.mem_finRange _, Equiv.symm_apply_apply _ _⟩, decide_eq_true hd⟩
    exact List.not_mem_nil (h2 ▸ hmem)
  obtain ⟨r, hr⟩ := h14
  refine ⟨r, ?_⟩
  rw [val_main_v16_apply, val_main_v15_apply, val_main_cst_4_apply, hr]
  show max (Ideal.ofBits .f32 0xFF800000#32) (r : EReal) = r
  rw [Cert.KernelIdeal.Step.ofBits_bot]
  exact max_eq_right bot_le

/-- The softmax weight of position `t` in the row of position `s`. -/
theorem r24 (h : Fin 8) (n : Fin 2) (s t : Fin 8192) :
    val_main_v24 (F := Ideal) q k (ix5 0 h n s t)
      = Ideal.div (Ideal.exp (val_main_v13 (F := Ideal) q k (ix5 0 h n s t) - val_main_v16 (F := Ideal) q k (ix4 0 h n s)))
          (0 + ∑ t' : Fin 8192, Ideal.exp (val_main_v13 (F := Ideal) q k (ix5 0 h n s t') - val_main_v16 (F := Ideal) q k (ix4 0 h n s))) := by
  have e16 : ∀ t' : Fin 8192, val_main_v20 (F := Ideal) q k (ix5 0 h n s t') = Ideal.exp (val_main_v13 (F := Ideal) q k (ix5 0 h n s t') - val_main_v16 (F := Ideal) q k (ix4 0 h n s)) := by
    intro t'
    rw [val_main_v20_apply, val_main_v19_apply, val_main_v18_apply, val_main_v17_apply]
    have hi : idx_main_v17 (idx_main_v18 (ix5 0 h n s t')) = ix4 0 h n s := by
      funext a
      match a with
      | ⟨0, _⟩ => rfl
      | ⟨1, _⟩ => rfl
      | ⟨2, _⟩ => rfl
      | ⟨3, _⟩ => rfl
    rw [hi]
    rfl
  rw [val_main_v24_apply, val_main_v23_apply, val_main_v22_apply, val_main_v21_apply, e16, val_main_cst_5_apply]
  have hj : ∀ t' : Fin 8192, idx_main_v21 (idx_main_v22 (idx_main_v23 (ix5 0 h n s t))) t' = ix5 0 h n s t' := by
    intro t'
    funext a
    match a with
    | ⟨0, _⟩ => rfl
    | ⟨1, _⟩ => rfl
    | ⟨2, _⟩ => rfl
    | ⟨3, _⟩ => rfl
    | ⟨4, _⟩ => rfl
  simp only [hj, e16]
  show Ideal.div _ (Ideal.ofBits .f32 0x00000000#32 + _) = _
  rw [Ideal.ofBits_zero_f32]

/-- The weight of the second softmax. -/
theorem r9 : val_main_v9 (F := Ideal) x3 x4 x5 x6 ix0
    = Ideal.exp (∑ x, x3 (ix1 x) * x4 (ix1 x)) - Ideal.exp (∑ x, x5 (ix1 x) * x6 (ix1 x)) + Ideal.ofBits .f32 1045220557#32 := by
  unfold val_main_v9 val_main_v8 val_main_v7 val_main_v6 val_main_v5 val_main_v4 val_main_v3 val_main_v2 val_main_cst_0 val_main_cst_1 val_main_cst_2
  pointwise

/-- The difference of the two softmax weights. -/
theorem r31 (h : Fin 8) (s t : Fin 8192) : val_main_v31 (F := Ideal) q k x3 x4 x5 x6 (ix4 0 h s t)
    = val_main_v24 (F := Ideal) q k (ix5 0 h 0 s t) - val_main_v9 (F := Ideal) x3 x4 x5 x6 ix0 * val_main_v24 (F := Ideal) q k (ix5 0 h 1 s t) := by
  rw [val_main_v31_apply, val_main_v30_apply, val_main_v29_apply, val_main_v28_apply, val_main_v27_apply, val_main_v26_apply, val_main_v25_apply]
  have hh := h.isLt
  have hs := s.isLt
  have ht := t.isLt
  have h0 : idx_main_v25 (idx_main_v26 (ix4 0 h s t)) = ix5 0 h 0 s t := by
    funext a
    refine Fin.ext ?_
    match a with
    | ⟨0, _⟩ => rfl
    | ⟨1, _⟩ => show (((0 * 8 + h.val) * 8192 + s.val) * 8192 + t.val) / 67108864 % 8 = h.val; omega
    | ⟨2, _⟩ => rfl
    | ⟨3, _⟩ => show (((0 * 8 + h.val) * 8192 + s.val) * 8192 + t.val) / 8192 % 8192 = s.val; omega
    | ⟨4, _⟩ => show (((0 * 8 + h.val) * 8192 + s.val) * 8192 + t.val) % 8192 = t.val; omega
  have h1 : idx_main_v27 (idx_main_v28 (ix4 0 h s t)) = ix5 0 h 1 s t := by
    funext a
    refine Fin.ext ?_
    match a with
    | ⟨0, _⟩ => rfl
    | ⟨1, _⟩ => show (((0 * 8 + h.val) * 8192 + s.val) * 8192 + t.val) / 67108864 % 8 = h.val; omega
    | ⟨2, _⟩ => rfl
    | ⟨3, _⟩ => show (((0 * 8 + h.val) * 8192 + s.val) * 8192 + t.val) / 8192 % 8192 = s.val; omega
    | ⟨4, _⟩ => show (((0 * 8 + h.val) * 8192 + s.val) * 8192 + t.val) % 8192 = t.val; omega
  rw [h0, h1]
  have h2 : idx_main_v29 (ix4 0 h s t) = ix0 := funext fun a => a.elim0
  rw [h2]
  rfl

/-- The attention's output before the norm. -/
theorem r33 (h : Fin 8) (s : Fin 8192) (col : Fin 128) : val_main_v33 (F := Ideal) q k v x3 x4 x5 x6 (ix4 0 s h col)
    = ∑ t : Fin 8192, (val_main_v24 (F := Ideal) q k (ix5 0 h 0 s t) - val_main_v9 (F := Ideal) x3 x4 x5 x6 ix0 * val_main_v24 (F := Ideal) q k (ix5 0 h 1 s t)) * v (ix4 0 t h col) := by
  rw [val_main_v33_apply, val_main_v32_apply]
  refine Finset.sum_congr rfl fun t _ => ?_
  have h0 : lidx_main_v32 (idx_main_v33 (ix4 0 s h col)) t = ix4 0 h s t := by
    funext a
    match a with
    | ⟨0, _⟩ => rfl
    | ⟨1, _⟩ => rfl
    | ⟨2, _⟩ => rfl
    | ⟨3, _⟩ => rfl
  have h1 : idx_main_v12 (ridx_main_v32 (idx_main_v33 (ix4 0 s h col)) t) = ix4 0 t h col := by
    funext a
    match a with
    | ⟨0, _⟩ => rfl
    | ⟨1, _⟩ => rfl
    | ⟨2, _⟩ => rfl
    | ⟨3, _⟩ => rfl
  rw [val_main_v12_apply, h0, h1, r31]

/-- The sum of squares of a row. -/
theorem r35 (h : Fin 8) (s : Fin 8192) (col : Fin 128) (o : Fin 128 → EReal)
    (ho : ∀ x, val_main_v33 (F := Ideal) q k v x3 x4 x5 x6 (ix4 0 s h x) = o x) :
    val_main_v35 (F := Ideal) q k v x3 x4 x5 x6 (idx_main_v36 (idx_main_v42 (ix4 0 s h col))) = ∑ x, o x * o x := by
  have h1 : ∀ x : Fin 128, idx_main_v35 (idx_main_v36 (idx_main_v42 (ix4 0 s h col))) x = ix4 0 s h x := by
    intro x
    funext a
    match a with
    | ⟨0, _⟩ => rfl
    | ⟨1, _⟩ => rfl
    | ⟨2, _⟩ => rfl
    | ⟨3, _⟩ => rfl
  have h2 : ∀ x : Fin 128, val_main_v34 (F := Ideal) q k v x3 x4 x5 x6 (idx_main_v35 (idx_main_v36 (idx_main_v42 (ix4 0 s h col))) x) = o x * o x := by
    intro x
    rw [h1 x, val_main_v34_apply, ho x, Ideal.mulf_def]
  rw [val_main_v35_apply, val_main_cst_6_apply, Finset.sum_congr rfl fun x _ => h2 x, Ideal.ofBits_def, Ideal.ofBits_zero_f32, zero_add]

/-- The norm's factor of a row. -/
theorem r42 (h : Fin 8) (s : Fin 8192) (col : Fin 128) (o : Fin 128 → EReal)
    (ho : ∀ x, val_main_v33 (F := Ideal) q k v x3 x4 x5 x6 (ix4 0 s h x) = o x) :
    val_main_v42 (F := Ideal) q k v x3 x4 x5 x6 (ix4 0 s h col)
     = Ideal.rsqrt (Ideal.div (∑ x, o x * o x) (Ideal.ofBits .f32 0x43000000#32) + Ideal.ofBits .f32 897988541#32) := by
  rw [val_main_v42_apply, val_main_v41_apply, val_main_v40_apply,
    val_main_v38_apply, val_main_v36_apply, r35 q k v x3 x4 x5 x6 h s col o ho, val_main_v39_apply, val_main_v37_apply,
    val_main_cst_7_apply, val_main_cst_8_apply]
  simp only [Ideal.addf_def, Ideal.ofBits_def, Ideal.hostDivf_def]
  exact Ideal.hostUnary_rsqrt_def _
/-- Where an entry of the result lies in its head. -/
theorem i49 (h : Fin 8) (s : Fin 8192) (col : Fin 128) (j : Fin 1024) (hj : j.val = 128 * h.val + col.val) : idx_main_v49 (ix2 s j) = ix4 0 s h col := by
  have hh := h.isLt
  have hs := s.isLt
  have hc := col.isLt
  funext a
  refine Fin.ext ?_
  match a with
  | ⟨0, _⟩ => rfl
  | ⟨1, _⟩ => show (s.val * 1024 + j.val) / 1024 % 8192 = s.val; omega
  | ⟨2, _⟩ => show (s.val * 1024 + j.val) / 128 % 8 = h.val; omega
  | ⟨3, _⟩ => show (s.val * 1024 + j.val) % 128 = col.val; omega

/-- The result, from the attention's output before the norm. -/
theorem r50 (h : Fin 8) (s : Fin 8192) (col : Fin 128) (j : Fin 1024) (hj : j.val = 128 * h.val + col.val) (o : Fin 128 → EReal)
    (ho : ∀ x, val_main_v33 (F := Ideal) q k v x3 x4 x5 x6 (ix4 0 s h x) = o x) :
    val_main_v50 (F := Ideal) q k v x3 x4 x5 x6 g (ix2 s j)
      = o col * Ideal.rsqrt (Ideal.div (∑ x, o x * o x) (Ideal.ofBits .f32 0x43000000#32) + Ideal.ofBits .f32 897988541#32) * g (ix1 col) * Ideal.ofBits .f32 1061997773#32 := by
  have h2 : idx_main_v44 (idx_main_v45 (ix4 0 s h col)) = ix1 col := by
    funext a
    match a with
    | ⟨0, _⟩ => rfl
  rw [val_main_v50_apply, val_main_v49_apply, i49 h s col j hj, val_main_v48_apply, val_main_v46_apply, val_main_v43_apply,
   r42 q k v x3 x4 x5 x6 h s col o ho, val_main_v45_apply, val_main_v44_apply, h2, val_main_v47_apply, ho,
     val_main_cst_9_apply]
  simp only [Ideal.mulf_def, Ideal.ofBits_def, Ideal.truncf_def]

end Cert.ReferenceIdeal.RefValue

end
-- ==== Proof.Agree.lean ====
/- Kernel and reference agree: both are the difference of two softmax-weighted means, normed. -/
module

public import proofs.«01_k».proof.Proof.Fold
public import proofs.«01_k».proof.Proof.Finite
public import proofs.«01_k».proof.Proof.RefValue

@[expose] public section

noncomputable section

namespace Cert.Agree

open Idealize.ShloMosaic Idealize.SL.Sem
open Cert.KernelIdeal.Fold Cert.KernelIdeal.HostValue Cert.KernelIdeal.Step Cert.ReferenceIdeal.Read Cert.ReferenceIdeal.RefValue

variable {m : (ℓ : Loc Cert.KernelIdeal.nD Cert.KernelIdeal.τ Cert.KernelIdeal.sig) → Buf (Elt Ideal) ℓ} {c : Dev Cert.KernelIdeal.nD}

/-- The reference's scaled score is a real. -/
theorem score_eq (R : Reals m c) (h : Fin 8) (n : Fin 2) (s t : Fin 8192) :
    val_main_v13 (F := Ideal) (argQ m c) (argK m c) (ix5 0 h n s t) = ((R.T h n s t : ℝ) : EReal) := by
  have h8 : Ideal.ofBits .f32 1040187392#32 = ((1 / 8 : ℝ) : EReal) := by
    simp [Ideal.ofBits, Ideal.ieee, -EReal.coe_mul]; norm_num
  refine (r13 (argQ m c) (argK m c) h n s t).trans ?_
  unfold Reals.T
  rw [Cert.Online.coe_sum]
  refine Finset.sum_congr rfl fun d _ => ?_
  rw [R.hQ, R.hK, h8, ← EReal.coe_mul, ← EReal.coe_mul]

/-- Every scaled score is a real. -/
theorem score_all (R : Reals m c) (i : Cert.ReferenceIdeal.S1x8x2x8192x8192.Idx) :
    ∃ r : ℝ, val_main_v13 (F := Ideal) (argQ m c) (argK m c) i = (r : EReal) := by
  have hi : i = ix5 0 (i 1) (i 2) (i 3) (i 4) := by
    funext a
    match a with
    | ⟨0, _⟩ => exact Fin.ext (by have := (i 0).isLt; show (i 0).val = 0; exact Nat.lt_one_iff.1 this)
    | ⟨1, _⟩ => rfl
    | ⟨2, _⟩ => rfl
    | ⟨3, _⟩ => rfl
    | ⟨4, _⟩ => rfl
  rw [hi]
  exact ⟨_, score_eq R (i 1) (i 2) (i 3) (i 4)⟩

/-- The reference's softmax weight is a quotient of exponentials. -/
theorem weight_eq (R : Reals m c) (h : Fin 8) (n : Fin 2) (s t : Fin 8192) :
    val_main_v24 (F := Ideal) (argQ m c) (argK m c) (ix5 0 h n s t) = ((Real.exp (R.T h n s t) / ∑ t', Real.exp (R.T h n s t') : ℝ) : EReal) := by
  obtain ⟨μ, hμ⟩ := r16_real (argQ m c) (argK m c) (score_all R) h n s
  refine (r24 (argQ m c) (argK m c) h n s t).trans ?_
  rw [hμ, Finset.sum_congr rfl fun t' _ => by rw [score_eq R h n s t'], score_eq R h n s t]
  exact Cert.Online.softmax_weight (fun t' => R.T h n s t') μ t

/-- The weight of the second softmax, of real vectors, is a real. -/
theorem lam_real (a b d e : Fin 64 → EReal) (ha : ∀ i, ∃ r : ℝ, a i = r) (hb : ∀ i, ∃ r : ℝ, b i = r) (hd : ∀ i, ∃ r : ℝ, d i = r) (he : ∀ i, ∃ r : ℝ, e i = r) :
    ∃ r : ℝ, lamOf a b d e = (r : EReal) := by
  choose a' ha using ha
  choose b' hb using hb
  choose d' hd using hd
  choose e' he using he
  have hc : ∃ r : ℝ, Ideal.ofBits .f32 1045220557#32 = (r : EReal) :=
    ⟨_, by simp [Ideal.ofBits, Ideal.ieee, -EReal.coe_mul]; rfl⟩
  obtain ⟨κ, hκ⟩ := hc
  have h1 : ∑ x, a x * b x = ((∑ x, a' x * b' x : ℝ) : EReal) := by
    rw [Cert.Online.coe_sum]
    exact Finset.sum_congr rfl fun x _ => by rw [ha, hb, EReal.coe_mul]
  have h2 : ∑ x, d x * e x = ((∑ x, d' x * e' x : ℝ) : EReal) := by
    rw [Cert.Online.coe_sum]
    exact Finset.sum_congr rfl fun x _ => by rw [hd, he, EReal.coe_mul]
  refine ⟨Real.exp (∑ x, a' x * b' x) - Real.exp (∑ x, d' x * e' x) + κ, ?_⟩
  unfold lamOf
  rw [h1, h2, hκ, Ideal.exp_coe, Ideal.exp_coe, EReal.coe_add, EReal.coe_sub]

/-- The reference's output before the norm is the difference of the two weighted means. -/
theorem mix_eq (R : Reals m c) (lam : ℝ)
    (hl : lamOf (fun x => arg3 m c (ix1 x)) (fun x => arg4 m c (ix1 x)) (fun x => arg5 m c (ix1 x)) (fun x => arg6 m c (ix1 x)) = (lam : EReal))
    (h : Fin 8) (s : Fin 8192) (x : Fin 128) :
    val_main_v33 (F := Ideal) (argQ m c) (argK m c) (argV m c) (arg3 m c) (arg4 m c) (arg5 m c) (arg6 m c) (ix4 0 s h x)
      = (R.mean h 0 s x : EReal) - (lam : EReal) * (R.mean h 1 s x : EReal) := by
  have h9 : val_main_v9 (F := Ideal) (arg3 m c) (arg4 m c) (arg5 m c) (arg6 m c) ix0 = (lam : EReal) :=
    (r9 (arg3 m c) (arg4 m c) (arg5 m c) (arg6 m c)).trans hl
  refine (r33 (argQ m c) (argK m c) (argV m c) (arg3 m c) (arg4 m c) (arg5 m c) (arg6 m c) h s x).trans ?_
  rw [h9]
  refine (Finset.sum_congr rfl fun t _ => ?_).trans
    ((Cert.Online.two_softmaxes (fun t => Real.exp (R.T h 0 s t)) (fun t => Real.exp (R.T h 1 s t)) (fun t => R.W (ix4 0 t h x))
      (∑ t', Real.exp (R.T h 0 s t')) (∑ t', Real.exp (R.T h 1 s t')) lam).trans ?_)
  · rw [weight_eq R h 0 s t, weight_eq R h 1 s t, R.hW]
  · rw [EReal.coe_sub, EReal.coe_mul]
    rfl

/-- THE RESULTS AGREE at row `s`, head `h`, column `col`. -/
theorem agree_at (R : Reals m c) (lam : ℝ)
    (hl : lamOf (fun x => arg3 m c (ix1 x)) (fun x => arg4 m c (ix1 x)) (fun x => arg5 m c (ix1 x)) (fun x => arg6 m c (ix1 x)) = (lam : EReal))
    (h : Fin 8) (s : Fin 8192) (col : Fin 128) (j : Fin 1024) (hj : j.val = 128 * h.val + col.val) :
    val_main_v50 (F := Ideal) (argQ m c) (argK m c) (argV m c) (arg3 m c) (arg4 m c) (arg5 m c) (arg6 m c) (argG m c) (ix2 s j)
      = Cert.KernelIdeal.Value.G7 m c (ix2 s j) := by
  rw [result_at R h s col j hj, hl]
  exact r50 (argQ m c) (argK m c) (argV m c) (arg3 m c) (arg4 m c) (arg5 m c) (arg6 m c) (argG m c) h s col j hj _ (mix_eq R lam hl h s)

/-- THE RESULTS AGREE, under the precondition. -/
theorem agree (hpre : Cert.Pre_KernelIdeal_finite m) (c : Dev Cert.KernelIdeal.nD) :
    val_main_v50 (F := Ideal) (argQ m c) (argK m c) (argV m c) (arg3 m c) (arg4 m c) (arg5 m c) (arg6 m c) (argG m c) = Cert.KernelIdeal.Value.G7 m c := by
  obtain ⟨hQ, hK, hV, h3, h4, h5, h6⟩ := Cert.Finite.args_real m hpre c
  choose Q hQ using hQ
  choose K hK using hK
  choose W hW using hV
  obtain ⟨lam, hl⟩ := lam_real (fun x => arg3 m c (ix1 x)) (fun x => arg4 m c (ix1 x)) (fun x => arg5 m c (ix1 x)) (fun x => arg6 m c (ix1 x))
    (fun _ => h3 _) (fun _ => h4 _) (fun _ => h5 _) (fun _ => h6 _)
  funext i
  have hi : i = ix2 (i 0) (i 1) := by
    funext a
    match a with
    | ⟨0, _⟩ => rfl
    | ⟨1, _⟩ => rfl
  have hlt : (i 1).val < 1024 := (i 1).isLt
  rw [hi]
  exact agree_at ⟨Q, K, W, hQ, hK, hW⟩ lam hl ⟨(i 1).val / 128, by omega⟩ (i 0) ⟨(i 1).val % 128, by omega⟩ (i 1)
    (by show (i 1).val = 128 * ((i 1).val / 128) + (i 1).val % 128; omega)

end Cert.Agree

end
-- ==== Proof.InProjCall.lean ====
/- The call `inproj`: its norm and product, entry by entry, against the plain norm and product. -/
module

public import proofs.«01_k».proof.Defs
public import proofs.«01_k».proof.Proof.Gen.InProj.Frame
public import proofs.«01_k».proof.Proof.Gen.InProjIdeal.Value
public import proofs.«01_k».proof.Proof.Gen.InProjRefIdeal.Read
public import Idealize.ShloMosaic.Adequacy
public import Idealize.ShloMosaic.Init
public import Idealize.ShloMosaic.Lib.Quiescent
public import Idealize.ShloMosaic.Lib.IdealHost
public import Idealize.ShloMosaic.Lib.Pointwise
public import Idealize.ShloMosaic.Lib.Pipeline.ReadBack
public import Idealize.ShloMosaic.Lib.Pipeline.Value
public import Idealize.ShloMosaic.Lib.StableHlo.ReadAt

@[expose] public section

noncomputable section

namespace Cert.InProjIdeal.Call

open Idealize.ShloMosaic Idealize.SL.Sem
open Cert.InProjIdeal Cert.InProjIdeal.Gen

section Body

variable {F : FTy → Type} [FloatOps F]

/-- The zero start of a 2-axis view, as a constant function. -/
theorem hz2 : (![0, 0] : Fin 2 → ℕ) = fun _ => 0 := by funext a; fin_cases a <;> rfl

/-- The first point of a row block leaves the normed rows in the scratch buffer. -/
theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1024x512 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x512 .f32) :
    sout0_A_0 c i arg2 harg2 arg3 harg3 arg4 harg4 arg5 harg5 arg6 harg6 hc0 x0 x1 x2 = k0_pay1 x0 x1 := by
  unfold sout0_A_0
  rw [View.read_writes_junk_eq_canon]
  unfold kernelRun0_A
  dsimp only
  sl_unfold_words
  have r2 : View.readAt (Elt F) arg2.view (Rect.unit ![0, 0] S1024x2048.size inb_S1024x2048_S1024x2048_0_0).toLoadRect (harg2.unread x0) = x0 := by
    rw [View.readAt_eq_ld, harg2.read_unread]; exact View.ld_unit_zero (S := S1024x2048) hz2 _ _
  have r3 : View.readAt (Elt F) arg3.view (Rect.unit ![0, 0] S1x2048.size inb_S1x2048_S1x2048_0_0).toLoadRect (harg3.unread x1) = x1 := by
    rw [View.readAt_eq_ld, harg3.read_unread]; exact View.ld_unit_zero (S := S1x2048) hz2 _ _
  refine (View.canon_unit_zero (S := S1024x2048) hz2 _ _).trans ?_
  simp only [r2, r3]

/-- The first point of a row block multiplies the normed rows with its block of weights. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1024x512 .bf16) (harg5 : arg5.IsWhole) (arg6 : Memref sig .tc .vmem S1024x2048 .bf16) (harg6 : arg6.IsWhole) (hc0 : cond0_0 i)
    (x0 : Vec F S1024x2048 .f32) (x1 : Vec F S1x2048 .f32) (x2 : Vec F S2048x512 .f32) :
    out0_A_3 c i arg2 harg2 arg3 harg3 arg4 harg4 arg5 harg5 arg6 harg6 hc0 x0 x1 x2 = k0_pay2 (k0_pay1 x0 x1) x2 := by
  unfold out0_A_3
  rw [View.read_writes_junk_eq_canon]
  unfold kernelRun0_A
  dsimp only
  sl_unfold_words
  have r2 : View.readAt (Elt F) arg2.view (Rect.unit ![0, 0] S1024x2048.size inb_S1024x2048_S1024x2048_0_0).toLoadRect (harg2.unread x0) = x0 := by
    rw [View.readAt_eq_ld, harg2.read_unread]; exact View.ld_unit_zero (S := S1024x2048) hz2 _ _
  have r3 : View.readAt (Elt F) arg3.view (Rect.unit ![0, 0] S1x2048.size inb_S1x2048_S1x2048_0_0).toLoadRect (harg3.unread x1) = x1 := by
    rw [View.readAt_eq_ld, harg3.read_unread]; exact View.ld_unit_zero (S := S1x2048) hz2 _ _
  have r4 : View.readAt (Elt F) arg4.view (Rect.unit ![0, 0] S2048x512.size inb_S2048x512_S2048x512_0_0).toLoadRect (harg4.unread x2) = x2 := by
    rw [View.readAt_eq_ld, harg4.read_unread]; exact View.ld_unit_zero (S := S2048x512) hz2 _ _
  refine (View.canon_unit_zero (S := S1024x512) hz2 _ _).trans ?_
  rw [View.readCov_cons_toLoadRect]
  simp only [r2, r3, r4]

/-- A later point multiplies what the scratch buffer holds with its block of weights. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S1024x512 .bf16) (harg5 : arg5.IsWhole) (arg6 : Memref sig .tc .vmem S1024x2048 .bf16) (harg6 : arg6.IsWhole) (hc0 : ¬cond0_0 i)
    (x0 : Vec F S1024x2048 .f32) (x1 : Vec F S1x2048 .f32) (x2 : Vec F S2048x512 .f32) (xs0 : Vec F S1024x2048 .bf16) :
    out0_B_3 c i arg2 harg2 arg3 harg3 arg4 harg4 arg5 harg5 arg6 harg6 hc0 x0 x1 x2 xs0 = k0_pay2 xs0 x2 := by
  unfold out0_B_3
  rw [View.read_writes_junk_eq_canon]
  unfold kernelRun0_B
  dsimp only
  sl_unfold_words
  have r4 : View.readAt (Elt F) arg4.view (Rect.unit ![0, 0] S2048x512.size inb_S2048x512_S2048x512_0_0).toLoadRect (harg4.unread x2) = x2 := by
    rw [View.readAt_eq_ld, harg4.read_unread]; exact View.ld_unit_zero (S := S2048x512) hz2 _ _
  have r6 : View.readAt (Elt F) arg6.view (Rect.unit ![0, 0] S1024x2048.size inb_S1024x2048_S1024x2048_0_0).toLoadRect (harg6.unread xs0) = xs0 := by
    rw [View.readAt_eq_ld, harg6.read_unread]; exact View.ld_unit_zero (S := S1024x2048) hz2 _ _
  refine (View.canon_unit_zero (S := S1024x512) hz2 _ _).trans ?_
  simp only [r4, r6]

end Body

/-- An entry of the normed input. -/
def normed (x : S1x8192x2048.Idx → EReal) (g : S2048.Idx → EReal) (s : Fin 8192) (d : Fin 2048) : EReal :=
  x (ix3 0 s d) * Ideal.rsqrt (Ideal.div (∑ e, x (ix3 0 s e) * x (ix3 0 s e)) (Ideal.ofBits .f32 0x45000000#32) + Ideal.ofBits .f32 0x358637BD#32) * g (ix1 d)

/-- The norm's block, at an index. -/
theorem pay1_apply (x : Vec Ideal S1024x2048 .f32) (g : Vec Ideal S1x2048 .f32) (r : Fin 1024) (d : Fin 2048) :
    k0_pay1 (F := Ideal) x g (ix2 r d)
      = x (ix2 r d) * Ideal.rsqrt (Ideal.div (∑ e, x (ix2 r e) * x (ix2 r e)) (Ideal.ofBits .f32 0x45000000#32) + Ideal.ofBits .f32 0x358637BD#32) * g (ix2 0 d) := by
  unfold k0_pay1
  pointwise
  try rfl

/-- The product's block, at an index. -/
theorem pay2_apply (x : Vec Ideal S1024x2048 .bf16) (w : Vec Ideal S2048x512 .f32) (r : Fin 1024) (j : Fin 512) :
    k0_pay2 (F := Ideal) x w (ix2 r j) = ∑ d : Fin 2048, x (ix2 r d) * w (ix2 d j) := by
  unfold k0_pay2
  pointwise
  try rfl

variable (m : (ℓ : Loc nD τ sig) → Buf (Elt Ideal) ℓ) (c : Dev nD)

/-- The arguments, as arrays of extended reals. -/
abbrev argX : S1x8192x2048.Idx → EReal := m (c.tc.loc main_arg0)
/-- The argument in buffer `main_arg1`. -/
abbrev argG : S2048.Idx → EReal := m (c.tc.loc main_arg1)
/-- The argument in buffer `main_arg2`. -/
abbrev argW : S2048x8192.Idx → EReal := m (c.tc.loc main_arg2)

/-- The buffer the call reads, as a function of the argument it is prepared from. -/
theorem V_x (s : Fin 8192) (d : Fin 2048) : V m c main_v0 (ix2 s d) = argX m c (ix3 0 s d) := by
  unfold V
  after_reads_at
  try rfl

/-- The buffer the call reads, as a function of the argument it is prepared from. -/
theorem V_g (d : Fin 2048) : V m c main_v1 (ix2 0 d) = argG m c (ix1 d) := by
  unfold V
  after_reads_at
  try rfl

/-- The buffer the call reads, as a function of the argument it is prepared from. -/
theorem V_w (d : Fin 2048) (j : Fin 8192) : V m c main_arg2 (ix2 d j) = argW m c (ix2 d j) := by
  unfold V
  after_reads_at
  try rfl

/-- The printed index maps, decided over the grid. -/
theorem idx0 : ∀ t : Fin cfg0.N, win0_0.index t (0 : Fin 2) = t.val / 16 ∧ win0_0.index t (1 : Fin 2) = 0 := by decide +kernel
/-- Which block of operand 1 a grid step holds. -/
theorem idx1 : ∀ t : Fin cfg0.N, win0_1.index t (0 : Fin 2) = 0 ∧ win0_1.index t (1 : Fin 2) = 0 := by decide +kernel
/-- Which block of operand 2 a grid step holds. -/
theorem idx2 : ∀ t : Fin cfg0.N, win0_2.index t (0 : Fin 2) = 0 ∧ win0_2.index t (1 : Fin 2) = t.val % 16 := by decide +kernel

/-- The input's block: rows `1024 i + r`. -/
theorem blk0 (t : Fin cfg0.N) (r : Fin 1024) (d : Fin 2048) (s : Fin 8192) (hs : s.val = 1024 * (t.val / 16) + r.val) :
    iblk m c 0 t (ix2 r d) = argX m c (ix3 0 s d) := by
  obtain ⟨h0, h1⟩ := idx0 t
  refine Eq.trans ?_ (V_x m c s d)
  unfold iblk
  rw [View.read_apply]
  show V m c main_v0 _ = _
  congr 1
  funext a
  refine Fin.ext ?_
  match a with
  | ⟨0, _⟩ => show win0_0.index t (0 : Fin 2) * 1024 + 1 * r.val = s.val; omega
  | ⟨1, _⟩ => show win0_0.index t (1 : Fin 2) * 2048 + 1 * d.val = d.val; omega

/-- The gain's block. -/
theorem blk1 (t : Fin cfg0.N) (d : Fin 2048) : iblk m c 1 t (ix2 0 d) = argG m c (ix1 d) := by
  obtain ⟨h0, h1⟩ := idx1 t
  refine Eq.trans ?_ (V_g m c d)
  unfold iblk
  rw [View.read_apply]
  show V m c main_v1 _ = _
  congr 1
  funext a
  refine Fin.ext ?_
  match a with
  | ⟨0, _⟩ => show win0_1.index t (0 : Fin 2) * 1 + 1 * 0 = 0; omega
  | ⟨1, _⟩ => show win0_1.index t (1 : Fin 2) * 2048 + 1 * d.val = d.val; omega

/-- The weights' block: columns `512 j + y`. -/
theorem blk2 (t : Fin cfg0.N) (d : Fin 2048) (y : Fin 512) (j : Fin 8192) (hj : j.val = 512 * (t.val % 16) + y.val) :
    iblk m c 2 t (ix2 d y) = argW m c (ix2 d j) := by
  obtain ⟨h0, h1⟩ := idx2 t
  refine Eq.trans ?_ (V_w m c d j)
  unfold iblk
  rw [View.read_apply]
  show V m c main_arg2 _ = _
  congr 1
  funext a
  refine Fin.ext ?_
  match a with
  | ⟨0, _⟩ => show win0_2.index t (0 : Fin 2) * 2048 + 1 * d.val = d.val; omega
  | ⟨1, _⟩ => show win0_2.index t (1 : Fin 2) * 512 + 1 * y.val = j.val; omega

/-- The norm's block at a point, at an index. -/
theorem norm_at (t : Fin cfg0.N) (r : Fin 1024) (d : Fin 2048) (s : Fin 8192) (hs : s.val = 1024 * (t.val / 16) + r.val) :
    (k0_pay1 (F := Ideal) (iblk m c 0 t) (iblk m c 1 t) (ix2 r d) : EReal) = normed (argX m c) (argG m c) s d := by
  refine (pay1_apply _ _ r d).trans ?_
  unfold normed
  rw [blk0 m c t r d s hs, blk1 m c t d, Finset.sum_congr rfl fun e _ => by rw [blk0 m c t r e s hs]]

/-- THE INVARIANT: at every point the scratch buffer holds the normed rows of the point's row block. -/
theorem scratch_at : ∀ (k : ℕ) (hk : k < cfg0.N) (r : Fin 1024) (d : Fin 2048) (s : Fin 8192), s.val = 1024 * (k / 16) + r.val →
    ((outsAt0 m c k hk).2 (ix2 r d) : EReal) = normed (argX m c) (argG m c) s d := by
  intro k
  induction k using Nat.strong_induction_on with
  | _ k ih =>
  intro hk r d s hs
  by_cases h0 : k % 16 = 0
  · rw [outsAt0_A m c ⟨k, hk⟩ h0]
    dsimp only
    rw [scratch_A (F := Ideal)]
    exact norm_at m c ⟨k, hk⟩ r d s hs
  · rw [outsAt0_B m c ⟨k, hk⟩ h0]
    dsimp only
    unfold sout0_B_0
    exact ih (k - 1) (by omega) (Nat.lt_of_le_of_lt (Nat.sub_le _ _) hk) r d s (by rw [hs]; omega)

/-- What a point writes: the product of the normed rows with its block of weights. -/
theorem out_at (t : Fin cfg0.N) (r : Fin 1024) (y : Fin 512) (s : Fin 8192) (j : Fin 8192)
    (hs : s.val = 1024 * (t.val / 16) + r.val) (hj : j.val = 512 * (t.val % 16) + y.val) :
    ((outsAt0 m c t.val t.isLt).1 (ix2 r y) : EReal) = ∑ d : Fin 2048, normed (argX m c) (argG m c) s d * argW m c (ix2 d j) := by
  by_cases h0 : t.val % 16 = 0
  · rw [outsAt0_A m c t h0]
    dsimp only
    rw [out_A (F := Ideal)]
    refine (pay2_apply _ _ r y).trans (Finset.sum_congr rfl fun d _ => ?_)
    rw [norm_at m c t r d s hs, blk2 m c t d y j hj]
  · rw [outsAt0_B m c t h0]
    dsimp only
    rw [out_B (F := Ideal)]
    refine (pay2_apply _ _ r y).trans (Finset.sum_congr rfl fun d _ => ?_)
    rw [scratch_at m c (t.val - 1) _ r d s (by rw [hs]; omega), blk2 m c t d y j hj]

/-- THE KERNEL'S RESULT at row `s`, column `j`. -/
theorem result_at (s : Fin 8192) (j : Fin 8192) :
    (Cert.InProjIdeal.Value.G3 m c (ix2 s j) : EReal) = ∑ d : Fin 2048, normed (argX m c) (argG m c) s d * argW m c (ix2 d j) := by
  have hN : cfg0.N = 128 := N_0
  have hpt : Cert.InProjIdeal.Value.pt3Of (ix2 s j) = 16 * (s.val / 1024) + j.val / 512 := by
    show 16 * (s.val / 1024 - 0) + 1 * (j.val / 512 - 0) = _
    omega
  have hlt : Cert.InProjIdeal.Value.pt3Of (ix2 s j) < cfg0.N := by rw [hpt, hN]; omega
  have hloc : Cert.InProjIdeal.Value.loc3Of (ix2 s j) = ix2 ⟨s.val % 1024, Nat.mod_lt _ (by decide)⟩ ⟨j.val % 512, Nat.mod_lt _ (by decide)⟩ := by
    funext a
    refine Fin.ext ?_
    match a with
    | ⟨0, _⟩ => rfl
    | ⟨1, _⟩ => rfl
  generalize hk : Cert.InProjIdeal.Value.pt3Of (ix2 s j) = k at hpt hlt
  have e : (Cert.InProjIdeal.Value.G3 m c (ix2 s j) : EReal)
      = (outsAt0 m c k hlt).1 (ix2 ⟨s.val % 1024, Nat.mod_lt _ (by decide)⟩ ⟨j.val % 512, Nat.mod_lt _ (by decide)⟩) := by
    unfold Cert.InProjIdeal.Value.G3
    subst hk
    rw [dif_pos hlt, hloc, ← Cert.InProjIdeal.Value.outsAt0_sweep m c _ hlt]
  rw [e]
  exact out_at m c ⟨k, hlt⟩ _ _ s j (by show s.val = 1024 * (k / 16) + s.val % 1024; omega) (by show j.val = 512 * (k % 16) + j.val % 512; omega)

/-- The reference's normed input, at an index. -/
theorem ref_normed (x : S1x8192x2048.Idx → EReal) (g : S2048.Idx → EReal) (s : Fin 8192) (d : Fin 2048) :
    (Cert.InProjRefIdeal.Read.val_main_v12 (F := Ideal) x g (ix3 0 s d) : EReal) = normed x g s d := by
  rw [Cert.InProjRefIdeal.Read.val_main_v12_apply, Cert.InProjRefIdeal.Read.val_main_v9_apply, Cert.InProjRefIdeal.Read.val_main_v8_apply,
    Cert.InProjRefIdeal.Read.val_main_v7_apply, Cert.InProjRefIdeal.Read.val_main_v6_apply, Cert.InProjRefIdeal.Read.val_main_v5_apply,
    Cert.InProjRefIdeal.Read.val_main_cst_1_apply, Cert.InProjRefIdeal.Read.val_main_v4_apply, Cert.InProjRefIdeal.Read.val_main_v3_apply,
    Cert.InProjRefIdeal.Read.val_main_cst_0_apply, Cert.InProjRefIdeal.Read.val_main_v2_apply, Cert.InProjRefIdeal.Read.val_main_v1_apply,
    Cert.InProjRefIdeal.Read.val_main_cst_apply, Cert.InProjRefIdeal.Read.val_main_v11_apply, Cert.InProjRefIdeal.Read.val_main_v10_apply]
  rw [show (FloatOps.ofBits .f32 0x00000000#32 : Ideal .f32) = (0 : EReal) from Ideal.ofBits_zero_f32, zero_add]
  rw [Finset.sum_congr rfl fun e _ => (show (Cert.InProjRefIdeal.Read.val_main_v0 (F := Ideal) x
      (Cert.InProjRefIdeal.Read.idx_main_v1 (Cert.InProjRefIdeal.Read.idx_main_v2 (Cert.InProjRefIdeal.Read.idx_main_v8 (ix3 0 s d))) e) : EReal)
        = x (ix3 0 s e) * x (ix3 0 s e) from by
    rw [show Cert.InProjRefIdeal.Read.idx_main_v1 (Cert.InProjRefIdeal.Read.idx_main_v2 (Cert.InProjRefIdeal.Read.idx_main_v8 (ix3 0 s d))) e = ix3 0 s e from by
      funext a; match a with | ⟨0, _⟩ => rfl | ⟨1, _⟩ => rfl | ⟨2, _⟩ => rfl]
    exact Cert.InProjRefIdeal.Read.val_main_v0_apply (F := Ideal) x _)]
  rw [show Cert.InProjRefIdeal.Read.idx_main_v10 (Cert.InProjRefIdeal.Read.idx_main_v11 (ix3 0 s d)) = ix1 d from by
    funext a; match a with | ⟨0, _⟩ => rfl]
  rfl

/-- THE REFERENCE'S RESULT at row `s`, column `j`. -/
theorem ref_at (x : S1x8192x2048.Idx → EReal) (g : S2048.Idx → EReal) (w : S2048x8192.Idx → EReal) (s : Fin 8192) (j : Fin 8192) :
    (Cert.InProjRefIdeal.Read.val_main_v15 (F := Ideal) x g w (ix2 s j) : EReal) = ∑ d : Fin 2048, normed x g s d * w (ix2 d j) := by
  rw [Cert.InProjRefIdeal.Read.val_main_v15_apply, Cert.InProjRefIdeal.Read.val_main_v14_apply]
  rw [show Cert.InProjRefIdeal.Read.idx_main_v14 (ix2 s j) = ix3 0 s j from by
    funext a
    refine Fin.ext ?_
    match a with
    | ⟨0, _⟩ => rfl
    | ⟨1, _⟩ => show (s.val * 8192 + j.val) / 8192 % 8192 = s.val; omega
    | ⟨2, _⟩ => show (s.val * 8192 + j.val) % 8192 = j.val; omega]
  refine (Cert.InProjRefIdeal.Read.val_main_v13_apply x g w (ix3 0 s j)).trans (Finset.sum_congr rfl fun d _ => ?_)
  rw [show Cert.InProjRefIdeal.Read.lidx_main_v13 (ix3 0 s j) d = ix3 0 s d from by
      funext a; match a with | ⟨0, _⟩ => rfl | ⟨1, _⟩ => rfl | ⟨2, _⟩ => rfl,
    show Cert.InProjRefIdeal.Read.ridx_main_v13 (ix3 0 s j) d = ix2 d j from by
      funext a; match a with | ⟨0, _⟩ => rfl | ⟨1, _⟩ => rfl,
    ref_normed]

/-- AGREEMENT: the kernel's array is the reference's value of the same arguments. -/
theorem agree : Cert.InProjIdeal.Value.G3 m c
    = Cert.InProjRefIdeal.Read.val_main_v15 (F := Ideal) (m (c.tc.loc main_arg0)) (m (c.tc.loc main_arg1)) (m (c.tc.loc main_arg2)) := by
  funext i
  rw [show i = ix2 (i 0) (i 1) from by funext a; match a with | ⟨0, _⟩ => rfl | ⟨1, _⟩ => rfl]
  exact (result_at m c (i 0) (i 1)).trans (ref_at (argX m c) (argG m c) (argW m c) (i 0) (i 1)).symm

/-- The reference runs to its end, with no count left over. -/
theorem reference_runs : Cert.quiescent_InProjRefIdeal (hInProjRefIdeal := Cert.InProjRefIdeal.Gen.facts) := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- THE CALL'S VALUE: its result is the plain norm and product of the arguments. -/
theorem value : Cert.algebraic_InProjIdeal_InProjRefIdeal (hInProjIdeal := Cert.InProjIdeal.Gen.facts)
    (hInProjRefIdeal := Cert.InProjRefIdeal.Gen.facts) := by
  intro m ρ m' ρ' hpre hagree
  refine ⟨_, Cert.InProjIdeal.Value.run (F := Ideal) m ρ, ?_⟩
  refine (θ_run Cert.InProjRefIdeal.defs _ _).mono (fun _ h c => ⟨?_, (h c).2⟩) (Cert.InProjRefIdeal.Value.run (F := Ideal) m' ρ')
  obtain ⟨e0, e1, e2⟩ := hagree c
  rw [(h c).1, Cert.InProjRefIdeal.Read.val_main_v15_eq, e0, e1, e2]
  exact (agree m c).symm

end Cert.InProjIdeal.Call

end
-- ==== Proof.MergeCall.lean ====
/- The call `merge`: its gates and its gated sum of two products, entry by entry, against the plain gates and sum. -/
module

public import proofs.«01_k».proof.Defs
public import proofs.«01_k».proof.Proof.Gen.Merge.Frame
public import proofs.«01_k».proof.Proof.Gen.MergeIdeal.Value
public import proofs.«01_k».proof.Proof.Gen.MergeRefIdeal.Read
public import Idealize.ShloMosaic.Adequacy
public import Idealize.ShloMosaic.Init
public import Idealize.ShloMosaic.Lib.Quiescent
public import Idealize.ShloMosaic.Lib.IdealHost
public import Idealize.ShloMosaic.Lib.Pointwise
public import Idealize.ShloMosaic.Lib.Pipeline.ReadBack
public import Idealize.ShloMosaic.Lib.Pipeline.Value
public import Idealize.ShloMosaic.Lib.StableHlo.ReadAt

@[expose] public section

noncomputable section

namespace Cert.MergeIdeal.Call

open Idealize.ShloMosaic Idealize.SL.Sem
open Cert.MergeIdeal Cert.MergeIdeal.Gen

/-- The zero start of a 2-axis view, as a constant function. -/
theorem hz2 : (![0, 0] : Fin 2 → ℕ) = fun _ => 0 := by funext a; fin_cases a <;> rfl

/-- The gate's sigmoid. -/
def gate (z : EReal) : EReal := Ideal.div (Ideal.ofBits .f32 0x3F800000#32) (Ideal.ofBits .f32 0x3F800000#32 + Ideal.exp (-z))

/-- An entry of the gated sum. -/
def merged (ys ya : S8192x1024.Idx → EReal) (ws wa : S1024x2048.Idx → EReal) (p : S8192x8192.Idx → EReal) (b : S2x2048.Idx → EReal)
    (s : Fin 8192) (j : Fin 2048) : EReal :=
  gate (p (ix2 s ⟨4096 + j.val, by omega⟩) + b (ix2 0 j)) * (∑ d : Fin 1024, ys (ix2 s d) * ws (ix2 d j))
    + gate (p (ix2 s ⟨6144 + j.val, by omega⟩) + b (ix2 1 j)) * (∑ d : Fin 1024, ya (ix2 s d) * wa (ix2 d j))

/-- What a point computes, at an index of its block. -/
theorem pay_apply (b : Vec Ideal S2x512 .f32) (p0 p1 : Vec Ideal S1024x512 .bf16) (ys ya : Vec Ideal S1024x1024 .bf16)
    (ws wa : Vec Ideal S1024x512 .bf16) (r : Fin 1024) (y : Fin 512) :
    k0_pay1 (F := Ideal) (k0_pay2 b p1) (k0_pay3 b p0 ys ws) (k0_pay4 ya wa) (ix2 r y)
      = gate (p0 (ix2 r y) + b (ix2 0 y)) * (∑ d : Fin 1024, ys (ix2 r d) * ws (ix2 d y))
        + gate (p1 (ix2 r y) + b (ix2 1 y)) * (∑ d : Fin 1024, ya (ix2 r d) * wa (ix2 d y)) := by
  unfold k0_pay1 k0_pay2 k0_pay3 k0_pay4 gate
  pointwise
  simp only [zero_sub]

/-- What a point stores: that value, whole. -/
theorem out_eq (x0 : Vec Ideal S1024x1024 .bf16) (x1 : Vec Ideal S1024x1024 .bf16) (x2 x3 x4 x5 : Vec Ideal S1024x512 .bf16) (x6 : Vec Ideal S2x512 .f32) :
    out0_7 (F := Ideal) x0 x1 x2 x3 x4 x5 x6 = k0_pay1 (k0_pay2 x6 x5) (k0_pay3 x6 x4 x0 x2) (k0_pay4 x1 x3) := by
  unfold out0_7
  refine (View.canon_unit_zero (S := S1024x512) hz2 _ _).trans ?_
  have l0 : View.ld x6 r0_0 = x6 := View.ld_unit_zero (S := S2x512) hz2 _ _
  have l1 : View.ld x5 r0_1 = x5 := View.ld_unit_zero (S := S1024x512) hz2 _ _
  have l2 : View.ld x4 r0_1 = x4 := View.ld_unit_zero (S := S1024x512) hz2 _ _
  have l3 : View.ld x0 r0_2 = x0 := View.ld_unit_zero (S := S1024x1024) hz2 _ _
  have l4 : View.ld x2 r0_1 = x2 := View.ld_unit_zero (S := S1024x512) hz2 _ _
  have l5 : View.ld x1 r0_2 = x1 := View.ld_unit_zero (S := S1024x1024) hz2 _ _
  have l6 : View.ld x3 r0_1 = x3 := View.ld_unit_zero (S := S1024x512) hz2 _ _
  rw [l0, l1, l2, l3, l4, l5, l6]

variable (m : (ℓ : Loc nD τ sig) → Buf (Elt Ideal) ℓ) (c : Dev nD)

/-- The arguments, as arrays of extended reals. -/
abbrev argYs : S8192x1024.Idx → EReal := m (c.tc.loc main_arg0)
/-- The argument in buffer `main_arg1`. -/
abbrev argYa : S8192x1024.Idx → EReal := m (c.tc.loc main_arg1)
/-- The argument in buffer `main_arg2`. -/
abbrev argWs : S1024x2048.Idx → EReal := m (c.tc.loc main_arg2)
/-- The argument in buffer `main_arg3`. -/
abbrev argWa : S1024x2048.Idx → EReal := m (c.tc.loc main_arg3)
/-- The argument in buffer `main_arg4`. -/
abbrev argP : S8192x8192.Idx → EReal := m (c.tc.loc main_arg4)
/-- The argument in buffer `main_arg5`. -/
abbrev argB : S2x2048.Idx → EReal := m (c.tc.loc main_arg5)

/-- The buffer the call reads, as a function of the argument it is prepared from. -/
theorem V_ys (a : Fin 8192) (b : Fin 1024) : V m c main_v0 (ix2 a b) = argYs m c (ix2 a b) := by
  unfold V
  after_reads_at
  try rfl

/-- The buffer the call reads, as a function of the argument it is prepared from. -/
theorem V_ya (a : Fin 8192) (b : Fin 1024) : V m c main_v1 (ix2 a b) = argYa m c (ix2 a b) := by
  unfold V
  after_reads_at
  try rfl

/-- The buffer the call reads, as a function of the argument it is prepared from. -/
theorem V_ws (a : Fin 1024) (b : Fin 2048) : V m c main_v2 (ix2 a b) = argWs m c (ix2 a b) := by
  unfold V
  after_reads_at
  try rfl

/-- The buffer the call reads, as a function of the argument it is prepared from. -/
theorem V_wa (a : Fin 1024) (b : Fin 2048) : V m c main_v3 (ix2 a b) = argWa m c (ix2 a b) := by
  unfold V
  after_reads_at
  try rfl

/-- The buffer the call reads, as a function of the argument it is prepared from. -/
theorem V_p (a : Fin 8192) (b : Fin 8192) : V m c main_arg4 (ix2 a b) = argP m c (ix2 a b) := by
  unfold V
  after_reads_at
  try rfl

/-- The buffer the call reads, as a function of the argument it is prepared from. -/
theorem V_b (a : Fin 2) (b : Fin 2048) : V m c main_arg5 (ix2 a b) = argB m c (ix2 a b) := by
  unfold V
  after_reads_at
  try rfl

/-- The printed index maps, decided over the grid. -/
theorem idx0 : ∀ t : Fin cfg0.N, win0_0.index t (0 : Fin 2) = t.val / 4 ∧ win0_0.index t (1 : Fin 2) = 0 := by decide +kernel
/-- Which block of operand 1 a grid step holds. -/
theorem idx1 : ∀ t : Fin cfg0.N, win0_1.index t (0 : Fin 2) = t.val / 4 ∧ win0_1.index t (1 : Fin 2) = 0 := by decide +kernel
/-- Which block of operand 2 a grid step holds. -/
theorem idx2 : ∀ t : Fin cfg0.N, win0_2.index t (0 : Fin 2) = 0 ∧ win0_2.index t (1 : Fin 2) = t.val % 4 := by decide +kernel
/-- Which block of operand 3 a grid step holds. -/
theorem idx3 : ∀ t : Fin cfg0.N, win0_3.index t (0 : Fin 2) = 0 ∧ win0_3.index t (1 : Fin 2) = t.val % 4 := by decide +kernel
/-- Which block of operand 4 a grid step holds. -/
theorem idx4 : ∀ t : Fin cfg0.N, win0_4.index t (0 : Fin 2) = t.val / 4 ∧ win0_4.index t (1 : Fin 2) = 8 + t.val % 4 := by decide +kernel
/-- Which block of operand 5 a grid step holds. -/
theorem idx5 : ∀ t : Fin cfg0.N, win0_5.index t (0 : Fin 2) = t.val / 4 ∧ win0_5.index t (1 : Fin 2) = 12 + t.val % 4 := by decide +kernel
/-- Which block of operand 6 a grid step holds. -/
theorem idx6 : ∀ t : Fin cfg0.N, win0_6.index t (0 : Fin 2) = 0 ∧ win0_6.index t (1 : Fin 2) = t.val % 4 := by decide +kernel
/-- Which block of operand 7 a grid step holds. -/
theorem idx7 : ∀ t : Fin cfg0.N, win0_7.index t (0 : Fin 2) = t.val / 4 ∧ win0_7.index t (1 : Fin 2) = t.val % 4 := by decide +kernel

/-- The operands' blocks at a point. -/
theorem blk0 (t : Fin cfg0.N) (r : Fin 1024) (y : Fin 1024) (s : Fin 8192) (j : Fin 1024)
    (hs : s.val = 1024 * (t.val / 4) + r.val) (hj : j.val = 1024 * (0) + y.val) :
    iblk m c 0 t (ix2 r y) = argYs m c (ix2 s j) := by
  obtain ⟨h0, h1⟩ := idx0 t
  refine Eq.trans ?_ (V_ys m c s j)
  unfold iblk
  rw [View.read_apply]
  show V m c main_v0 _ = _
  congr 1
  funext a
  refine Fin.ext ?_
  match a with
  | ⟨0, _⟩ => show win0_0.index t (0 : Fin 2) * 1024 + 1 * r.val = s.val; omega
  | ⟨1, _⟩ => show win0_0.index t (1 : Fin 2) * 1024 + 1 * y.val = j.val; omega

/-- The block of operand 1 a grid step reads, entry by entry. -/
theorem blk1 (t : Fin cfg0.N) (r : Fin 1024) (y : Fin 1024) (s : Fin 8192) (j : Fin 1024)
    (hs : s.val = 1024 * (t.val / 4) + r.val) (hj : j.val = 1024 * (0) + y.val) :
    iblk m c 1 t (ix2 r y) = argYa m c (ix2 s j) := by
  obtain ⟨h0, h1⟩ := idx1 t
  refine Eq.trans ?_ (V_ya m c s j)
  unfold iblk
  rw [View.read_apply]
  show V m c main_v1 _ = _
  congr 1
  funext a
  refine Fin.ext ?_
  match a with
  | ⟨0, _⟩ => show win0_1.index t (0 : Fin 2) * 1024 + 1 * r.val = s.val; omega
  | ⟨1, _⟩ => show win0_1.index t (1 : Fin 2) * 1024 + 1 * y.val = j.val; omega

/-- The block of operand 2 a grid step reads, entry by entry. -/
theorem blk2 (t : Fin cfg0.N) (r : Fin 1024) (y : Fin 512) (s : Fin 1024) (j : Fin 2048)
    (hs : s.val = 1024 * (0) + r.val) (hj : j.val = 512 * (t.val % 4) + y.val) :
    iblk m c 2 t (ix2 r y) = argWs m c (ix2 s j) := by
  obtain ⟨h0, h1⟩ := idx2 t
  refine Eq.trans ?_ (V_ws m c s j)
  unfold iblk
  rw [View.read_apply]
  show V m c main_v2 _ = _
  congr 1
  funext a
  refine Fin.ext ?_
  match a with
  | ⟨0, _⟩ => show win0_2.index t (0 : Fin 2) * 1024 + 1 * r.val = s.val; omega
  | ⟨1, _⟩ => show win0_2.index t (1 : Fin 2) * 512 + 1 * y.val = j.val; omega

/-- The block of operand 3 a grid step reads, entry by entry. -/
theorem blk3 (t : Fin cfg0.N) (r : Fin 1024) (y : Fin 512) (s : Fin 1024) (j : Fin 2048)
    (hs : s.val = 1024 * (0) + r.val) (hj : j.val = 512 * (t.val % 4) + y.val) :
    iblk m c 3 t (ix2 r y) = argWa m c (ix2 s j) := by
  obtain ⟨h0, h1⟩ := idx3 t
  refine Eq.trans ?_ (V_wa m c s j)
  unfold iblk
  rw [View.read_apply]
  show V m c main_v3 _ = _
  congr 1
  funext a
  refine Fin.ext ?_
  match a with
  | ⟨0, _⟩ => show win0_3.index t (0 : Fin 2) * 1024 + 1 * r.val = s.val; omega
  | ⟨1, _⟩ => show win0_3.index t (1 : Fin 2) * 512 + 1 * y.val = j.val; omega

/-- The block of operand 4 a grid step reads, entry by entry. -/
theorem blk4 (t : Fin cfg0.N) (r : Fin 1024) (y : Fin 512) (s : Fin 8192) (j : Fin 8192)
    (hs : s.val = 1024 * (t.val / 4) + r.val) (hj : j.val = 512 * (8 + t.val % 4) + y.val) :
    iblk m c 4 t (ix2 r y) = argP m c (ix2 s j) := by
  obtain ⟨h0, h1⟩ := idx4 t
  refine Eq.trans ?_ (V_p m c s j)
  unfold iblk
  rw [View.read_apply]
  show V m c main_arg4 _ = _
  congr 1
  funext a
  refine Fin.ext ?_
  match a with
  | ⟨0, _⟩ => show win0_4.index t (0 : Fin 2) * 1024 + 1 * r.val = s.val; omega
  | ⟨1, _⟩ => show win0_4.index t (1 : Fin 2) * 512 + 1 * y.val = j.val; omega

/-- The block of operand 5 a grid step reads, entry by entry. -/
theorem blk5 (t : Fin cfg0.N) (r : Fin 1024) (y : Fin 512) (s : Fin 8192) (j : Fin 8192)
    (hs : s.val = 1024 * (t.val / 4) + r.val) (hj : j.val = 512 * (12 + t.val % 4) + y.val) :
    iblk m c 5 t (ix2 r y) = argP m c (ix2 s j) := by
  obtain ⟨h0, h1⟩ := idx5 t
  refine Eq.trans ?_ (V_p m c s j)
  unfold iblk
  rw [View.read_apply]
  show V m c main_arg4 _ = _
  congr 1
  funext a
  refine Fin.ext ?_
  match a with
  | ⟨0, _⟩ => show win0_5.index t (0 : Fin 2) * 1024 + 1 * r.val = s.val; omega
  | ⟨1, _⟩ => show win0_5.index t (1 : Fin 2) * 512 + 1 * y.val = j.val; omega

/-- The block of operand 6 a grid step reads, entry by entry. -/
theorem blk6 (t : Fin cfg0.N) (r : Fin 2) (y : Fin 512) (s : Fin 2) (j : Fin 2048)
    (hs : s.val = 2 * (0) + r.val) (hj : j.val = 512 * (t.val % 4) + y.val) :
    iblk m c 6 t (ix2 r y) = argB m c (ix2 s j) := by
  obtain ⟨h0, h1⟩ := idx6 t
  refine Eq.trans ?_ (V_b m c s j)
  unfold iblk
  rw [View.read_apply]
  show V m c main_arg5 _ = _
  congr 1
  funext a
  refine Fin.ext ?_
  match a with
  | ⟨0, _⟩ => show win0_6.index t (0 : Fin 2) * 2 + 1 * r.val = s.val; omega
  | ⟨1, _⟩ => show win0_6.index t (1 : Fin 2) * 512 + 1 * y.val = j.val; omega

/-- Every grid step flushes operand 7. -/
theorem flush7 : ∀ t : Fin cfg0.N, (cfg0.win 7).flush t = true := by decide +kernel

/-- What a point leaves in the result, at an index. -/
theorem out_at (t : Fin cfg0.N) (r : Fin 1024) (y : Fin 512) (s : Fin 8192) (j : Fin 2048)
    (hs : s.val = 1024 * (t.val / 4) + r.val) (hj : j.val = 512 * (t.val % 4) + y.val) :
    (out0_7 (F := Ideal) (iblk m c 0 t) (iblk m c 1 t) (iblk m c 2 t) (iblk m c 3 t) (iblk m c 4 t) (iblk m c 5 t) (iblk m c 6 t) (ix2 r y) : EReal)
      = merged (argYs m c) (argYa m c) (argWs m c) (argWa m c) (argP m c) (argB m c) s j := by
  rw [out_eq]
  refine (pay_apply _ _ _ _ _ _ _ r y).trans ?_
  unfold merged
  rw [blk4 m c t r y s ⟨4096 + j.val, by omega⟩ hs (by show 4096 + j.val = _; omega),
    blk5 m c t r y s ⟨6144 + j.val, by omega⟩ hs (by show 6144 + j.val = _; omega),
    blk6 m c t 0 y 0 j (by rfl) hj, blk6 m c t 1 y 1 j (by rfl) hj]
  have b0 : ∀ d, iblk m c 0 t (ix2 r d) = argYs m c (ix2 s d) := fun d => blk0 m c t r d s d hs (by omega)
  have b1 : ∀ d, iblk m c 1 t (ix2 r d) = argYa m c (ix2 s d) := fun d => blk1 m c t r d s d hs (by omega)
  have b2 : ∀ d, iblk m c 2 t (ix2 d y) = argWs m c (ix2 d j) := fun d => blk2 m c t d y d j (by omega) hj
  have b3 : ∀ d, iblk m c 3 t (ix2 d y) = argWa m c (ix2 d j) := fun d => blk3 m c t d y d j (by omega) hj
  simp only [b0, b1, b2, b3]

/-- THE KERNEL'S RESULT at row `s`, column `j`. -/
theorem result_at (s : Fin 8192) (j : Fin 2048) :
    ((dats m 0 c).arrAt 7 cfg0.N (ix2 s j) : EReal) = merged (argYs m c) (argYa m c) (argWs m c) (argWa m c) (argP m c) (argB m c) s j := by
  have hN : cfg0.N = 32 := N_0
  let t : Fin cfg0.N := ⟨4 * (s.val / 1024) + j.val / 512, by omega⟩
  let r : Fin 1024 := ⟨s.val % 1024, Nat.mod_lt _ (by decide)⟩
  let y : Fin 512 := ⟨j.val % 512, Nat.mod_lt _ (by decide)⟩
  obtain ⟨h0, h1⟩ := idx7 t
  have ht : t.val = 4 * (s.val / 1024) + j.val / 512 := rfl
  have hb := congrFun (Cert.MergeIdeal.Value.blocks7 m c t (flush7 t)) (ix2 r y)
  rw [View.read_apply, Cert.MergeIdeal.Value.flushed7] at hb
  have he : ((cfg0.win 7).blk t).view.emb (ix2 r y) = (ix2 s j : S8192x2048.Idx) := by
    funext a
    refine Fin.ext ?_
    match a with
    | ⟨0, _⟩ => show win0_7.index t (0 : Fin 2) * 1024 + 1 * (s.val % 1024) = s.val; omega
    | ⟨1, _⟩ => show win0_7.index t (1 : Fin 2) * 512 + 1 * (j.val % 512) = j.val; omega
  have hx : (cfg0.win 7).xinj (grid0.coords t) (ix2 r y) = (ix2 r y : S1024x512.Idx) := by
    funext a
    refine Fin.ext ?_
    match a with
    | ⟨0, _⟩ => rfl
    | ⟨1, _⟩ => rfl
  rw [he] at hb
  rw [cast_eq] at hb
  rw [hb]
  show out0_7 (F := Ideal) _ _ _ _ _ _ _ ((cfg0.win 7).xinj (grid0.coords t) (ix2 r y)) = _
  rw [hx]
  exact out_at m c t r y s j (by show s.val = 1024 * (t.val / 4) + s.val % 1024; omega) (by show j.val = 512 * (t.val % 4) + j.val % 512; omega)

/-- The reference's gates: gate `g` at row `s`, column `j`. -/
theorem ref_gate (p : S8192x8192.Idx → EReal) (b : S2x2048.Idx → EReal) (s : Fin 8192) (g : Fin 2) (j : Fin 2048) (k : Fin 8192)
    (hk : k.val = 4096 + (2048 * g.val + j.val)) :
    (Cert.MergeRefIdeal.Read.val_main_v11 (F := Ideal) p b (ix3 s g j) : EReal) = gate (p (ix2 s k) + b (ix2 g j)) := by
  rw [Cert.MergeRefIdeal.Read.val_main_v11_apply, Cert.MergeRefIdeal.Read.val_main_v10_apply, Cert.MergeRefIdeal.Read.val_main_cst_0_apply,
    Cert.MergeRefIdeal.Read.val_main_v9_apply, Cert.MergeRefIdeal.Read.val_main_v8_apply, Cert.MergeRefIdeal.Read.val_main_cst_apply,
    Cert.MergeRefIdeal.Read.val_main_v7_apply, Cert.MergeRefIdeal.Read.val_main_v6_apply, Cert.MergeRefIdeal.Read.val_main_v5_apply,
    Cert.MergeRefIdeal.Read.val_main_v4_apply, Cert.MergeRefIdeal.Read.val_main_v3_apply, Cert.MergeRefIdeal.Read.val_main_v2_apply,
    Cert.MergeRefIdeal.Read.val_main_v1_apply, Cert.MergeRefIdeal.Read.val_main_v0_apply]
  rw [show Cert.MergeRefIdeal.Read.idx_main_v0 (Cert.MergeRefIdeal.Read.idx_main_v2 (ix3 s g j)) = ix2 s k from by
      funext a
      refine Fin.ext ?_
      match a with
      | ⟨0, _⟩ => show ((s.val * 2 + g.val) * 2048 + j.val) / 4096 = s.val; omega
      | ⟨1, _⟩ => show 4096 + ((s.val * 2 + g.val) * 2048 + j.val) % 4096 = k.val; omega,
    show Cert.MergeRefIdeal.Read.idx_main_v3 (Cert.MergeRefIdeal.Read.idx_main_v4 (ix3 s g j)) = ix2 g j from by
      funext a; match a with | ⟨0, _⟩ => rfl | ⟨1, _⟩ => rfl]
  rfl

/-- THE REFERENCE'S RESULT at row `s`, column `j`. -/
theorem ref_at (ys ya : S8192x1024.Idx → EReal) (ws wa : S1024x2048.Idx → EReal) (p : S8192x8192.Idx → EReal) (b : S2x2048.Idx → EReal)
    (s : Fin 8192) (j : Fin 2048) :
    (Cert.MergeRefIdeal.Read.val_main_v21 (F := Ideal) ys ya ws wa p b (ix2 s j) : EReal) = merged ys ya ws wa p b s j := by
  rw [Cert.MergeRefIdeal.Read.val_main_v21_apply, Cert.MergeRefIdeal.Read.val_main_v20_apply, Cert.MergeRefIdeal.Read.val_main_v19_apply,
    Cert.MergeRefIdeal.Read.val_main_v17_apply, Cert.MergeRefIdeal.Read.val_main_v16_apply, Cert.MergeRefIdeal.Read.val_main_v15_apply,
    Cert.MergeRefIdeal.Read.val_main_v13_apply, Cert.MergeRefIdeal.Read.val_main_v12_apply]
  rw [show Cert.MergeRefIdeal.Read.idx_main_v12 (Cert.MergeRefIdeal.Read.idx_main_v13 (ix2 s j)) = ix3 s 0 j from by
      funext a
      refine Fin.ext ?_
      match a with
      | ⟨0, _⟩ => show (s.val * 2048 + j.val) / 2048 = s.val; omega
      | ⟨1, _⟩ => rfl
      | ⟨2, _⟩ => show (s.val * 2048 + j.val) % 2048 = j.val; omega,
    show Cert.MergeRefIdeal.Read.idx_main_v16 (Cert.MergeRefIdeal.Read.idx_main_v17 (ix2 s j)) = ix3 s 1 j from by
      funext a
      refine Fin.ext ?_
      match a with
      | ⟨0, _⟩ => show (s.val * 2048 + j.val) / 2048 = s.val; omega
      | ⟨1, _⟩ => rfl
      | ⟨2, _⟩ => show (s.val * 2048 + j.val) % 2048 = j.val; omega]
  rw [Cert.MergeRefIdeal.Read.val_main_v14_apply, Cert.MergeRefIdeal.Read.val_main_v18_apply]
  have hl : ∀ d, Cert.MergeRefIdeal.Read.lidx_main_v14 (ix2 s j) d = ix2 s d := fun d => by
    funext a; match a with | ⟨0, _⟩ => rfl | ⟨1, _⟩ => rfl
  have hr : ∀ d, Cert.MergeRefIdeal.Read.ridx_main_v14 (ix2 s j) d = ix2 d j := fun d => by
    funext a; match a with | ⟨0, _⟩ => rfl | ⟨1, _⟩ => rfl
  have hl' : ∀ d, Cert.MergeRefIdeal.Read.lidx_main_v18 (ix2 s j) d = ix2 s d := fun d => by
    funext a; match a with | ⟨0, _⟩ => rfl | ⟨1, _⟩ => rfl
  have hr' : ∀ d, Cert.MergeRefIdeal.Read.ridx_main_v18 (ix2 s j) d = ix2 d j := fun d => by
    funext a; match a with | ⟨0, _⟩ => rfl | ⟨1, _⟩ => rfl
  simp only [hl, hr, hl', hr']
  unfold merged
  rw [← ref_gate p b s 0 j ⟨4096 + j.val, by omega⟩ (by show 4096 + j.val = 4096 + (2048 * 0 + j.val); omega),
    ← ref_gate p b s 1 j ⟨6144 + j.val, by omega⟩ (by show 6144 + j.val = 4096 + (2048 * 1 + j.val); omega)]
  rfl

/-- AGREEMENT: the kernel's array is the reference's value of the same arguments. -/
theorem agree : (dats m 0 c).arrAt 7 cfg0.N
    = Cert.MergeRefIdeal.Read.val_main_v21 (F := Ideal) (m (c.tc.loc main_arg0)) (m (c.tc.loc main_arg1)) (m (c.tc.loc main_arg2))
      (m (c.tc.loc main_arg3)) (m (c.tc.loc main_arg4)) (m (c.tc.loc main_arg5)) := by
  funext i
  rw [show i = ix2 (i 0) (i 1) from by funext a; match a with | ⟨0, _⟩ => rfl | ⟨1, _⟩ => rfl]
  exact (result_at m c (i 0) (i 1)).trans (ref_at (argYs m c) (argYa m c) (argWs m c) (argWa m c) (argP m c) (argB m c) (i 0) (i 1)).symm

/-- The reference runs to its end, with no count left over. -/
theorem reference_runs : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- THE CALL'S VALUE: its result is the plain gated sum of the arguments. -/
theorem value : Cert.algebraic_MergeIdeal_MergeRefIdeal (hMergeIdeal := Cert.MergeIdeal.Gen.facts)
    (hMergeRefIdeal := Cert.MergeRefIdeal.Gen.facts) := by
  intro m ρ m' ρ' hpre hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  obtain ⟨e0, e1, e2, e3, e4, e5⟩ := hagree c
  rw [(h c).1, Cert.MergeRefIdeal.Read.val_main_v21_eq, e0, e1, e2, e3, e4, e5]
  exact (agree m c).symm

end Cert.MergeIdeal.Call

end
-- ==== Proof.OutProjCall.lean ====
/- The call `outproj_router`: the output projection, the norm and the router, entry by entry, against the plain projection, norm and softmax. -/
module

public import proofs.«01_k».proof.Defs
public import proofs.«01_k».proof.Proof.Gen.OutProj.Frame
public import proofs.«01_k».proof.Proof.Gen.OutProjIdeal.Value
public import proofs.«01_k».proof.Proof.Gen.OutProjRefIdeal.Read
public import proofs.«01_k».proof.Proof.Gen.Pre_finite_out
public import proofs.«01_k».proof.Proof.Finite
public import proofs.«01_k».proof.Proof.RefValue
public import Idealize.ShloMosaic.Adequacy
public import Idealize.ShloMosaic.Init
public import Idealize.ShloMosaic.Lib.Quiescent
public import Idealize.ShloMosaic.Lib.IdealHost
public import Idealize.ShloMosaic.Lib.Pointwise
public import Idealize.ShloMosaic.Lib.Pipeline.ReadBack
public import Idealize.ShloMosaic.Lib.Pipeline.Value
public import Idealize.ShloMosaic.Lib.StableHlo.ReadAt
public import Idealize.ShloMosaic.Lib.Routing.OpsOne
public import Idealize.ShloMosaic.Lib.ReduceAll
public import Idealize.ShloMosaic.Lib.KernelVsHost

@[expose] public section

noncomputable section

namespace Cert.OutProjIdeal.Call

open Idealize.ShloMosaic Idealize.SL.Sem
open Cert.OutProjIdeal Cert.OutProjIdeal.Gen

/-- The zero start of a two-axis view, as a constant function. -/
theorem hz2 : (![0, 0] : Fin 2 → ℕ) = fun _ => 0 := by funext a; fin_cases a <;> rfl

/-- A row through the norm of the channel mixer. -/
def nrm (z g : Fin 2048 → EReal) (d : Fin 2048) : EReal :=
  z d * Ideal.rsqrt (Ideal.div (∑ e : Fin 2048, z e * z e) (Ideal.ofBits .f32 0x45000000#32) + Ideal.ofBits .f32 0x358637BD#32) * g d

/-- A row of logits, the lanes beyond the experts at `-∞`. -/
def lane (z : Fin 128 → EReal) (i : Fin 128) : EReal := if i.val < 16 then z i else ⊥

/-- The kernel's test of a lane. -/
theorem lane_eq (z : Fin 128 → EReal) (i : Fin 128) :
    Scalar.select (IntOp.cmpi .slt (BitVec.ofNat 32 i.val) 16#32) (z i) (Ideal.ofBits .f32 0xFF800000#32) = lane z i := by
  have h : ∀ i : Fin 128, IntOp.cmpi .slt (BitVec.ofNat 32 i.val) 16#32 = if i.val < 16 then 1#1 else 0#1 := by decide
  unfold lane
  rw [h, Cert.KernelIdeal.Step.ofBits_bot]
  split <;> rfl

/-- A weight of the softmax over the 128 lanes. -/
def soft (z : Fin 128 → EReal) (j : Fin 128) : EReal :=
  Ideal.div (Ideal.exp (z j - Finset.univ.fold max ⊥ z)) (∑ i : Fin 128, Ideal.exp (z i - Finset.univ.fold max ⊥ z))

/-- The residual sum of a point, at an index of its block. -/
theorem pay2_apply (x : Vec Ideal S256x2048 .f32) (a : Vec Ideal S256x2048 .bf16) (w : Vec Ideal S2048x2048 .bf16) (r : Fin 256) (d : Fin 2048) :
    k0_pay2 (F := Ideal) x a w (ix2 r d) = x (ix2 r d) + ∑ e : Fin 2048, a (ix2 r e) * w (ix2 e d) := by
  unfold k0_pay2
  pointwise

/-- The normed row of a point, at an index of its block. -/
theorem pay3_apply (x : Vec Ideal S256x2048 .f32) (a : Vec Ideal S256x2048 .bf16) (w : Vec Ideal S2048x2048 .bf16) (g : Vec Ideal S1x2048 .f32)
    (r : Fin 256) (d : Fin 2048) :
    k0_pay3 (F := Ideal) x a w g (ix2 r d)
      = nrm (fun e => k0_pay2 (F := Ideal) x a w (ix2 r e)) (fun e => g (ix2 0 e)) d := by
  unfold k0_pay3 nrm
  pointwise

/-- The first two products of the logits, at an index of the block. -/
theorem pay5_apply (x : Vec Ideal S256x2048 .f32) (a : Vec Ideal S256x2048 .bf16) (w : Vec Ideal S2048x2048 .bf16) (g : Vec Ideal S1x2048 .f32)
    (h : Vec Ideal S2048x128 .bf16) (r : Fin 256) (j : Fin 128) :
    k0_pay5 (F := Ideal) x a w g h (ix2 r j)
      = (∑ e : Fin 2048, k0_pay3 (F := Ideal) x a w g (ix2 r e) * h (ix2 e j))
        + ∑ e : Fin 2048, (k0_pay3 (F := Ideal) x a w g (ix2 r e) - k0_pay3 (F := Ideal) x a w g (ix2 r e)) * h (ix2 e j) := by
  unfold k0_pay5 k0_pay4
  pointwise

/-- The softmax over the lanes of the experts, at an index of the block. -/
theorem pay1_apply (n : Vec Ideal S256x2048 .bf16) (l : Vec Ideal S256x128 .f32) (h : Vec Ideal S2048x128 .bf16) (r : Fin 256) (j : Fin 128) :
    k0_pay1 (F := Ideal) n l h (constant S256x128 .f32 0x00000000#32) (ix2 r j)
      = soft (lane fun i => l (ix2 r i) + ∑ e : Fin 2048, n (ix2 r e) * h (ix2 e i)) j := by
  unfold k0_pay1
  pointwise
  have hs : ∀ i : Fin 128, Scalar.select (IntOp.cmpi .slt (BitVec.ofNat 32 i.val) 16#32)
      (l (ix2 r i) + ∑ e : Fin 2048, n (ix2 r e) * h (ix2 e i)) (Ideal.ofBits .f32 0xFF800000#32)
        = lane (fun i => l (ix2 r i) + ∑ e : Fin 2048, n (ix2 r e) * h (ix2 e i)) i :=
    lane_eq fun i => l (ix2 r i) + ∑ e : Fin 2048, n (ix2 r e) * h (ix2 e i)
  simp only [hs]
  simp only [Cert.KernelIdeal.Step.ofBits_bot]
  rfl

/-- Where the update that writes the 16 router columns lands. -/
theorem lands (idx : IVec S1 32) (h0 : (idx (ix1 0)).toInt = 0) (a : Fin 2048) (b : Fin 16) (w : Fin 2048) (e : Fin 128) :
    scatter_S2048x128_S1_S2048x16_01_n_1_0.resultIdx? (ix2 a b) idx = some (ix2 w e) ↔ a = w ∧ b.val = e.val := by
  have hwin0 : scatter_S2048x128_S1_S2048x16_01_n_1_0.window (ix2 a b) 0 = a.val := by
    unfold ScatterDims.window
    rw [dif_pos (by decide)]
    rfl
  have hwin1 : scatter_S2048x128_S1_S2048x16_01_n_1_0.window (ix2 a b) 1 = b.val := by
    unfold ScatterDims.window
    rw [dif_pos (by decide)]
    rfl
  have hstart0 : scatter_S2048x128_S1_S2048x16_01_n_1_0.start (ix2 a b) idx 0 = 0 := by
    unfold ScatterDims.start
    rw [dif_neg (by decide)]
  have hstart1 : scatter_S2048x128_S1_S2048x16_01_n_1_0.start (ix2 a b) idx 1 = 0 := by
    unfold ScatterDims.start
    rw [dif_pos (by decide)]
    rw [show ∀ k, scatter_S2048x128_S1_S2048x16_01_n_1_0.siIdx (ix2 a b) k = ix1 (0 : Fin 1) from fun k => by
      funext b'
      match b' with
      | ⟨0, _⟩ => exact Subsingleton.elim (α := Fin 1) _ _]
    exact h0
  rw [Fin.ext_iff]
  refine (Routing.resultIdx?_ix2 (R := 2048) (C := 128) scatter_S2048x128_S1_S2048x16_01_n_1_0 (ix2 a b) idx w e).trans ?_
  rw [hstart0, hwin0, hstart1, hwin1]
  omega

/-- The router weights widened to 128 lanes: the 16 columns, and the zeros written beside them. -/
theorem wide (x0 : Vec Ideal S2048x128 .f32) (idx : IVec S1 32) (h0 : (idx (ix1 0)).toInt = 0) (u : Vec Ideal S2048x16 .f32) (w : Fin 2048) (e : Fin 128) :
    Host.scatter scatter_S2048x128_S1_S2048x16_01_n_1_0 (fun _ b => b) x0 idx u (ix2 w e)
      = if h : e.val < 16 then u (ix2 w ⟨e.val, h⟩) else x0 (ix2 w e) := by
  have hl : ∀ k : S2048x16.Idx, scatter_S2048x128_S1_S2048x16_01_n_1_0.resultIdx? k idx = some (ix2 w e) → k 0 = w ∧ (k 1).val = e.val := fun k hk =>
    (lands idx h0 (k 0) (k 1) w e).1 ((congrArg (fun t => scatter_S2048x128_S1_S2048x16_01_n_1_0.resultIdx? t idx)
      (show ix2 (k 0) (k 1) = k from by funext a; match a with | ⟨0, _⟩ => rfl | ⟨1, _⟩ => rfl)).trans hk)
  by_cases h : e.val < 16
  · rw [dif_pos h]
    refine Routing.scatter_set_hit _ x0 idx u _ _ (fun k hk => ?_) (ix2 w ⟨e.val, h⟩) ((lands idx h0 w ⟨e.val, h⟩ w e).2 ⟨rfl, rfl⟩)
    obtain ⟨h1, h2⟩ := hl k hk
    have hk : k = ix2 w ⟨e.val, h⟩ := by
      funext a
      match a with
      | ⟨0, _⟩ => exact h1
      | ⟨1, _⟩ => exact Fin.ext h2
    rw [hk]
  · rw [dif_neg h]
    exact Routing.scatter_set_miss _ x0 idx u _ fun k hk => h (by have := (hl k hk).2; have : (k 1).val < 16 := (k 1).isLt; omega)

variable (m : (ℓ : Loc nD τ sig) → Buf (Elt Ideal) ℓ) (c : Dev nD)

/-- The arguments, as arrays of extended reals. -/
abbrev argM : S8192x2048.Idx → EReal := m (c.tc.loc main_arg0)
/-- The argument in buffer `main_arg1`. -/
abbrev argW : S2048x2048.Idx → EReal := m (c.tc.loc main_arg1)
/-- The argument in buffer `main_arg2`. -/
abbrev argX : S8192x2048.Idx → EReal := m (c.tc.loc main_arg2)
/-- The argument in buffer `main_arg3`. -/
abbrev argG : S2048.Idx → EReal := m (c.tc.loc main_arg3)
/-- The argument in buffer `main_arg4`. -/
abbrev argR : S2048x16.Idx → EReal := m (c.tc.loc main_arg4)

/-- The buffer the call reads, as a function of the argument it is prepared from. -/
theorem V_m (a : Fin 8192) (b : Fin 2048) : V m c main_v0 (ix2 a b) = argM m c (ix2 a b) := by
  unfold V
  after_reads_at
  try rfl

/-- The buffer the call reads, as a function of the argument it is prepared from. -/
theorem V_w (a : Fin 2048) (b : Fin 2048) : V m c main_v1 (ix2 a b) = argW m c (ix2 a b) := by
  unfold V
  after_reads_at
  try rfl

/-- The buffer the call reads, as a function of the argument it is prepared from. -/
theorem V_x (a : Fin 8192) (b : Fin 2048) : V m c main_arg2 (ix2 a b) = argX m c (ix2 a b) := by
  unfold V
  after_reads_at
  try rfl

/-- The buffer the call reads, as a function of the argument it is prepared from. -/
theorem V_g (b : Fin 2048) : V m c main_v9 (ix2 0 b) = argG m c (ix1 b) := by
  unfold V
  after_reads_at
  try rfl

/-- The zeros the router's weights are written into. -/
theorem zeros_apply (a : Fin 2048) (b : Fin 128) :
    (broadcastInDim S2048x128 ![] bcast_S_S2048x128 (constant (F := Ideal) S_ .f32 0x00000000#32) (ix2 a b) : EReal) = 0 := Ideal.ofBits_zero_f32

/-- The router's weights, widened with zeros to 128 lanes. -/
def hi (w : S2048x16.Idx → EReal) (e : Fin 2048) (i : Fin 128) : EReal := if h : i.val < 16 then w (ix2 e ⟨i.val, h⟩) else 0

/-- The buffer the call reads, as a function of the argument it is prepared from. -/
theorem V_h (a : Fin 2048) (b : Fin 128) : V m c main_v5 (ix2 a b) = hi (argR m c) a b := by
  unfold V hi
  after_reads_at
  rw [wide _ _ (by rfl), zeros_apply]

/-- The buffer the call reads, as a function of the argument it is prepared from. -/
theorem V_l (a : Fin 2048) (b : Fin 128) : V m c main_v8 (ix2 a b) = hi (argR m c) a b - hi (argR m c) a b := by
  unfold V hi
  after_reads_at
  rw [wide _ _ (by rfl), zeros_apply]

/-- The printed index maps, decided over the grid. -/
theorem idx0 : ∀ t : Fin cfg0.N, win0_0.index t (0 : Fin 2) = t.val ∧ win0_0.index t (1 : Fin 2) = 0 := by decide +kernel
/-- Which block of operand 1 a grid step holds. -/
theorem idx1 : ∀ t : Fin cfg0.N, win0_1.index t (0 : Fin 2) = 0 ∧ win0_1.index t (1 : Fin 2) = 0 := by decide +kernel
/-- Which block of operand 2 a grid step holds. -/
theorem idx2 : ∀ t : Fin cfg0.N, win0_2.index t (0 : Fin 2) = t.val ∧ win0_2.index t (1 : Fin 2) = 0 := by decide +kernel
/-- Which block of operand 3 a grid step holds. -/
theorem idx3 : ∀ t : Fin cfg0.N, win0_3.index t (0 : Fin 2) = 0 ∧ win0_3.index t (1 : Fin 2) = 0 := by decide +kernel
/-- Which block of operand 4 a grid step holds. -/
theorem idx4 : ∀ t : Fin cfg0.N, win0_4.index t (0 : Fin 2) = 0 ∧ win0_4.index t (1 : Fin 2) = 0 := by decide +kernel
/-- Which block of operand 5 a grid step holds. -/
theorem idx5 : ∀ t : Fin cfg0.N, win0_5.index t (0 : Fin 2) = 0 ∧ win0_5.index t (1 : Fin 2) = 0 := by decide +kernel
/-- Which block of operand 6 a grid step holds. -/
theorem idx6 : ∀ t : Fin cfg0.N, win0_6.index t (0 : Fin 2) = t.val ∧ win0_6.index t (1 : Fin 2) = 0 := by decide +kernel
/-- Which block of operand 7 a grid step holds. -/
theorem idx7 : ∀ t : Fin cfg0.N, win0_7.index t (0 : Fin 2) = t.val ∧ win0_7.index t (1 : Fin 2) = 0 := by decide +kernel
/-- Which block of operand 8 a grid step holds. -/
theorem idx8 : ∀ t : Fin cfg0.N, win0_8.index t (0 : Fin 2) = t.val ∧ win0_8.index t (1 : Fin 2) = 0 := by decide +kernel

/-- The operands' blocks at a point. -/
theorem blk0 (t : Fin cfg0.N) (r : Fin 256) (y : Fin 2048) (s : Fin 8192) (hs : s.val = 256 * t.val + r.val) :
    iblk m c 0 t (ix2 r y) = argM m c (ix2 s y) := by
  obtain ⟨h0, h1⟩ := idx0 t
  refine Eq.trans ?_ (V_m m c s y)
  unfold iblk
  rw [View.read_apply]
  show V m c main_v0 _ = _
  congr 1
  funext a
  refine Fin.ext ?_
  match a with
  | ⟨0, _⟩ => show win0_0.index t (0 : Fin 2) * 256 + 1 * r.val = s.val; omega
  | ⟨1, _⟩ => show win0_0.index t (1 : Fin 2) * 2048 + 1 * y.val = y.val; omega

/-- The block of operand 1 a grid step reads, entry by entry. -/
theorem blk1 (t : Fin cfg0.N) (x y : Fin 2048) :
    iblk m c 1 t (ix2 x y) = argW m c (ix2 x y) := by
  obtain ⟨h0, h1⟩ := idx1 t
  refine Eq.trans ?_ (V_w m c x y)
  unfold iblk
  rw [View.read_apply]
  show V m c main_v1 _ = _
  congr 1
  funext a
  refine Fin.ext ?_
  match a with
  | ⟨0, _⟩ => show win0_1.index t (0 : Fin 2) * 2048 + 1 * x.val = x.val; omega
  | ⟨1, _⟩ => show win0_1.index t (1 : Fin 2) * 2048 + 1 * y.val = y.val; omega

/-- The block of operand 2 a grid step reads, entry by entry. -/
theorem blk2 (t : Fin cfg0.N) (r : Fin 256) (y : Fin 2048) (s : Fin 8192) (hs : s.val = 256 * t.val + r.val) :
    iblk m c 2 t (ix2 r y) = argX m c (ix2 s y) := by
  obtain ⟨h0, h1⟩ := idx2 t
  refine Eq.trans ?_ (V_x m c s y)
  unfold iblk
  rw [View.read_apply]
  show V m c main_arg2 _ = _
  congr 1
  funext a
  refine Fin.ext ?_
  match a with
  | ⟨0, _⟩ => show win0_2.index t (0 : Fin 2) * 256 + 1 * r.val = s.val; omega
  | ⟨1, _⟩ => show win0_2.index t (1 : Fin 2) * 2048 + 1 * y.val = y.val; omega

/-- The block of operand 3 a grid step reads, entry by entry. -/
theorem blk3 (t : Fin cfg0.N) (y : Fin 2048) :
    iblk m c 3 t (ix2 0 y) = argG m c (ix1 y) := by
  obtain ⟨h0, h1⟩ := idx3 t
  refine Eq.trans ?_ (V_g m c y)
  unfold iblk
  rw [View.read_apply]
  show V m c main_v9 _ = _
  congr 1
  funext a
  refine Fin.ext ?_
  match a with
  | ⟨0, _⟩ => show win0_3.index t (0 : Fin 2) * 1 + 1 * 0 = 0; omega
  | ⟨1, _⟩ => show win0_3.index t (1 : Fin 2) * 2048 + 1 * y.val = y.val; omega

/-- The block of operand 4 a grid step reads, entry by entry. -/
theorem blk4 (t : Fin cfg0.N) (x : Fin 2048) (y : Fin 128) :
    iblk m c 4 t (ix2 x y) = hi (argR m c) x y := by
  obtain ⟨h0, h1⟩ := idx4 t
  refine Eq.trans ?_ (V_h m c x y)
  unfold iblk
  rw [View.read_apply]
  show V m c main_v5 _ = _
  congr 1
  funext a
  refine Fin.ext ?_
  match a with
  | ⟨0, _⟩ => show win0_4.index t (0 : Fin 2) * 2048 + 1 * x.val = x.val; omega
  | ⟨1, _⟩ => show win0_4.index t (1 : Fin 2) * 128 + 1 * y.val = y.val; omega

/-- The block of operand 5 a grid step reads, entry by entry. -/
theorem blk5 (t : Fin cfg0.N) (x : Fin 2048) (y : Fin 128) :
    iblk m c 5 t (ix2 x y) = hi (argR m c) x y - hi (argR m c) x y := by
  obtain ⟨h0, h1⟩ := idx5 t
  refine Eq.trans ?_ (V_l m c x y)
  unfold iblk
  rw [View.read_apply]
  show V m c main_v8 _ = _
  congr 1
  funext a
  refine Fin.ext ?_
  match a with
  | ⟨0, _⟩ => show win0_5.index t (0 : Fin 2) * 2048 + 1 * x.val = x.val; omega
  | ⟨1, _⟩ => show win0_5.index t (1 : Fin 2) * 128 + 1 * y.val = y.val; omega

/-- A row of the residual sum. -/
def sumRow (a : S8192x2048.Idx → EReal) (w : S2048x2048.Idx → EReal) (x : S8192x2048.Idx → EReal) (s : Fin 8192) (d : Fin 2048) : EReal :=
  x (ix2 s d) + ∑ e : Fin 2048, a (ix2 s e) * w (ix2 e d)

/-- A normed row. -/
def normRow (a : S8192x2048.Idx → EReal) (w : S2048x2048.Idx → EReal) (x : S8192x2048.Idx → EReal) (g : S2048.Idx → EReal) (s : Fin 8192)
    (d : Fin 2048) : EReal := nrm (sumRow a w x s) (fun e => g (ix1 e)) d

/-- A row's logits as the kernel adds them up: from the activations and the weights, from the rest of the activations, from the
    rest of the weights. -/
def logits (n : Fin 2048 → EReal) (w : S2048x16.Idx → EReal) (i : Fin 128) : EReal :=
  ((∑ e : Fin 2048, n e * hi w e i) + ∑ e : Fin 2048, (n e - n e) * hi w e i) + ∑ e : Fin 2048, n e * (hi w e i - hi w e i)

/-- What a point stores in window 6, whole. -/
theorem out_eq6 (x0 : Vec Ideal S256x2048 .bf16) (x1 : Vec Ideal S2048x2048 .bf16) (x2 : Vec Ideal S256x2048 .f32) (x3 : Vec Ideal S1x2048 .f32)
    (x4 x5 : Vec Ideal S2048x128 .bf16) :
    out0_6 (F := Ideal) x0 x1 x2 x3 x4 x5 = k0_pay2 x2 x0 x1 := by
  unfold out0_6
  refine (View.canon_unit_zero (S := S256x2048) hz2 _ _).trans ?_
  have l0 : View.ld x0 r0_0 = x0 := View.ld_unit_zero (S := S256x2048) hz2 _ _
  have l1 : View.ld x1 r0_1 = x1 := View.ld_unit_zero (S := S2048x2048) hz2 _ _
  have l2 : View.ld x2 r0_0 = x2 := View.ld_unit_zero (S := S256x2048) hz2 _ _
  rw [l0, l1, l2]

/-- What a point stores in window 7, whole. -/
theorem out_eq7 (x0 : Vec Ideal S256x2048 .bf16) (x1 : Vec Ideal S2048x2048 .bf16) (x2 : Vec Ideal S256x2048 .f32) (x3 : Vec Ideal S1x2048 .f32)
    (x4 x5 : Vec Ideal S2048x128 .bf16) :
    out0_7 (F := Ideal) x0 x1 x2 x3 x4 x5 = k0_pay3 x2 x0 x1 x3 := by
  unfold out0_7
  refine (View.canon_unit_zero (S := S256x2048) hz2 _ _).trans ?_
  have l0 : View.ld x0 r0_0 = x0 := View.ld_unit_zero (S := S256x2048) hz2 _ _
  have l1 : View.ld x1 r0_1 = x1 := View.ld_unit_zero (S := S2048x2048) hz2 _ _
  have l2 : View.ld x2 r0_0 = x2 := View.ld_unit_zero (S := S256x2048) hz2 _ _
  have l3 : View.ld x3 r0_2 = x3 := View.ld_unit_zero (S := S1x2048) hz2 _ _
  rw [l0, l1, l2, l3]

/-- What a point stores in window 8, whole. -/
theorem out_eq8 (x0 : Vec Ideal S256x2048 .bf16) (x1 : Vec Ideal S2048x2048 .bf16) (x2 : Vec Ideal S256x2048 .f32) (x3 : Vec Ideal S1x2048 .f32)
    (x4 x5 : Vec Ideal S2048x128 .bf16) :
    out0_8 (F := Ideal) x0 x1 x2 x3 x4 x5 = k0_pay1 (k0_pay4 x2 x0 x1 x3) (k0_pay5 x2 x0 x1 x3 x4) (k0_pay6 x5) (constant S256x128 .f32 0x00000000#32) := by
  unfold out0_8
  refine (View.canon_unit_zero (S := S256x128) hz2 _ _).trans ?_
  have l0 : View.ld x0 r0_0 = x0 := View.ld_unit_zero (S := S256x2048) hz2 _ _
  have l1 : View.ld x1 r0_1 = x1 := View.ld_unit_zero (S := S2048x2048) hz2 _ _
  have l2 : View.ld x2 r0_0 = x2 := View.ld_unit_zero (S := S256x2048) hz2 _ _
  have l3 : View.ld x3 r0_2 = x3 := View.ld_unit_zero (S := S1x2048) hz2 _ _
  have l4 : View.ld x4 r0_3 = x4 := View.ld_unit_zero (S := S2048x128) hz2 _ _
  have l5 : View.ld x5 r0_3 = x5 := View.ld_unit_zero (S := S2048x128) hz2 _ _
  rw [l0, l1, l2, l3, l4, l5]

/-- The residual sum of a point. -/
theorem at2 (t : Fin cfg0.N) (r : Fin 256) (j : Fin 2048) (s : Fin 8192) (hs : s.val = 256 * t.val + r.val) :
    (k0_pay2 (F := Ideal) (iblk m c 2 t) (iblk m c 0 t) (iblk m c 1 t) (ix2 r j) : EReal) = sumRow (argM m c) (argW m c) (argX m c) s j := by
  refine (pay2_apply _ _ _ r j).trans ?_
  unfold sumRow
  have b0 : ∀ e, iblk m c 0 t (ix2 r e) = argM m c (ix2 s e) := fun e => blk0 m c t r e s hs
  have b1 : ∀ e, iblk m c 1 t (ix2 e j) = argW m c (ix2 e j) := fun e => blk1 m c t e j
  have b2 : iblk m c 2 t (ix2 r j) = argX m c (ix2 s j) := blk2 m c t r j s hs
  simp only [b0, b1, b2]

/-- The normed row of a point. -/
theorem at3 (t : Fin cfg0.N) (r : Fin 256) (j : Fin 2048) (s : Fin 8192) (hs : s.val = 256 * t.val + r.val) :
    (k0_pay3 (F := Ideal) (iblk m c 2 t) (iblk m c 0 t) (iblk m c 1 t) (iblk m c 3 t) (ix2 r j) : EReal) = normRow (argM m c) (argW m c) (argX m c) (argG m c) s j := by
  refine (pay3_apply _ _ _ _ r j).trans ?_
  have h2 : ∀ j, (k0_pay2 (F := Ideal) (iblk m c 2 t) (iblk m c 0 t) (iblk m c 1 t) (ix2 r j) : EReal) = sumRow (argM m c) (argW m c) (argX m c) s j := fun j => at2 m c t r j s hs
  have h3 : ∀ e, iblk m c 3 t (ix2 0 e) = argG m c (ix1 e) := fun e => blk3 m c t e
  simp only [h2, h3]
  rfl

/-- What a grid step writes to operand 6, at an index. -/
theorem out_at6 (t : Fin cfg0.N) (r : Fin 256) (j : Fin 2048) (s : Fin 8192) (hs : s.val = 256 * t.val + r.val) :
    (out0_6 (F := Ideal) (iblk m c 0 t) (iblk m c 1 t) (iblk m c 2 t) (iblk m c 3 t) (iblk m c 4 t) (iblk m c 5 t) (ix2 r j) : EReal) = sumRow (argM m c) (argW m c) (argX m c) s j := by
  rw [out_eq6]
  exact at2 m c t r j s hs

/-- What a grid step writes to operand 7, at an index. -/
theorem out_at7 (t : Fin cfg0.N) (r : Fin 256) (j : Fin 2048) (s : Fin 8192) (hs : s.val = 256 * t.val + r.val) :
    (out0_7 (F := Ideal) (iblk m c 0 t) (iblk m c 1 t) (iblk m c 2 t) (iblk m c 3 t) (iblk m c 4 t) (iblk m c 5 t) (ix2 r j) : EReal) = normRow (argM m c) (argW m c) (argX m c) (argG m c) s j := by
  rw [out_eq7]
  exact at3 m c t r j s hs

/-- The rounded activations are, over the extended reals, the activations. -/
theorem pay4_eq (x : Vec Ideal S256x2048 .f32) (a : Vec Ideal S256x2048 .bf16) (w : Vec Ideal S2048x2048 .bf16) (g : Vec Ideal S1x2048 .f32)
    (r : Fin 256) (d : Fin 2048) : k0_pay4 (F := Ideal) x a w g (ix2 r d) = k0_pay3 (F := Ideal) x a w g (ix2 r d) := rfl

/-- A cast of the weights to their own type changes nothing, at an index. -/
theorem pay6_eq (x : Vec Ideal S2048x128 .bf16) (r : Fin 2048) (d : Fin 128) : k0_pay6 (F := Ideal) x (ix2 r d) = x (ix2 r d) := by
  unfold k0_pay6
  pointwise

/-- What a grid step writes to operand 8, at an index. -/
theorem out_at8 (t : Fin cfg0.N) (r : Fin 256) (j : Fin 128) (s : Fin 8192) (hs : s.val = 256 * t.val + r.val) :
    (out0_8 (F := Ideal) (iblk m c 0 t) (iblk m c 1 t) (iblk m c 2 t) (iblk m c 3 t) (iblk m c 4 t) (iblk m c 5 t) (ix2 r j) : EReal)
      = soft (lane (logits (normRow (argM m c) (argW m c) (argX m c) (argG m c) s) (argR m c))) j := by
  rw [out_eq8]
  refine (pay1_apply _ _ _ r j).trans ?_
  have h3 : ∀ j, (k0_pay3 (F := Ideal) (iblk m c 2 t) (iblk m c 0 t) (iblk m c 1 t) (iblk m c 3 t) (ix2 r j) : EReal) = normRow (argM m c) (argW m c) (argX m c) (argG m c) s j := fun j => at3 m c t r j s hs
  have b4 : ∀ e i, iblk m c 4 t (ix2 e i) = hi (argR m c) e i := fun e i => blk4 m c t e i
  have b5 : ∀ e i, iblk m c 5 t (ix2 e i) = hi (argR m c) e i - hi (argR m c) e i := fun e i => blk5 m c t e i
  simp only [pay4_eq, pay5_apply, pay6_eq, h3, b4, b5]
  rfl

/-- Every grid step flushes operand 6. -/
theorem flush6 : ∀ t : Fin cfg0.N, (cfg0.win 6).flush t = true := by decide +kernel
/-- Every grid step flushes operand 7. -/
theorem flush7 : ∀ t : Fin cfg0.N, (cfg0.win 7).flush t = true := by decide +kernel
/-- Every grid step flushes operand 8. -/
theorem flush8 : ∀ t : Fin cfg0.N, (cfg0.win 8).flush t = true := by decide +kernel

/-- THE KERNEL'S RESULT 1 at row `s`, column `j`. -/
theorem result_at6 (s : Fin 8192) (j : Fin 2048) :
    ((dats m 0 c).arrAt 6 cfg0.N (ix2 s j) : EReal) = sumRow (argM m c) (argW m c) (argX m c) s j := by
  have hN : cfg0.N = 32 := N_0
  let t : Fin cfg0.N := ⟨s.val / 256, by omega⟩
  let r : Fin 256 := ⟨s.val % 256, Nat.mod_lt _ (by decide)⟩
  obtain ⟨h0, h1⟩ := idx6 t
  have ht : t.val = s.val / 256 := rfl
  have hb := congrFun (Cert.OutProjIdeal.Value.blocks6 m c t (flush6 t)) (ix2 r j)
  rw [View.read_apply, Cert.OutProjIdeal.Value.flushed6] at hb
  have he : ((cfg0.win 6).blk t).view.emb (ix2 r j) = (ix2 s j : S8192x2048.Idx) := by
    funext a
    refine Fin.ext ?_
    match a with
    | ⟨0, _⟩ => show win0_6.index t (0 : Fin 2) * 256 + 1 * (s.val % 256) = s.val; omega
    | ⟨1, _⟩ => show win0_6.index t (1 : Fin 2) * 2048 + 1 * j.val = j.val; omega
  have hx : (cfg0.win 6).xinj (grid0.coords t) (ix2 r j) = (ix2 r j : S256x2048.Idx) := by
    funext a
    refine Fin.ext ?_
    match a with
    | ⟨0, _⟩ => rfl
    | ⟨1, _⟩ => rfl
  rw [he] at hb
  rw [cast_eq] at hb
  rw [hb]
  show out0_6 (F := Ideal) _ _ _ _ _ _ ((cfg0.win 6).xinj (grid0.coords t) (ix2 r j)) = _
  rw [hx]
  exact out_at6 m c t r j s (by show s.val = 256 * (s.val / 256) + s.val % 256; omega)

/-- THE KERNEL'S RESULT 2 at row `s`, column `j`. -/
theorem result_at7 (s : Fin 8192) (j : Fin 2048) :
    ((dats m 0 c).arrAt 7 cfg0.N (ix2 s j) : EReal) = normRow (argM m c) (argW m c) (argX m c) (argG m c) s j := by
  have hN : cfg0.N = 32 := N_0
  let t : Fin cfg0.N := ⟨s.val / 256, by omega⟩
  let r : Fin 256 := ⟨s.val % 256, Nat.mod_lt _ (by decide)⟩
  obtain ⟨h0, h1⟩ := idx7 t
  have ht : t.val = s.val / 256 := rfl
  have hb := congrFun (Cert.OutProjIdeal.Value.blocks7 m c t (flush7 t)) (ix2 r j)
  rw [View.read_apply, Cert.OutProjIdeal.Value.flushed7] at hb
  have he : ((cfg0.win 7).blk t).view.emb (ix2 r j) = (ix2 s j : S8192x2048.Idx) := by
    funext a
    refine Fin.ext ?_
    match a with
    | ⟨0, _⟩ => show win0_7.index t (0 : Fin 2) * 256 + 1 * (s.val % 256) = s.val; omega
    | ⟨1, _⟩ => show win0_7.index t (1 : Fin 2) * 2048 + 1 * j.val = j.val; omega
  have hx : (cfg0.win 7).xinj (grid0.coords t) (ix2 r j) = (ix2 r j : S256x2048.Idx) := by
    funext a
    refine Fin.ext ?_
    match a with
    | ⟨0, _⟩ => rfl
    | ⟨1, _⟩ => rfl
  rw [he] at hb
  rw [cast_eq] at hb
  rw [hb]
  show out0_7 (F := Ideal) _ _ _ _ _ _ ((cfg0.win 7).xinj (grid0.coords t) (ix2 r j)) = _
  rw [hx]
  exact out_at7 m c t r j s (by show s.val = 256 * (s.val / 256) + s.val % 256; omega)

/-- THE KERNEL'S RESULT 3 at row `s`, column `j`. -/
theorem result_at8 (s : Fin 8192) (j : Fin 128) :
    ((dats m 0 c).arrAt 8 cfg0.N (ix2 s j) : EReal) = soft (lane (logits (normRow (argM m c) (argW m c) (argX m c) (argG m c) s) (argR m c))) j := by
  have hN : cfg0.N = 32 := N_0
  let t : Fin cfg0.N := ⟨s.val / 256, by omega⟩
  let r : Fin 256 := ⟨s.val % 256, Nat.mod_lt _ (by decide)⟩
  obtain ⟨h0, h1⟩ := idx8 t
  have ht : t.val = s.val / 256 := rfl
  have hb := congrFun (Cert.OutProjIdeal.Value.blocks8 m c t (flush8 t)) (ix2 r j)
  rw [View.read_apply, Cert.OutProjIdeal.Value.flushed8] at hb
  have he : ((cfg0.win 8).blk t).view.emb (ix2 r j) = (ix2 s j : S8192x128.Idx) := by
    funext a
    refine Fin.ext ?_
    match a with
    | ⟨0, _⟩ => show win0_8.index t (0 : Fin 2) * 256 + 1 * (s.val % 256) = s.val; omega
    | ⟨1, _⟩ => show win0_8.index t (1 : Fin 2) * 128 + 1 * j.val = j.val; omega
  have hx : (cfg0.win 8).xinj (grid0.coords t) (ix2 r j) = (ix2 r j : S256x128.Idx) := by
    funext a
    refine Fin.ext ?_
    match a with
    | ⟨0, _⟩ => rfl
    | ⟨1, _⟩ => rfl
  rw [he] at hb
  rw [cast_eq] at hb
  rw [hb]
  show out0_8 (F := Ideal) _ _ _ _ _ _ ((cfg0.win 8).xinj (grid0.coords t) (ix2 r j)) = _
  rw [hx]
  exact out_at8 m c t r j s (by show s.val = 256 * (s.val / 256) + s.val % 256; omega)

/-! ## The softmax over reals -/

/-- The divisor of the mean. -/
theorem two_k : Ideal.ofBits .f32 0x45000000#32 = ((2048 : ℝ) : EReal) := by
  simp [Ideal.ofBits, Ideal.ieee]
  rw [← EReal.coe_mul]
  norm_num

/-- The constant added to the mean is a positive real. -/
theorem eps_pos : ∃ ε : ℝ, 0 < ε ∧ Ideal.ofBits .f32 0x358637BD#32 = (ε : EReal) := by
  refine ⟨_, ?_, by simp [Ideal.ofBits, Ideal.ieee]; rfl⟩
  positivity

/-- A square of an extended real is not negative. -/
theorem square_nonneg (y : EReal) : 0 ≤ y * y := by
  induction y with
  | bot => rw [EReal.bot_mul_bot]; exact le_top
  | top => rw [EReal.top_mul_top]; exact le_top
  | coe r => rw [← EReal.coe_mul]; exact EReal.coe_nonneg.2 (mul_self_nonneg r)

/-- The norm of a row with a real gain is real, whatever the row: with an infinite entry the mean square is `+∞` and its inverse root zero. -/
theorem nrm_real (z g : Fin 2048 → EReal) (hg : ∀ e, ∃ r : ℝ, g e = r) (d : Fin 2048) :
    ∃ r : ℝ, nrm z g d = r := by
  choose gr hg using hg
  obtain ⟨ε, hε, he⟩ := eps_pos
  by_cases hz : ∀ e, ∃ r : ℝ, z e = r
  · choose zr hz using hz
    have h1 : (∑ e : Fin 2048, z e * z e) = ((∑ e : Fin 2048, zr e * zr e : ℝ) : EReal) := by
      simp only [hz]
      rw [Cert.Online.coe_sum]
      simp only [EReal.coe_mul]
    have h0 : 0 ≤ ∑ e : Fin 2048, zr e * zr e := Finset.sum_nonneg fun e _ => mul_self_nonneg _
    have hp : 0 < (∑ e : Fin 2048, zr e * zr e) / 2048 + ε := add_pos_of_nonneg_of_pos (div_nonneg h0 (by norm_num)) hε
    unfold nrm
    rw [h1, two_k, he, Cert.Online.div_real _ _ (by norm_num), ← EReal.coe_add, Ideal.rsqrt_coe, if_neg (not_lt.2 hp.le), if_neg hp.ne', hz, hg,
      ← EReal.coe_mul, ← EReal.coe_mul]
    exact ⟨_, rfl⟩
  · rw [not_forall] at hz
    obtain ⟨e0, h0⟩ := hz
    have ht : z e0 * z e0 = ⊤ := by
      generalize z e0 = y at h0
      induction y with
      | bot => exact EReal.bot_mul_bot
      | top => exact EReal.top_mul_top
      | coe r => exact absurd ⟨r, rfl⟩ h0
    have hs : (∑ e : Fin 2048, z e * z e) = ⊤ := by
      refine top_le_iff.1 (ht ▸ ?_)
      exact Finset.single_le_sum (f := fun e => z e * z e) (fun e _ => square_nonneg (z e)) (Finset.mem_univ e0)
    unfold nrm
    rw [hs, two_k, he, Ideal.div_coe (by norm_num), EReal.top_mul_coe_of_pos (by norm_num), EReal.top_add_coe, Ideal.rsqrt_top, mul_zero, zero_mul]
    exact ⟨0, rfl⟩

/-- The largest of finitely many entries that are reals or `-∞` is a real when one of them is. -/
theorem fold_real (z : Fin 128 → EReal) (hz : ∀ i, z i = ⊥ ∨ ∃ r : ℝ, z i = r) (i0 : Fin 128) (h0 : ∃ r : ℝ, z i0 = r) :
    ∃ μ : ℝ, (Finset.univ : Finset (Fin 128)).fold max (⊥ : EReal) z = μ := by
  classical
  have key : ∀ t : Finset (Fin 128), t.fold max (⊥ : EReal) z = ⊥ ∨ ∃ μ : ℝ, t.fold max (⊥ : EReal) z = μ := by
    intro t
    induction t using Finset.induction_on with
    | empty => exact .inl (by simp)
    | insert a t ha ih =>
      rw [Finset.fold_insert ha, max_comm]
      rcases hz a with h | ⟨r, h⟩
      · rw [h, max_eq_left bot_le]
        exact ih
      · rw [h]
        exact .inr (Cert.Online.max_real ih r)
  refine (key Finset.univ).resolve_left fun h => ?_
  obtain ⟨r, hr⟩ := h0
  have hle : z i0 ≤ (Finset.univ : Finset (Fin 128)).fold max (⊥ : EReal) z := (Finset.le_fold_max _).2 (.inr ⟨i0, Finset.mem_univ _, le_rfl⟩)
  rw [h, hr] at hle
  exact EReal.coe_ne_bot r (le_bot_iff.1 hle)

/-- The plain softmax of 16 real logits. -/
def weight (t : Fin 16 → ℝ) (i : Fin 16) : ℝ := Real.exp (t i) / ∑ k, Real.exp (t k)

/-- The softmax over 128 lanes of which 16 hold reals and the others `-∞`: the softmax of the 16, zeros beside it. -/
theorem soft_lane (z : Fin 128 → EReal) (t : Fin 16 → ℝ) (hz : ∀ i : Fin 16, z ⟨i.val, by omega⟩ = t i) (j : Fin 128) :
    soft (lane z) j = if h : j.val < 16 then ((weight t ⟨j.val, h⟩ : ℝ) : EReal) else 0 := by
  have hr : ∀ (i : Fin 128) (h : i.val < 16), lane z i = t ⟨i.val, h⟩ := fun i h => by
    unfold lane
    rw [if_pos h]
    exact hz ⟨i.val, h⟩
  have hn : ∀ i : Fin 128, ¬ i.val < 16 → lane z i = ⊥ := fun i h => by
    unfold lane
    rw [if_neg h]
  obtain ⟨μ, hμ⟩ := fold_real (lane z) (fun i => by
    by_cases h : i.val < 16
    · exact .inr ⟨_, hr i h⟩
    · exact .inl (hn i h)) 0 ⟨_, hr 0 (by decide)⟩
  have hb : Ideal.exp ((⊥ : EReal) - (μ : EReal)) = 0 := by
    rw [EReal.bot_sub, Ideal.exp_bot]
  have hs : (∑ i : Fin 128, Ideal.exp (lane z i - μ)) = 0 + ∑ k : Fin 16, Ideal.exp ((t k : EReal) - μ) := by
    rw [show (∑ i : Fin 128, Ideal.exp (lane z i - μ)) = ∑ i : Fin (16 + 112), Ideal.exp (lane z i - μ) from rfl, Fin.sum_univ_add, add_comm]
    refine congrArg₂ (· + ·) ?_ ?_
    · refine Finset.sum_eq_zero fun i _ => ?_
      rw [hn _ (by show ¬ 16 + i.val < 16; omega), hb]
    · refine Finset.sum_congr rfl fun i _ => ?_
      rw [hr _ (by show i.val < 16; omega)]
      rfl
  unfold soft
  rw [hμ, hs]
  by_cases h : j.val < 16
  · rw [dif_pos h, hr j h]
    exact Cert.Online.softmax_weight t μ ⟨j.val, h⟩
  · rw [dif_neg h, hn j h, hb]
    have e : ∀ k, Ideal.exp ((t k : EReal) - μ) = ((Real.exp (t k - μ) : ℝ) : EReal) := fun k => by
      rw [← EReal.coe_sub, Ideal.exp_coe]
    simp only [e]
    rw [zero_add, ← Cert.Online.coe_sum, Ideal.div_coe (Finset.sum_pos (fun k _ => Real.exp_pos _) Finset.univ_nonempty).ne', zero_mul]

/-- On reals the rest parts are zero: the kernel's logits are the plain ones. -/
theorem logits_real (n : Fin 2048 → EReal) (w : S2048x16.Idx → EReal) (hn : ∀ e, ∃ r : ℝ, n e = r) (hw : ∀ i, ∃ r : ℝ, w i = r) (i : Fin 16) :
    logits n w ⟨i.val, by omega⟩ = ∑ e : Fin 2048, n e * w (ix2 e i) := by
  choose nr hn using hn
  choose wr hw using hw
  have hh : ∀ e : Fin 2048, hi w e ⟨i.val, by omega⟩ = w (ix2 e i) := fun e => by
    unfold hi
    rw [dif_pos i.isLt]
  have hz : ∀ e, n e - n e = 0 := fun e => by rw [hn, ← EReal.coe_sub, sub_self, EReal.coe_zero]
  have hv : ∀ e : Fin 2048, w (ix2 e i) - w (ix2 e i) = 0 := fun e => by rw [hw, ← EReal.coe_sub, sub_self, EReal.coe_zero]
  unfold logits
  simp only [hh, hz, hv, zero_mul, mul_zero, Finset.sum_const_zero, add_zero]

/-! ## The reference -/

variable (a : S8192x2048.Idx → EReal) (w : S2048x2048.Idx → EReal) (x : S8192x2048.Idx → EReal) (g : S2048.Idx → EReal) (u : S2048x16.Idx → EReal)

/-- The reference's residual sum, at an index. -/
theorem ref_sum (s : Fin 8192) (d : Fin 2048) : (Cert.OutProjRefIdeal.Read.val_main_v1 (F := Ideal) a w x (ix2 s d) : EReal) = sumRow a w x s d := by
  rw [Cert.OutProjRefIdeal.Read.val_main_v1_apply, Cert.OutProjRefIdeal.Read.val_main_v0_apply]
  have hl : ∀ e, Cert.OutProjRefIdeal.Read.lidx_main_v0 (ix2 s d) e = ix2 s e := fun e => by
    funext a; match a with | ⟨0, _⟩ => rfl | ⟨1, _⟩ => rfl
  have hr : ∀ e, Cert.OutProjRefIdeal.Read.ridx_main_v0 (ix2 s d) e = ix2 e d := fun e => by
    funext a; match a with | ⟨0, _⟩ => rfl | ⟨1, _⟩ => rfl
  simp only [hl, hr]
  rfl

/-- The reference's normed row, at an index. -/
theorem ref_norm (s : Fin 8192) (d : Fin 2048) : (Cert.OutProjRefIdeal.Read.val_main_v14 (F := Ideal) a w x g (ix2 s d) : EReal) = normRow a w x g s d := by
  rw [Cert.OutProjRefIdeal.Read.val_main_v14_apply, Cert.OutProjRefIdeal.Read.val_main_v11_apply, Cert.OutProjRefIdeal.Read.val_main_v10_apply, Cert.OutProjRefIdeal.Read.val_main_v9_apply, Cert.OutProjRefIdeal.Read.val_main_v8_apply, Cert.OutProjRefIdeal.Read.val_main_v7_apply, Cert.OutProjRefIdeal.Read.val_main_cst_1_apply, Cert.OutProjRefIdeal.Read.val_main_v6_apply, Cert.OutProjRefIdeal.Read.val_main_v5_apply, Cert.OutProjRefIdeal.Read.val_main_cst_0_apply, Cert.OutProjRefIdeal.Read.val_main_v4_apply, Cert.OutProjRefIdeal.Read.val_main_v3_apply, Cert.OutProjRefIdeal.Read.val_main_cst_apply, Cert.OutProjRefIdeal.Read.val_main_v13_apply, Cert.OutProjRefIdeal.Read.val_main_v12_apply]
  rw [show (FloatOps.ofBits .f32 0x00000000#32 : Ideal .f32) = (0 : EReal) from Ideal.ofBits_zero_f32, zero_add]
  have hi : ∀ e, Cert.OutProjRefIdeal.Read.idx_main_v3 (Cert.OutProjRefIdeal.Read.idx_main_v4 (Cert.OutProjRefIdeal.Read.idx_main_v10 (ix2 s d))) e = ix2 s e := fun e => by
    funext a; match a with | ⟨0, _⟩ => rfl | ⟨1, _⟩ => rfl
  have h2 : ∀ e, (Cert.OutProjRefIdeal.Read.val_main_v2 (F := Ideal) a w x (ix2 s e) : EReal) = sumRow a w x s e * sumRow a w x s e := fun e => by
    rw [Cert.OutProjRefIdeal.Read.val_main_v2_apply, ref_sum]
    rfl
  rw [show Cert.OutProjRefIdeal.Read.idx_main_v12 (Cert.OutProjRefIdeal.Read.idx_main_v13 (ix2 s d)) = ix1 d from by
    funext a; match a with | ⟨0, _⟩ => rfl]
  simp only [hi, h2, ref_sum]
  rfl

/-- The reference's logits, at an index. -/
theorem ref_logit (s : Fin 8192) (i : Fin 16) :
    (Cert.OutProjRefIdeal.Read.val_main_v15 (F := Ideal) a w x g u (ix2 s i) : EReal) = ∑ e : Fin 2048, normRow a w x g s e * u (ix2 e i) := by
  rw [Cert.OutProjRefIdeal.Read.val_main_v15_apply]
  have hl : ∀ e, Cert.OutProjRefIdeal.Read.lidx_main_v15 (ix2 s i) e = ix2 s e := fun e => by
    funext a; match a with | ⟨0, _⟩ => rfl | ⟨1, _⟩ => rfl
  have hr : ∀ e, Cert.OutProjRefIdeal.Read.ridx_main_v15 (ix2 s i) e = ix2 e i := fun e => by
    funext a; match a with | ⟨0, _⟩ => rfl | ⟨1, _⟩ => rfl
  simp only [hl, hr, ref_norm]

/-- The shift the reference's softmax subtracts is a real when the logits are. -/
theorem ref_max (hs : ∀ i, ∃ r : ℝ, (Cert.OutProjRefIdeal.Read.val_main_v15 (F := Ideal) a w x g u i : EReal) = r) (s : Fin 8192) :
    ∃ r : ℝ, (Cert.OutProjRefIdeal.Read.val_main_v18 (F := Ideal) a w x g u (ix1 s) : EReal) = r := by
  have h16 : ∃ r : ℝ, (Cert.OutProjRefIdeal.Read.val_main_v16 (F := Ideal) a w x g u (ix1 s) : EReal) = r := by
    unfold Cert.OutProjRefIdeal.Read.val_main_v16
    rw [Host.reduce_eq_foldl]
    refine (Cert.ReferenceIdeal.RefValue.foldl_max_real _ hs _ _
      (.inl (show Cert.OutProjRefIdeal.Read.val_main_cst_2 (F := Ideal) _ = (⊥ : EReal) from Cert.KernelIdeal.Step.ofBits_bot))).resolve_left ?_
    rintro ⟨_, h2⟩
    have hd : Cert.OutProjRefIdeal.Gen.reducesTo_S8192x16_S8192_d1.drop (ix2 s 0) = ix1 s := by
      funext b
      refine Fin.ext ?_
      match b with
      | ⟨0, _⟩ => exact Shape.ReducesTo.drop_apply_val_of_eq Cert.OutProjRefIdeal.Gen.reducesTo_S8192x16_S8192_d1 (ix2 s 0) 0 0
    have hmem : (ix2 s 0 : Cert.OutProjRefIdeal.S8192x16.Idx) ∈ ((List.finRange Cert.OutProjRefIdeal.S8192x16.numel).map Cert.OutProjRefIdeal.S8192x16.rowMajor.symm).filter
        (fun i' => decide (Cert.OutProjRefIdeal.Gen.reducesTo_S8192x16_S8192_d1.drop i' = ix1 s)) := by
      rw [List.mem_filter]
      exact ⟨List.mem_map.2 ⟨Cert.OutProjRefIdeal.S8192x16.rowMajor (ix2 s 0), List.mem_finRange _, Equiv.symm_apply_apply _ _⟩, decide_eq_true hd⟩
    exact List.not_mem_nil (h2 ▸ hmem)
  obtain ⟨r, hr⟩ := h16
  refine ⟨r, ?_⟩
  rw [Cert.OutProjRefIdeal.Read.val_main_v18_apply, Cert.OutProjRefIdeal.Read.val_main_v17_apply, Cert.OutProjRefIdeal.Read.val_main_cst_3_apply, hr]
  show max (Ideal.ofBits .f32 0xFF800000#32) (r : EReal) = r
  rw [Cert.KernelIdeal.Step.ofBits_bot]
  exact max_eq_right bot_le

/-- The reference's softmax of real logits, at an index. -/
theorem ref_soft (s : Fin 8192) (t : Fin 16 → ℝ) (ht : ∀ i, (Cert.OutProjRefIdeal.Read.val_main_v15 (F := Ideal) a w x g u (ix2 s i) : EReal) = t i)
    (hs : ∀ i, ∃ r : ℝ, (Cert.OutProjRefIdeal.Read.val_main_v15 (F := Ideal) a w x g u i : EReal) = r) (i : Fin 16) :
    (Cert.OutProjRefIdeal.Read.val_main_v26 (F := Ideal) a w x g u (ix2 s i) : EReal) = ((weight t i : ℝ) : EReal) := by
  obtain ⟨T, hT⟩ := ref_max a w x g u hs s
  have h22 : ∀ i, (Cert.OutProjRefIdeal.Read.val_main_v22 (F := Ideal) a w x g u (ix2 s i) : EReal) = Ideal.exp ((t i : EReal) - T) := fun i => by
    rw [Cert.OutProjRefIdeal.Read.val_main_v22_apply, Cert.OutProjRefIdeal.Read.val_main_v21_apply, Cert.OutProjRefIdeal.Read.val_main_v20_apply, Cert.OutProjRefIdeal.Read.val_main_v19_apply, ht,
      show Cert.OutProjRefIdeal.Read.idx_main_v19 (Cert.OutProjRefIdeal.Read.idx_main_v20 (ix2 s i)) = ix1 s from by funext a; match a with | ⟨0, _⟩ => rfl, hT]
    rfl
  rw [Cert.OutProjRefIdeal.Read.val_main_v26_apply, Cert.OutProjRefIdeal.Read.val_main_v25_apply, Cert.OutProjRefIdeal.Read.val_main_v24_apply, Cert.OutProjRefIdeal.Read.val_main_v23_apply, Cert.OutProjRefIdeal.Read.val_main_cst_4_apply]
  have hi : ∀ k, Cert.OutProjRefIdeal.Read.idx_main_v23 (Cert.OutProjRefIdeal.Read.idx_main_v24 (Cert.OutProjRefIdeal.Read.idx_main_v25 (ix2 s i))) k = ix2 s k := fun k => by
    funext a; match a with | ⟨0, _⟩ => rfl | ⟨1, _⟩ => rfl
  simp only [hi, h22]
  rw [show (FloatOps.ofBits .f32 0x00000000#32 : Ideal .f32) = (0 : EReal) from Ideal.ofBits_zero_f32]
  exact Cert.Online.softmax_weight t T i

/-- The reference's third result: the softmax, zeros beside it. -/
theorem ref_pad (s : Fin 8192) (j : Fin 128) :
    (Cert.OutProjRefIdeal.Read.val_main_v27 (F := Ideal) a w x g u (ix2 s j) : EReal)
      = if h : j.val < 16 then (Cert.OutProjRefIdeal.Read.val_main_v26 (F := Ideal) a w x g u (ix2 s ⟨j.val, h⟩) : EReal) else 0 := by
  unfold Cert.OutProjRefIdeal.Read.val_main_v27
  by_cases h : j.val < 16
  · rw [dif_pos h]
    refine pad_apply_of_inside _ _ _ _ _ _ _ (ix2 s j) (ix2 s ⟨j.val, h⟩) fun b => ?_
    match b with
    | ⟨0, _⟩ => show s.val = 0 + s.val * (0 + 1); omega
    | ⟨1, _⟩ => show j.val = 0 + j.val * (0 + 1); omega
  · rw [dif_neg h]
    refine (pad_apply_of_not_inside _ _ _ _ _ _ _ (ix2 s j) 1 fun hh => h ?_).trans ?_
    · have h3 : (j.val - 0) / (0 + 1) < 16 := hh.2.2
      omega
    · show (((0#32 : BitVec 32).toInt : ℝ) : EReal) = 0
      simp

/-! ## The two agree -/

/-- Under the precondition the gain and the router's weights are arrays of reals. -/
theorem args_real (h : Cert.Pre_OutProjIdeal_finite_out (hPre_finite_out := Cert.Pre_finite_out.Gen.facts) m) :
    (∀ i, ∃ r : ℝ, argG m c i = r) ∧ (∀ i, ∃ r : ℝ, argR m c i = r) := by
  have e := congrFun (h c) ix0
  unfold Cert.Pre_finite_out.fn at e
  obtain ⟨e0, e1⟩ := IntOp.andi_eq_one.1 e
  exact ⟨Cert.Finite.all_real (argG m c) _ _ _ _ e0, Cert.Finite.all_real (argR m c) _ _ _ _ e1⟩

/-- With a real gain and real router weights the kernel's third result is the reference's, at an index. -/
theorem router_agree (hg : ∀ i, ∃ r : ℝ, g i = r)
    (hu : ∀ i, ∃ r : ℝ, u i = r) (s : Fin 8192) (j : Fin 128) :
    soft (lane (logits (normRow a w x g s) u)) j = (Cert.OutProjRefIdeal.Read.val_main_v27 (F := Ideal) a w x g u (ix2 s j) : EReal) := by
  have hn : ∀ s e, ∃ r : ℝ, normRow a w x g s e = r := fun s e =>
    nrm_real _ _ (fun e => hg (ix1 e)) e
  have hl : ∀ s (i : Fin 16), ∃ r : ℝ, (Cert.OutProjRefIdeal.Read.val_main_v15 (F := Ideal) a w x g u (ix2 s i) : EReal) = r := fun s i => by
    rw [ref_logit]
    choose nr hn using hn s
    choose ur hu using hu
    refine ⟨∑ e : Fin 2048, nr e * ur (ix2 e i), ?_⟩
    simp only [hn, hu]
    rw [Cert.Online.coe_sum]
    simp only [EReal.coe_mul]
  have hs : ∀ i, ∃ r : ℝ, (Cert.OutProjRefIdeal.Read.val_main_v15 (F := Ideal) a w x g u i : EReal) = r := fun i => by
    rw [show i = ix2 (i 0) (i 1) from by funext a; match a with | ⟨0, _⟩ => rfl | ⟨1, _⟩ => rfl]
    exact hl (i 0) (i 1)
  choose t ht using hl s
  rw [soft_lane (logits (normRow a w x g s) u) t (fun i => by rw [logits_real _ _ (hn s) hu, ← ref_logit, ht]) j, ref_pad]
  by_cases h : j.val < 16
  · rw [dif_pos h, dif_pos h, ref_soft a w x g u s t ht hs]
  · rw [dif_neg h, dif_neg h]

/-- AGREEMENT: the kernel's residual sum is the reference's value of the same arguments. -/
theorem agree_sum : (dats m 0 c).arrAt 6 cfg0.N
    = Cert.OutProjRefIdeal.Read.val_main_v1 (F := Ideal) (m (c.tc.loc main_arg0)) (m (c.tc.loc main_arg1)) (m (c.tc.loc main_arg2)) := by
  funext i
  rw [show i = ix2 (i 0) (i 1) from by funext a; match a with | ⟨0, _⟩ => rfl | ⟨1, _⟩ => rfl]
  exact (result_at6 m c (i 0) (i 1)).trans (ref_sum (argM m c) (argW m c) (argX m c) (i 0) (i 1)).symm

/-- AGREEMENT: the kernel's normed row is the reference's value of the same arguments. -/
theorem agree_norm : (dats m 0 c).arrAt 7 cfg0.N
    = Cert.OutProjRefIdeal.Read.val_main_v14 (F := Ideal) (m (c.tc.loc main_arg0)) (m (c.tc.loc main_arg1)) (m (c.tc.loc main_arg2)) (m (c.tc.loc main_arg3)) := by
  funext i
  rw [show i = ix2 (i 0) (i 1) from by funext a; match a with | ⟨0, _⟩ => rfl | ⟨1, _⟩ => rfl]
  exact (result_at7 m c (i 0) (i 1)).trans (ref_norm (argM m c) (argW m c) (argX m c) (argG m c) (i 0) (i 1)).symm

/-- AGREEMENT: under the precondition the kernel's router weights are the reference's value of the same arguments. -/
theorem agree_router (h : Cert.Pre_OutProjIdeal_finite_out (hPre_finite_out := Cert.Pre_finite_out.Gen.facts) m) : (dats m 0 c).arrAt 8 cfg0.N
    = Cert.OutProjRefIdeal.Read.val_main_v27 (F := Ideal) (m (c.tc.loc main_arg0)) (m (c.tc.loc main_arg1)) (m (c.tc.loc main_arg2)) (m (c.tc.loc main_arg3))
      (m (c.tc.loc main_arg4)) := by
  obtain ⟨h3, h4⟩ := args_real m c h
  funext i
  rw [show i = ix2 (i 0) (i 1) from by funext a; match a with | ⟨0, _⟩ => rfl | ⟨1, _⟩ => rfl]
  exact (result_at8 m c (i 0) (i 1)).trans
    (router_agree (argM m c) (argW m c) (argX m c) (argG m c) (argR m c) h3 h4 (i 0) (i 1))

/-- The reference runs to its end, with no count left over. -/
theorem reference_runs : Cert.quiescent_OutProjRefIdeal (hOutProjRefIdeal := Cert.OutProjRefIdeal.Gen.facts) := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

/-- THE CALL'S VALUE: with a real gain and real router weights its three results are the plain residual sum, norm and router weights. -/
theorem value : Cert.algebraic_OutProjIdeal_OutProjRefIdeal_pre_finite_out (hOutProjIdeal := Cert.OutProjIdeal.Gen.facts)
    (hOutProjRefIdeal := Cert.OutProjRefIdeal.Gen.facts) (hPre_finite_out := Cert.Pre_finite_out.Gen.facts) := by
  intro m ρ m' ρ' hpre hagree
  refine ⟨_, _, _, Cert.OutProjIdeal.Value.run_blocks (F := Ideal) m ρ, ?_⟩
  refine (θ_run Cert.OutProjRefIdeal.defs _ _).mono (fun _ h c => ⟨?_, ?_, ?_, (h c).2.2.2⟩) (Cert.OutProjRefIdeal.Value.run (F := Ideal) m' ρ')
  · obtain ⟨e0, e1, e2, e3, e4⟩ := hagree c
    rw [(h c).1, Cert.OutProjRefIdeal.Read.val_main_v1_eq, e0, e1, e2]
    exact (agree_sum m c).symm
  · obtain ⟨e0, e1, e2, e3, e4⟩ := hagree c
    rw [(h c).2.1, Cert.OutProjRefIdeal.Read.val_main_v14_eq, e0, e1, e2, e3]
    exact (agree_norm m c).symm
  · obtain ⟨e0, e1, e2, e3, e4⟩ := hagree c
    rw [(h c).2.2.1, Cert.OutProjRefIdeal.Read.val_main_v27_eq, e0, e1, e2, e3, e4]
    exact (agree_router m c hpre).symm

end Cert.OutProjIdeal.Call

end
-- ==== Proof.GluCall.lean ====
/- The call `glu`: the skip, the GELU and the half-GLU, entry by entry, against the plain skip, GELU and half-GLU. -/
module

public import proofs.«01_k».proof.Defs
public import proofs.«01_k».proof.Proof.Gen.Glu.Frame
public import proofs.«01_k».proof.Proof.Gen.GluIdeal.Value
public import proofs.«01_k».proof.Proof.Gen.GluRefIdeal.Read
public import Idealize.ShloMosaic.Adequacy
public import Idealize.ShloMosaic.Init
public import Idealize.ShloMosaic.Lib.Quiescent
public import Idealize.ShloMosaic.Lib.IdealHost
public import Idealize.ShloMosaic.Lib.Pointwise
public import Idealize.ShloMosaic.Lib.Pipeline.ReadBack
public import Idealize.ShloMosaic.Lib.Pipeline.Value
public import Idealize.ShloMosaic.Lib.StableHlo.ReadAt

@[expose] public section

noncomputable section

namespace Cert.GluIdeal.Call

open Idealize.ShloMosaic Idealize.SL.Sem
open Cert.GluIdeal Cert.GluIdeal.Gen

/-- The zero start of a 2-axis view, as a constant function. -/
theorem hz2 : (![0, 0] : Fin 2 → ℕ) = fun _ => 0 := by funext a; fin_cases a <;> rfl

/-- The sigmoid of the half-GLU. -/
def gate (z : EReal) : EReal := Ideal.div (Ideal.ofBits .f32 0x3F800000#32) (Ideal.ofBits .f32 0x3F800000#32 + Ideal.exp (-z))

/-- The GELU, by its hyperbolic tangent. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * z * z)))))

/-- An entry of the branch after its skip and GELU. -/
def act (y : S8192x1024.Idx → EReal) (p : S8192x8192.Idx → EReal) (d : S1024.Idx → EReal) (s : Fin 8192) (e : Fin 1024) : EReal :=
  gelu (y (ix2 s e) + d (ix1 e) * p (ix2 s ⟨e.val, by omega⟩))

/-- An entry of the half-GLU. -/
def glu (y : S8192x1024.Idx → EReal) (p : S8192x8192.Idx → EReal) (d : S1024.Idx → EReal) (w : S1024x1024.Idx → EReal)
    (s : Fin 8192) (j : Fin 1024) : EReal :=
  act y p d s j * gate (∑ e : Fin 1024, act y p d s e * w (ix2 e j))

/-- What a point computes, at an index of its block. -/
theorem pay_apply (y : Vec Ideal S512x1024 .f32) (d : Vec Ideal S1x1024 .f32) (p : Vec Ideal S512x1024 .bf16) (w : Vec Ideal S1024x1024 .bf16)
    (r : Fin 512) (j : Fin 1024) :
    k0_pay1 (F := Ideal) y d p w (ix2 r j)
      = gelu (y (ix2 r j) + d (ix2 0 j) * p (ix2 r j))
        * gate (∑ e : Fin 1024, gelu (y (ix2 r e) + d (ix2 0 e) * p (ix2 r e)) * w (ix2 e j)) := by
  unfold k0_pay1 gate gelu
  pointwise
  simp only [zero_sub]

/-- What a point stores: that value, whole. -/
theorem out_eq (x0 : Vec Ideal S512x1024 .f32) (x1 : Vec Ideal S512x1024 .bf16) (x2 : Vec Ideal S1x1024 .f32) (x3 : Vec Ideal S1024x1024 .bf16) :
    out0_4 (F := Ideal) x0 x1 x2 x3 = k0_pay1 x0 x2 x1 x3 := by
  unfold out0_4
  refine (View.canon_unit_zero (S := S512x1024) hz2 _ _).trans ?_
  have l0 : View.ld x0 r0_0 = x0 := View.ld_unit_zero (S := S512x1024) hz2 _ _
  have l1 : View.ld x2 r0_1 = x2 := View.ld_unit_zero (S := S1x1024) hz2 _ _
  have l2 : View.ld x1 r0_0 = x1 := View.ld_unit_zero (S := S512x1024) hz2 _ _
  have l3 : View.ld x3 r0_2 = x3 := View.ld_unit_zero (S := S1024x1024) hz2 _ _
  rw [l0, l1, l2, l3]

variable (m : (ℓ : Loc nD τ sig) → Buf (Elt Ideal) ℓ) (c : Dev nD)

/-- The arguments, as arrays of extended reals. -/
abbrev argY : S8192x1024.Idx → EReal := m (c.tc.loc main_arg0)
/-- The argument in buffer `main_arg1`. -/
abbrev argP : S8192x8192.Idx → EReal := m (c.tc.loc main_arg1)
/-- The argument in buffer `main_arg2`. -/
abbrev argD : S1024.Idx → EReal := m (c.tc.loc main_arg2)
/-- The argument in buffer `main_arg3`. -/
abbrev argW : S1024x1024.Idx → EReal := m (c.tc.loc main_arg3)

/-- The buffer the call reads, as a function of the argument it is prepared from. -/
theorem V_y (a : Fin 8192) (b : Fin 1024) : V m c main_arg0 (ix2 a b) = argY m c (ix2 a b) := by
  unfold V
  after_reads_at
  try rfl

/-- The buffer the call reads, as a function of the argument it is prepared from. -/
theorem V_p (a : Fin 8192) (b : Fin 8192) : V m c main_arg1 (ix2 a b) = argP m c (ix2 a b) := by
  unfold V
  after_reads_at
  try rfl

/-- The buffer the call reads, as a function of the argument it is prepared from. -/
theorem V_d (b : Fin 1024) : V m c main_v1 (ix2 0 b) = argD m c (ix1 b) := by
  unfold V
  after_reads_at
  try rfl

/-- The buffer the call reads, as a function of the argument it is prepared from. -/
theorem V_w (a : Fin 1024) (b : Fin 1024) : V m c main_v0 (ix2 a b) = argW m c (ix2 a b) := by
  unfold V
  after_reads_at
  try rfl

/-- The printed index maps, decided over the grid. -/
theorem idx0 : ∀ t : Fin cfg0.N, win0_0.index t (0 : Fin 2) = t.val ∧ win0_0.index t (1 : Fin 2) = 0 := by decide +kernel
/-- Which block of operand 1 a grid step holds. -/
theorem idx1 : ∀ t : Fin cfg0.N, win0_1.index t (0 : Fin 2) = t.val ∧ win0_1.index t (1 : Fin 2) = 0 := by decide +kernel
/-- Which block of operand 2 a grid step holds. -/
theorem idx2 : ∀ t : Fin cfg0.N, win0_2.index t (0 : Fin 2) = 0 ∧ win0_2.index t (1 : Fin 2) = 0 := by decide +kernel
/-- Which block of operand 3 a grid step holds. -/
theorem idx3 : ∀ t : Fin cfg0.N, win0_3.index t (0 : Fin 2) = 0 ∧ win0_3.index t (1 : Fin 2) = 0 := by decide +kernel
/-- Which block of operand 4 a grid step holds. -/
theorem idx4 : ∀ t : Fin cfg0.N, win0_4.index t (0 : Fin 2) = t.val ∧ win0_4.index t (1 : Fin 2) = 0 := by decide +kernel

/-- The operands' blocks at a point. -/
theorem blk0 (t : Fin cfg0.N) (r : Fin 512) (y : Fin 1024) (s : Fin 8192) (hs : s.val = 512 * t.val + r.val) :
    iblk m c 0 t (ix2 r y) = argY m c (ix2 s y) := by
  obtain ⟨h0, h1⟩ := idx0 t
  refine Eq.trans ?_ (V_y m c s y)
  unfold iblk
  rw [View.read_apply]
  show V m c main_arg0 _ = _
  congr 1
  funext a
  refine Fin.ext ?_
  match a with
  | ⟨0, _⟩ => show win0_0.index t (0 : Fin 2) * 512 + 1 * r.val = s.val; omega
  | ⟨1, _⟩ => show win0_0.index t (1 : Fin 2) * 1024 + 1 * y.val = y.val; omega

/-- The block of operand 1 a grid step reads, entry by entry. -/
theorem blk1 (t : Fin cfg0.N) (r : Fin 512) (y : Fin 1024) (s : Fin 8192) (hs : s.val = 512 * t.val + r.val) :
    iblk m c 1 t (ix2 r y) = argP m c (ix2 s ⟨y.val, by omega⟩) := by
  obtain ⟨h0, h1⟩ := idx1 t
  refine Eq.trans ?_ (V_p m c s ⟨y.val, by omega⟩)
  unfold iblk
  rw [View.read_apply]
  show V m c main_arg1 _ = _
  congr 1
  funext a
  refine Fin.ext ?_
  match a with
  | ⟨0, _⟩ => show win0_1.index t (0 : Fin 2) * 512 + 1 * r.val = s.val; omega
  | ⟨1, _⟩ => show win0_1.index t (1 : Fin 2) * 1024 + 1 * y.val = y.val; omega

/-- The block of operand 2 a grid step reads, entry by entry. -/
theorem blk2 (t : Fin cfg0.N) (y : Fin 1024) :
    iblk m c 2 t (ix2 0 y) = argD m c (ix1 y) := by
  obtain ⟨h0, h1⟩ := idx2 t
  refine Eq.trans ?_ (V_d m c y)
  unfold iblk
  rw [View.read_apply]
  show V m c main_v1 _ = _
  congr 1
  funext a
  refine Fin.ext ?_
  match a with
  | ⟨0, _⟩ => show win0_2.index t (0 : Fin 2) * 1 + 1 * 0 = 0; omega
  | ⟨1, _⟩ => show win0_2.index t (1 : Fin 2) * 1024 + 1 * y.val = y.val; omega

/-- The block of operand 3 a grid step reads, entry by entry. -/
theorem blk3 (t : Fin cfg0.N) (x y : Fin 1024) :
    iblk m c 3 t (ix2 x y) = argW m c (ix2 x y) := by
  obtain ⟨h0, h1⟩ := idx3 t
  refine Eq.trans ?_ (V_w m c x y)
  unfold iblk
  rw [View.read_apply]
  show V m c main_v0 _ = _
  congr 1
  funext a
  refine Fin.ext ?_
  match a with
  | ⟨0, _⟩ => show win0_3.index t (0 : Fin 2) * 1024 + 1 * x.val = x.val; omega
  | ⟨1, _⟩ => show win0_3.index t (1 : Fin 2) * 1024 + 1 * y.val = y.val; omega

/-- Every grid step flushes operand 4. -/
theorem flush4 : ∀ t : Fin cfg0.N, (cfg0.win 4).flush t = true := by decide +kernel

/-- What a point leaves in the result, at an index. -/
theorem out_at (t : Fin cfg0.N) (r : Fin 512) (j : Fin 1024) (s : Fin 8192) (hs : s.val = 512 * t.val + r.val) :
    (out0_4 (F := Ideal) (iblk m c 0 t) (iblk m c 1 t) (iblk m c 2 t) (iblk m c 3 t) (ix2 r j) : EReal)
      = glu (argY m c) (argP m c) (argD m c) (argW m c) s j := by
  rw [out_eq]
  refine (pay_apply _ _ _ _ r j).trans ?_
  unfold glu act
  have b0 : ∀ e, iblk m c 0 t (ix2 r e) = argY m c (ix2 s e) := fun e => blk0 m c t r e s hs
  have b1 : ∀ e : Fin 1024, iblk m c 1 t (ix2 r e) = argP m c (ix2 s ⟨e.val, by omega⟩) := fun e => blk1 m c t r e s hs
  have b2 : ∀ e, iblk m c 2 t (ix2 0 e) = argD m c (ix1 e) := fun e => blk2 m c t e
  have b3 : ∀ e, iblk m c 3 t (ix2 e j) = argW m c (ix2 e j) := fun e => blk3 m c t e j
  simp only [b0, b1, b2, b3]

/-- THE KERNEL'S RESULT at row `s`, column `j`. -/
theorem result_at (s : Fin 8192) (j : Fin 1024) :
    ((dats m 0 c).arrAt 4 cfg0.N (ix2 s j) : EReal) = glu (argY m c) (argP m c) (argD m c) (argW m c) s j := by
  have hN : cfg0.N = 16 := N_0
  let t : Fin cfg0.N := ⟨s.val / 512, by omega⟩
  let r : Fin 512 := ⟨s.val % 512, Nat.mod_lt _ (by decide)⟩
  obtain ⟨h0, h1⟩ := idx4 t
  have ht : t.val = s.val / 512 := rfl
  have hb := congrFun (Cert.GluIdeal.Value.blocks4 m c t (flush4 t)) (ix2 r j)
  rw [View.read_apply, Cert.GluIdeal.Value.flushed4] at hb
  have he : ((cfg0.win 4).blk t).view.emb (ix2 r j) = (ix2 s j : S8192x1024.Idx) := by
    funext a
    refine Fin.ext ?_
    match a with
    | ⟨0, _⟩ => show win0_4.index t (0 : Fin 2) * 512 + 1 * (s.val % 512) = s.val; omega
    | ⟨1, _⟩ => show win0_4.index t (1 : Fin 2) * 1024 + 1 * j.val = j.val; omega
  have hx : (cfg0.win 4).xinj (grid0.coords t) (ix2 r j) = (ix2 r j : S512x1024.Idx) := by
    funext a
    refine Fin.ext ?_
    match a with
    | ⟨0, _⟩ => rfl
    | ⟨1, _⟩ => rfl
  rw [he] at hb
  rw [cast_eq] at hb
  rw [hb]
  show out0_4 (F := Ideal) _ _ _ _ ((cfg0.win 4).xinj (grid0.coords t) (ix2 r j)) = _
  rw [hx]
  exact out_at m c t r j s (by show s.val = 512 * (s.val / 512) + s.val % 512; omega)

/-- The reference's branch after its skip, at an index. -/
theorem ref_skip (y : S8192x1024.Idx → EReal) (p : S8192x8192.Idx → EReal) (d : S1024.Idx → EReal) (s : Fin 8192) (e : Fin 1024) :
    (Cert.GluRefIdeal.Read.val_main_v5 (F := Ideal) y p d (ix2 s e) : EReal) = y (ix2 s e) + d (ix1 e) * p (ix2 s ⟨e.val, by omega⟩) := by
  rw [Cert.GluRefIdeal.Read.val_main_v5_apply, Cert.GluRefIdeal.Read.val_main_v4_apply, Cert.GluRefIdeal.Read.val_main_v3_apply, Cert.GluRefIdeal.Read.val_main_v2_apply, Cert.GluRefIdeal.Read.val_main_v1_apply, Cert.GluRefIdeal.Read.val_main_v0_apply]
  rw [show Cert.GluRefIdeal.Read.idx_main_v2 (Cert.GluRefIdeal.Read.idx_main_v3 (ix2 s e)) = ix1 e from by funext a; match a with | ⟨0, _⟩ => rfl,
    show Cert.GluRefIdeal.Read.idx_main_v0 (ix2 s e) = ix2 s ⟨e.val, by omega⟩ from by funext a; match a with | ⟨0, _⟩ => rfl | ⟨1, _⟩ => rfl]
  rfl

/-- The reference's branch after its GELU, at an index. -/
theorem ref_act (y : S8192x1024.Idx → EReal) (p : S8192x8192.Idx → EReal) (d : S1024.Idx → EReal) (s : Fin 8192) (e : Fin 1024) :
    (Cert.GluRefIdeal.Read.val_main_v18 (F := Ideal) y p d (ix2 s e) : EReal) = act y p d s e := by
  rw [Cert.GluRefIdeal.Read.val_main_v18_apply, Cert.GluRefIdeal.Read.val_main_v17_apply, Cert.GluRefIdeal.Read.val_main_v16_apply, Cert.GluRefIdeal.Read.val_main_cst_2_apply, Cert.GluRefIdeal.Read.val_main_v15_apply, Cert.GluRefIdeal.Read.val_main_v14_apply, Cert.GluRefIdeal.Read.val_main_cst_1_apply, Cert.GluRefIdeal.Read.val_main_v13_apply, Cert.GluRefIdeal.Read.val_main_v12_apply, Cert.GluRefIdeal.Read.val_main_v11_apply, Cert.GluRefIdeal.Read.val_main_cst_0_apply, Cert.GluRefIdeal.Read.val_main_v10_apply, Cert.GluRefIdeal.Read.val_main_v9_apply, Cert.GluRefIdeal.Read.val_main_v8_apply, Cert.GluRefIdeal.Read.val_main_cst_apply, Cert.GluRefIdeal.Read.val_main_v7_apply, Cert.GluRefIdeal.Read.val_main_v6_apply]
  unfold act
  rw [← ref_skip y p d s e]
  rfl

/-- THE REFERENCE'S RESULT at row `s`, column `j`. -/
theorem ref_at (y : S8192x1024.Idx → EReal) (p : S8192x8192.Idx → EReal) (d : S1024.Idx → EReal) (w : S1024x1024.Idx → EReal)
    (s : Fin 8192) (j : Fin 1024) :
    (Cert.GluRefIdeal.Read.val_main_v27 (F := Ideal) y p d w (ix2 s j) : EReal) = glu y p d w s j := by
  rw [Cert.GluRefIdeal.Read.val_main_v27_apply, Cert.GluRefIdeal.Read.val_main_v26_apply, Cert.GluRefIdeal.Read.val_main_v25_apply, Cert.GluRefIdeal.Read.val_main_v24_apply, Cert.GluRefIdeal.Read.val_main_cst_4_apply, Cert.GluRefIdeal.Read.val_main_v23_apply, Cert.GluRefIdeal.Read.val_main_v22_apply, Cert.GluRefIdeal.Read.val_main_cst_3_apply, Cert.GluRefIdeal.Read.val_main_v21_apply, Cert.GluRefIdeal.Read.val_main_v20_apply, Cert.GluRefIdeal.Read.val_main_v19_apply]
  have hl : ∀ e, Cert.GluRefIdeal.Read.lidx_main_v19 (ix2 s j) e = ix2 s e := fun e => by
    funext a; match a with | ⟨0, _⟩ => rfl | ⟨1, _⟩ => rfl
  have hr : ∀ e, Cert.GluRefIdeal.Read.ridx_main_v19 (ix2 s j) e = ix2 e j := fun e => by
    funext a; match a with | ⟨0, _⟩ => rfl | ⟨1, _⟩ => rfl
  have ha : ∀ e, Cert.GluRefIdeal.Read.val_main_v18 (F := Ideal) y p d (ix2 s e) = act y p d s e := fun e => ref_act y p d s e
  simp only [hl, hr, ha]
  unfold glu gate
  generalize hz : (∑ e : Fin 1024, act y p d s e * w (ix2 e j)) = z
  generalize act y p d s j = q
  rfl

/-- AGREEMENT: the kernel's array is the reference's value of the same arguments. -/
theorem agree : (dats m 0 c).arrAt 4 cfg0.N
    = Cert.GluRefIdeal.Read.val_main_v27 (F := Ideal) (m (c.tc.loc main_arg0)) (m (c.tc.loc main_arg1)) (m (c.tc.loc main_arg2)) (m (c.tc.loc main_arg3)) := by
  funext i
  rw [show i = ix2 (i 0) (i 1) from by funext a; match a with | ⟨0, _⟩ => rfl | ⟨1, _⟩ => rfl]
  exact (result_at m c (i 0) (i 1)).trans (ref_at (argY m c) (argP m c) (argD m c) (argW m c) (i 0) (i 1)).symm

/-- The reference runs to its end, with no count left over. -/
theorem reference_runs : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩)
    (Cert.GluRefIdeal.Value.run (F := Ideal) m ρ)

/-- THE CALL'S VALUE: its result is the plain half-GLU of the arguments. -/
theorem value : Cert.algebraic_GluIdeal_GluRefIdeal (hGluIdeal := Cert.GluIdeal.Gen.facts)
    (hGluRefIdeal := Cert.GluRefIdeal.Gen.facts) := by
  intro m ρ m' ρ' hpre hagree
  refine ⟨_, Cert.GluIdeal.Value.run_blocks (F := Ideal) m ρ, ?_⟩
  refine (θ_run Cert.GluRefIdeal.defs _ _).mono (fun _ h c => ⟨?_, (h c).2⟩) (Cert.GluRefIdeal.Value.run (F := Ideal) m' ρ')
  obtain ⟨e0, e1, e2, e3⟩ := hagree c
  rw [(h c).1, Cert.GluRefIdeal.Read.val_main_v27_eq, e0, e1, e2, e3]
  exact (agree m c).symm

end Cert.GluIdeal.Call

end
-- ==== Proof.PrepCall.lean ====
/- The call `attn_prep`: the norm and partial rotary embedding of queries and keys and the layout of the values, entry by entry,
   against the plain norm, rotary embedding and transposes. -/
module

public import proofs.«01_k».proof.Defs
public import proofs.«01_k».proof.Proof.Gen.Prep.Frame
public import proofs.«01_k».proof.Proof.Gen.PrepIdeal.Value
public import proofs.«01_k».proof.Proof.Gen.PrepRefIdeal.Read
public import proofs.«01_k».proof.Proof.Gen.Pre_finite_qk
public import proofs.«01_k».proof.Proof.Finite
public import Idealize.ShloMosaic.Adequacy
public import Idealize.ShloMosaic.Init
public import Idealize.ShloMosaic.Lib.Quiescent
public import Idealize.ShloMosaic.Lib.IdealHost
public import Idealize.ShloMosaic.Lib.KernelVsHost
public import Idealize.ShloMosaic.Lib.Pointwise
public import Idealize.ShloMosaic.Lib.Pipeline.ReadBack
public import Idealize.ShloMosaic.Lib.Pipeline.Value
public import Idealize.ShloMosaic.Lib.StableHlo.ReadAt

@[expose] public section

noncomputable section

namespace Cert.PrepIdeal.Call

open Idealize.ShloMosaic Idealize.SL.Sem
open Cert.PrepIdeal Cert.PrepIdeal.Gen

/-! ## What a point stores -/

section Slabs
variable {F : FTy → Type} [FloatOps F]

/-- The norm of a head's 128 lanes, each half head by its own mean square. -/
def normed (o : FVec F S128x128 .bf16) (g : FVec F S1x128 .f32) (x : Vec F S512x128 .bf16) : FVec F S512x128 .f32 :=
  let xf : FVec F S512x128 .f32 := extf .f32 x bitsLt_bf16_f32
  let sq : FVec F S512x128 .f32 := mulf xf xf
  let hi : FVec F S512x128 .bf16 := truncf .bf16 sq bitsLt_bf16_f32
  let lo : FVec F S512x128 .bf16 := truncf .bf16 (subf sq (extf .f32 hi bitsLt_bf16_f32)) bitsLt_bf16_f32
  let seg : FVec F S512x128 .f32 :=
    addf (matmul dot_S512x128_S128x128_S512x128_1_0_0_1_n_n none hi o (constant S512x128 .f32 0x00000000#32))
      (matmul dot_S512x128_S128x128_S512x128_1_0_0_1_n_n none lo o (constant S512x128 .f32 0x00000000#32))
  mulf (mulf xf (rsqrt (addf (mulf seg (broadcast S512x128 (Scalar.ofBits .f32 0x3C800000#32))) (broadcast S512x128 (Scalar.ofBits .f32 0x358637BD#32)))))
    (broadcastTo S512x128 g broadcasts_S1x128_S512x128)

/-- The rotation by the three tables, and the scale. -/
def turned (c su sd : FVec F S512x128 .f32) (w : BitVec 32) (u : FVec F S512x128 .f32) : FVec F S512x128 .f32 :=
  mulf (addf (addf (mulf u c) (mulf (dynamicRotate 1 120#32 none u rotates_S512x128_d1) su)) (mulf (dynamicRotate 1 8#32 none u rotates_S512x128_d1) sd))
    (broadcast S512x128 (Scalar.ofBits .f32 w))

/-- The first half of a head's lanes, as a slab. -/
def slabLo (f : FVec F S512x128 .f32) : FVec F S1x512x64 .bf16 :=
  shapeCast S1x512x64 (truncf .bf16 (extractStridedSlice S512x64 ![0, 0] f slices_S512x128_o0_0_S512x64) bitsLt_bf16_f32) shapeCasts_S512x64_S1x512x64

/-- The second half of a head's lanes, as a slab. -/
def slabHi (f : FVec F S512x128 .f32) : FVec F S1x512x64 .bf16 :=
  shapeCast S1x512x64 (truncf .bf16 (extractStridedSlice S512x64 ![0, 64] f slices_S512x128_o0_64_S512x64) bitsLt_bf16_f32) shapeCasts_S512x64_S1x512x64

/-- The lanes of a head lie inside the block. -/
theorem head_inb (h : Fin 8) : ∀ a : Fin 2, (![0, 128 * h.val] : Fin 2 → ℕ) a + S512x128.size a ≤ S512x1024.size a := fun a => match a with
  | ⟨0, _⟩ => by show 0 + 512 ≤ 512; omega
  | ⟨1, _⟩ => by show 128 * h.val + 128 ≤ 1024; omega

/-- A head's lanes of a block. -/
def head (x : Vec F S512x1024 .bf16) (h : Fin 8) : Vec F S512x128 .bf16 :=
  View.ld x (Rect.unit (s := S512x1024) ![0, 128 * h.val] S512x128.size (head_inb h))

/-- What a point computes of a head. -/
def headOut (c su sd : Vec F S512x128 .f32) (o : Vec F S128x128 .bf16) (g : Vec F S1x128 .f32) (w : BitVec 32)
    (x : Vec F S512x1024 .bf16) (h : Fin 8) : FVec F S512x128 .f32 :=
  turned (k0_pay2 (View.ld c r0_0)) (k0_pay3 (View.ld su r0_0)) (k0_pay4 (View.ld sd r0_0)) w
    (normed (k0_pay5 (View.ld o r0_1)) (k0_pay6 (View.ld g r0_2)) (head x h))

/-- What a point leaves in a result of half heads, at an index. -/
def halves (c su sd : Vec F S512x128 .f32) (o : Vec F S128x128 .bf16) (g : Vec F S1x128 .f32) (w : BitVec 32)
    (x : Vec F S512x1024 .bf16) (y : S16x512x64.Idx) : F .bf16 :=
  truncf .bf16 (headOut c su sd o g w x ⟨(y 0).val / 2, by have h : (y 0).val < 16 := (y 0).isLt; omega⟩) bitsLt_bf16_f32
    (ix2 (y 1) ⟨64 * ((y 0).val % 2) + (y 2).val, by have h : (y 2).val < 64 := (y 2).isLt; omega⟩)

/-- The first half of a head's lanes, at an index. -/
theorem slabLo_apply (f : FVec F S512x128 .f32) (z : S1x512x64.Idx) :
    slabLo f z = FloatOps.truncf .bf16 bitsLt_bf16_f32 (f (ix2 (z 1) ⟨(z 2).val, by have h : (z 2).val < 64 := (z 2).isLt; omega⟩)) := by
  have hz : (z 0).val < 1 := (z 0).isLt
  unfold slabLo
  refine (shapeCast_apply _ _ z (ix2 (z 1) (z 2)) ?_).trans ?_
  · rewrite [Shape.rowMajor_val_two, Shape.rowMajor_val_three]
    show (z 1).val * 64 + (z 2).val = ((z 0).val * 512 + (z 1).val) * 64 + (z 2).val
    omega
  · refine congrArg (FloatOps.truncf .bf16 bitsLt_bf16_f32) (extractStridedSlice_apply _ f _ _ _ fun a => ?_)
    match a with
    | ⟨0, _⟩ => show (z 1).val = 0 + (z 1).val; omega
    | ⟨1, _⟩ => show (z 2).val = 0 + (z 2).val; omega

/-- The second half of a head's lanes, at an index. -/
theorem slabHi_apply (f : FVec F S512x128 .f32) (z : S1x512x64.Idx) :
    slabHi f z = FloatOps.truncf .bf16 bitsLt_bf16_f32 (f (ix2 (z 1) ⟨64 + (z 2).val, by have h : (z 2).val < 64 := (z 2).isLt; omega⟩)) := by
  have hz : (z 0).val < 1 := (z 0).isLt
  unfold slabHi
  refine (shapeCast_apply _ _ z (ix2 (z 1) (z 2)) ?_).trans ?_
  · rewrite [Shape.rowMajor_val_two, Shape.rowMajor_val_three]
    show (z 1).val * 64 + (z 2).val = ((z 0).val * 512 + (z 1).val) * 64 + (z 2).val
    omega
  · refine congrArg (FloatOps.truncf .bf16 bitsLt_bf16_f32) (extractStridedSlice_apply _ f _ _ _ fun a => ?_)
    match a with
    | ⟨0, _⟩ => show (z 1).val = 0 + (z 1).val; omega
    | ⟨1, _⟩ => show 64 + (z 2).val = 64 + (z 2).val; omega

/-- What a point leaves at half `b` of head `h`. -/
theorem halves_at (c su sd : Vec F S512x128 .f32) (o : Vec F S128x128 .bf16) (g : Vec F S1x128 .f32) (w : BitVec 32)
    (x : Vec F S512x1024 .bf16) (h : Fin 8) (b : ℕ) (hb : b < 2) (y : S16x512x64.Idx) (hy : (y 0).val = 2 * h.val + b) (l : Fin 128)
    (hl : l.val = 64 * b + (y 2).val) :
    halves c su sd o g w x y = FloatOps.truncf .bf16 bitsLt_bf16_f32 (headOut c su sd o g w x h (ix2 (y 1) l)) := by
  unfold halves
  have e1 : (⟨(y 0).val / 2, by have h : (y 0).val < 16 := (y 0).isLt; omega⟩ : Fin 8) = h := Fin.ext (by show (y 0).val / 2 = h.val; omega)
  have e2 : (⟨64 * ((y 0).val % 2) + (y 2).val, by have h : (y 2).val < 64 := (y 2).isLt; omega⟩ : Fin 128) = l :=
    Fin.ext (by show 64 * ((y 0).val % 2) + (y 2).val = l.val; rw [hl, hy]; omega)
  rw [e1, e2]
  rfl

/-- A slab of a half head lies inside the result. -/
theorem slab_inb (n : ℕ) (h : n < 16) : ∀ a : Fin 3, (![n, 0, 0] : Fin 3 → ℕ) a + S1x512x64.size a ≤ S16x512x64.size a := fun a => match a with
  | ⟨0, _⟩ => by show n + 1 ≤ 16; omega
  | ⟨1, _⟩ => by show 0 + 512 ≤ 512; omega
  | ⟨2, _⟩ => by show 0 + 64 ≤ 64; omega

/-- A slab of values lies inside the result. -/
theorem values_inb (n : ℕ) (h : n < 8) (o : ℕ) (ho : o ≤ 128) :
    ∀ a : Fin 3, (![n, 0, o] : Fin 3 → ℕ) a + S1x512x128.size a ≤ S8x512x256.size a := fun a => match a with
  | ⟨0, _⟩ => by show n + 1 ≤ 8; omega
  | ⟨1, _⟩ => by show 0 + 512 ≤ 512; omega
  | ⟨2, _⟩ => by show o + 128 ≤ 256; omega

/-- The first half of a head, stored in its place. -/
theorem lo_piece (c su sd : Vec F S512x128 .f32) (o : Vec F S128x128 .bf16) (g : Vec F S1x128 .f32) (w : BitVec 32)
    (x : Vec F S512x1024 .bf16) (h : Fin 8) (n : ℕ) (hn : n = 2 * h.val)
    (p : Vec F S1x512x64 .bf16) (hp : p = slabLo (headOut c su sd o g w x h)) (z : S1x512x64.Idx) :
    p z = halves c su sd o g w x ((Rect.unit (s := S16x512x64) ![n, 0, 0] S1x512x64.size (slab_inb n (by omega))).emb z) := by
  have hz : (z 0).val < 1 := (z 0).isLt
  rw [hp, slabLo_apply]
  refine ((halves_at c su sd o g w x h 0 (by omega) _ ?_ ⟨(z 2).val, by have h : (z 2).val < 64 := (z 2).isLt; omega⟩ ?_).trans ?_).symm
  · show n + 1 * (z 0).val = 2 * h.val + 0; omega
  · show (z 2).val = 64 * 0 + (0 + 1 * (z 2).val); omega
  · refine congrArg (fun q => FloatOps.truncf .bf16 bitsLt_bf16_f32 (headOut c su sd o g w x h q)) (funext fun a => Fin.ext ?_)
    match a with
    | ⟨0, _⟩ => show 0 + 1 * (z 1).val = (z 1).val; omega
    | ⟨1, _⟩ => rfl

/-- The second half of a head, stored in its place. -/
theorem hi_piece (c su sd : Vec F S512x128 .f32) (o : Vec F S128x128 .bf16) (g : Vec F S1x128 .f32) (w : BitVec 32)
    (x : Vec F S512x1024 .bf16) (h : Fin 8) (n : ℕ) (hn : n = 2 * h.val + 1)
    (p : Vec F S1x512x64 .bf16) (hp : p = slabHi (headOut c su sd o g w x h)) (z : S1x512x64.Idx) :
    p z = halves c su sd o g w x ((Rect.unit (s := S16x512x64) ![n, 0, 0] S1x512x64.size (slab_inb n (by omega))).emb z) := by
  have hz : (z 0).val < 1 := (z 0).isLt
  rw [hp, slabHi_apply]
  refine ((halves_at c su sd o g w x h 1 (by omega) _ ?_ ⟨64 + (z 2).val, by have h : (z 2).val < 64 := (z 2).isLt; omega⟩ ?_).trans ?_).symm
  · show n + 1 * (z 0).val = 2 * h.val + 1; omega
  · show 64 + (z 2).val = 64 * 1 + (0 + 1 * (z 2).val); omega
  · refine congrArg (fun q => FloatOps.truncf .bf16 bitsLt_bf16_f32 (headOut c su sd o g w x h q)) (funext fun a => Fin.ext ?_)
    match a with
    | ⟨0, _⟩ => show 0 + 1 * (z 1).val = (z 1).val; omega
    | ⟨1, _⟩ => rfl

/-- What a point leaves in the queries' result. -/
theorem out9_eq (x0 x1 x2 : Vec F S512x1024 .bf16) (x3 x4 : Vec F S1x128 .f32) (x5 x6 x7 : Vec F S512x128 .f32) (x8 : Vec F S128x128 .bf16)
    (y : S16x512x64.Idx) :
    out0_9 x0 x1 x2 x3 x4 x5 x6 x7 x8 y = halves x5 x6 x7 x8 x3 0x3E38AA3B#32 x0 y := by
  have lo := lo_piece x5 x6 x7 x8 x3 0x3E38AA3B#32 x0
  have hi := hi_piece x5 x6 x7 x8 x3 0x3E38AA3B#32 x0
  unfold out0_9
  refine (congrArg (fun L => View.canon L y) (List.append_nil _).symm).trans
    (View.canon_append_of_piecesOf (halves x5 x6 x7 x8 x3 0x3E38AA3B#32 x0) [] _ ?_ y (cover0_9 _ _ _ _ _ _ _ _ _ _ _ _ _ _ _ _ y))
  exact ⟨hi 7 15 rfl _ rfl, lo 7 14 rfl _ rfl, hi 6 13 rfl _ rfl, lo 6 12 rfl _ rfl, hi 5 11 rfl _ rfl, lo 5 10 rfl _ rfl,
    hi 4 9 rfl _ rfl, lo 4 8 rfl _ rfl, hi 3 7 rfl _ rfl, lo 3 6 rfl _ rfl, hi 2 5 rfl _ rfl, lo 2 4 rfl _ rfl,
    hi 1 3 rfl _ rfl, lo 1 2 rfl _ rfl, hi 0 1 rfl _ rfl, lo 0 0 rfl _ rfl, trivial⟩

/-- What a point leaves in the keys' result. -/
theorem out10_eq (x0 x1 x2 : Vec F S512x1024 .bf16) (x3 x4 : Vec F S1x128 .f32) (x5 x6 x7 : Vec F S512x128 .f32) (x8 : Vec F S128x128 .bf16)
    (y : S16x512x64.Idx) :
    out0_10 x0 x1 x2 x3 x4 x5 x6 x7 x8 y = halves x5 x6 x7 x8 x4 0x3F800000#32 x1 y := by
  have lo := lo_piece x5 x6 x7 x8 x4 0x3F800000#32 x1
  have hi := hi_piece x5 x6 x7 x8 x4 0x3F800000#32 x1
  unfold out0_10
  refine (congrArg (fun L => View.canon L y) (List.append_nil _).symm).trans
    (View.canon_append_of_piecesOf (halves x5 x6 x7 x8 x4 0x3F800000#32 x1) [] _ ?_ y (cover0_10 _ _ _ _ _ _ _ _ _ _ _ _ _ _ _ _ y))
  exact ⟨hi 7 15 rfl _ rfl, lo 7 14 rfl _ rfl, hi 6 13 rfl _ rfl, lo 6 12 rfl _ rfl, hi 5 11 rfl _ rfl, lo 5 10 rfl _ rfl,
    hi 4 9 rfl _ rfl, lo 4 8 rfl _ rfl, hi 3 7 rfl _ rfl, lo 3 6 rfl _ rfl, hi 2 5 rfl _ rfl, lo 2 4 rfl _ rfl,
    hi 1 3 rfl _ rfl, lo 1 2 rfl _ rfl, hi 0 1 rfl _ rfl, lo 0 0 rfl _ rfl, trivial⟩

/-- What a point leaves in the values' result, at an index: the values, and ones beside them. -/
def beside (x : Vec F S512x1024 .bf16) (y : S8x512x256.Idx) : F .bf16 :=
  if h : (y 2).val < 128 then
    x (ix2 (y 1) ⟨128 * (y 0).val + (y 2).val, by have h0 : (y 0).val < 8 := (y 0).isLt; omega⟩)
  else FloatOps.ofBits .bf16 0x3F80#16

/-- A head of values, stored in its place. -/
theorem value_piece (x : Vec F S512x1024 .bf16) (h : Fin 8) (n : ℕ) (hn : n = h.val)
    (p : Vec F S1x512x128 .bf16) (hp : p = shapeCast S1x512x128 (head x h) shapeCasts_S512x128_S1x512x128) (z : S1x512x128.Idx) :
    p z = beside x ((Rect.unit (s := S8x512x256) ![n, 0, 0] S1x512x128.size (values_inb n (by omega) 0 (by omega))).emb z) := by
  have hz : (z 0).val < 1 := (z 0).isLt
  have h2 : (z 2).val < 128 := (z 2).isLt
  rw [hp]
  refine (shapeCast_apply _ _ z (ix2 (z 1) (z 2)) ?_).trans ?_
  · rewrite [Shape.rowMajor_val_two, Shape.rowMajor_val_three]
    show (z 1).val * 128 + (z 2).val = ((z 0).val * 512 + (z 1).val) * 128 + (z 2).val
    omega
  · unfold beside
    rw [dif_pos (by show 0 + 1 * (z 2).val < 128; omega)]
    refine congrArg x (funext fun a => Fin.ext ?_)
    match a with
    | ⟨0, _⟩ => show 0 + 1 * (z 1).val = 0 + 1 * (z 1).val; omega
    | ⟨1, _⟩ => show 128 * h.val + 1 * (z 2).val = 128 * (n + 1 * (z 0).val) + (0 + 1 * (z 2).val); omega

/-- Ones, stored beside a head of values. -/
theorem ones_piece (x : Vec F S512x1024 .bf16) (n : ℕ) (hn : n < 8)
    (p : Vec F S1x512x128 .bf16) (hp : p = shapeCast S1x512x128 (k0_pay76 (F := F)) shapeCasts_S512x128_S1x512x128) (z : S1x512x128.Idx) :
    p z = beside x ((Rect.unit (s := S8x512x256) ![n, 0, 128] S1x512x128.size (values_inb n hn 128 (by omega))).emb z) := by
  rw [hp]
  unfold beside
  rw [dif_neg (by show ¬ 128 + 1 * (z 2).val < 128; omega)]
  rfl

/-- What a point leaves in the values' result. -/
theorem out11_eq (x0 x1 x2 : Vec F S512x1024 .bf16) (x3 x4 : Vec F S1x128 .f32) (x5 x6 x7 : Vec F S512x128 .f32) (x8 : Vec F S128x128 .bf16)
    (y : S8x512x256.Idx) :
    out0_11 x0 x1 x2 x3 x4 x5 x6 x7 x8 y = beside x2 y := by
  have v := value_piece x2
  have o := ones_piece x2
  unfold out0_11
  refine (congrArg (fun L => View.canon L y) (List.append_nil _).symm).trans
    (View.canon_append_of_piecesOf (beside x2) [] _ ?_ y (cover0_11 _ _ _ _ _ _ _ _ _ _ _ _ _ _ _ _ y))
  exact ⟨o 7 (by omega) _ rfl, v 7 7 rfl _ rfl, o 6 (by omega) _ rfl, v 6 6 rfl _ rfl, o 5 (by omega) _ rfl, v 5 5 rfl _ rfl, o 4 (by omega) _ rfl, v 4 4 rfl _ rfl,
    o 3 (by omega) _ rfl, v 3 3 rfl _ rfl, o 2 (by omega) _ rfl, v 2 2 rfl _ rfl, o 1 (by omega) _ rfl, v 1 1 rfl _ rfl, o 0 (by omega) _ rfl, v 0 0 rfl _ rfl, trivial⟩

end Slabs

/-! ## The plain norm and rotary embedding of a half head -/

/-- The norm of a half head's 64 entries. -/
def nrm (x g : Fin 64 → EReal) (d : Fin 64) : EReal :=
  x d * Ideal.rsqrt ((∑ e : Fin 64, x e * x e) * Ideal.ofBits .f32 0x3C800000#32 + Ideal.ofBits .f32 0x358637BD#32) * g d

/-- The partial rotary embedding of a half head's 64 entries: the first 16 turn in pairs 8 apart, the others stay. -/
def rot (cs sn : Fin 8 → EReal) (u : Fin 64 → EReal) (d : Fin 64) : EReal :=
  if h : d.val < 8 then u d * cs ⟨d.val, h⟩ - u ⟨d.val + 8, by omega⟩ * sn ⟨d.val, h⟩
  else if h : d.val < 16 then u d * cs ⟨d.val - 8, by omega⟩ + u ⟨d.val - 8, by omega⟩ * sn ⟨d.val - 8, by omega⟩
  else u d

/-- The table of the entry's own factor. -/
def tabC (cs : Fin 8 → EReal) (d : Fin 64) : EReal :=
  if h : d.val < 8 then cs ⟨d.val, h⟩ else if h : d.val < 16 then cs ⟨d.val - 8, by omega⟩ else 1

/-- The table of the factor of the entry 8 further. -/
def tabU (sn : Fin 8 → EReal) (d : Fin 64) : EReal := if h : d.val < 8 then -sn ⟨d.val, h⟩ else 0

/-- The table of the factor of the entry 8 before. -/
def tabD (sn : Fin 8 → EReal) (d : Fin 64) : EReal :=
  if d.val < 8 then 0 else if h : d.val < 16 then sn ⟨d.val - 8, by omega⟩ else 0

/-- The lane of entry `d` of half `b`. -/
def lane (b : Fin 2) (d : Fin 64) : Fin 128 := ⟨64 * b.val + d.val, by omega⟩

/-- A sum over the lanes weighted by "same half" is the sum over that half. -/
theorem sum_half (f : Fin 128 → EReal) (b : Fin 2) (d : Fin 64) :
    (∑ e : Fin 128, f e * (if e.val / 64 = (lane b d).val / 64 then 1 else 0)) = ∑ e : Fin 64, f (lane b e) := by
  have hl : (lane b d).val / 64 = b.val := by show (64 * b.val + d.val) / 64 = b.val; omega
  rw [hl]
  refine (Fin.sum_univ_add (a := 64) (b := 64) _).trans ?_
  match b with
  | ⟨0, _⟩ =>
    refine (congrArg₂ (· + ·) (Finset.sum_congr rfl fun e _ => ?_) (Finset.sum_eq_zero fun e _ => ?_)).trans (add_zero _)
    · have h : e.val / 64 = 0 := by omega
      rw [if_pos (show (Fin.castAdd 64 e).val / 64 = 0 from h), mul_one]
      exact congrArg f (Fin.ext (by show e.val = 64 * 0 + e.val; omega))
    · rw [if_neg (show ¬ (Fin.natAdd 64 e).val / 64 = 0 from by show ¬ (64 + e.val) / 64 = 0; omega), mul_zero]
  | ⟨1, _⟩ =>
    refine (congrArg₂ (· + ·) (Finset.sum_eq_zero fun e _ => ?_) (Finset.sum_congr rfl fun e _ => ?_)).trans (zero_add _)
    · rw [if_neg (show ¬ (Fin.castAdd 64 e).val / 64 = 1 from by show ¬ e.val / 64 = 1; omega), mul_zero]
    · rw [if_pos (show (Fin.natAdd 64 e).val / 64 = 1 from by show (64 + e.val) / 64 = 1; omega), mul_one]
      exact congrArg f (Fin.ext (by show 64 + e.val = 64 * 1 + e.val; omega))

/-- The norm of a head's lanes, at an index, where the row is real. -/
theorem normed_apply (o : FVec Ideal S128x128 .bf16) (g : FVec Ideal S1x128 .f32) (x : Vec Ideal S512x128 .bf16)
    (ho : ∀ a b : Fin 128, (o (ix2 a b) : EReal) = if a.val / 64 = b.val / 64 then 1 else 0)
    (r : Fin 512) (hx : ∀ e : Fin 128, ∃ q : ℝ, (x (ix2 r e) : EReal) = q) (b : Fin 2) (d : Fin 64) :
    (normed (F := Ideal) o g x (ix2 r (lane b d)) : EReal)
      = nrm (fun e => x (ix2 r (lane b e))) (fun e => g (ix2 0 (lane b e))) d := by
  have hz : ∀ e : Fin 128, (x (ix2 r e) : EReal) * x (ix2 r e) - x (ix2 r e) * x (ix2 r e) = 0 := fun e => by
    obtain ⟨q, hq⟩ := hx e
    rw [hq, ← EReal.coe_mul, ← EReal.coe_sub, sub_self, EReal.coe_zero]
  unfold normed nrm
  pointwise
  simp only [ho, hz, zero_mul, Finset.sum_const_zero, add_zero]
  rw [sum_half (fun e => (x (ix2 r e) : EReal) * x (ix2 r e)) b d]

/-- A turn of the lanes by 120 reads the lane 8 further. -/
theorem up_apply (u : FVec Ideal S512x128 .f32) (r : Fin 512) (l : Fin 128) :
    dynamicRotate 1 120#32 none u rotates_S512x128_d1 (ix2 r l) = u (ix2 r ⟨(l.val + 8) % 128, by omega⟩) :=
  dynamicRotate_apply 1 120#32 u rotates_S512x128_d1 (ix2 r l) _ fun a => match a with
    | ⟨0, _⟩ => rfl
    | ⟨1, _⟩ => by show (l.val + 8) % 128 = (l.val + 128 - 120) % 128; omega

/-- A turn of the lanes by 8 reads the lane 8 before. -/
theorem down_apply (u : FVec Ideal S512x128 .f32) (r : Fin 512) (l : Fin 128) :
    dynamicRotate 1 8#32 none u rotates_S512x128_d1 (ix2 r l) = u (ix2 r ⟨(l.val + 120) % 128, by omega⟩) :=
  dynamicRotate_apply 1 8#32 u rotates_S512x128_d1 (ix2 r l) _ fun a => match a with
    | ⟨0, _⟩ => rfl
    | ⟨1, _⟩ => by show (l.val + 120) % 128 = (l.val + 128 - 8) % 128; omega

/-- The rotation by the three tables is the plain one. -/
theorem turned_apply (c su sd : FVec Ideal S512x128 .f32) (w : BitVec 32) (u : FVec Ideal S512x128 .f32) (cs sn : Fin 8 → EReal)
    (r : Fin 512) (b : Fin 2) (hc : ∀ d, (c (ix2 r (lane b d)) : EReal) = tabC cs d) (hu : ∀ d, (su (ix2 r (lane b d)) : EReal) = tabU sn d)
    (hd : ∀ d, (sd (ix2 r (lane b d)) : EReal) = tabD sn d) (d : Fin 64) :
    (turned (F := Ideal) c su sd w u (ix2 r (lane b d)) : EReal) = rot cs sn (fun e => u (ix2 r (lane b e))) d * Ideal.ofBits .f32 w := by
  have e1 := up_apply u r (lane b d)
  have e2 := down_apply u r (lane b d)
  unfold turned
  show ((u (ix2 r (lane b d)) : EReal) * c (ix2 r (lane b d)) + dynamicRotate 1 120#32 none u rotates_S512x128_d1 (ix2 r (lane b d)) * su (ix2 r (lane b d))
    + dynamicRotate 1 8#32 none u rotates_S512x128_d1 (ix2 r (lane b d)) * sd (ix2 r (lane b d))) * Ideal.ofBits .f32 w = _
  rw [e1, e2, hc, hu, hd]
  refine congrArg (· * Ideal.ofBits .f32 w) ?_
  unfold tabC tabU tabD rot
  by_cases h : d.val < 8
  · rw [dif_pos h, dif_pos h, if_pos h, dif_pos h, mul_zero, add_zero, mul_neg, ← sub_eq_add_neg]
    refine congrArg (fun l => (u (ix2 r (lane b d)) : EReal) * cs ⟨d.val, h⟩ - u (ix2 r l) * sn ⟨d.val, h⟩) (Fin.ext ?_)
    show (64 * b.val + d.val + 8) % 128 = 64 * b.val + (d.val + 8)
    omega
  · rw [dif_neg h, dif_neg h, if_neg h, dif_neg h, mul_zero, add_zero]
    by_cases h' : d.val < 16
    · rw [dif_pos h', dif_pos h', dif_pos h']
      refine congrArg (fun l => (u (ix2 r (lane b d)) : EReal) * cs ⟨d.val - 8, by omega⟩ + u (ix2 r l) * sn ⟨d.val - 8, by omega⟩) (Fin.ext ?_)
      show (64 * b.val + d.val + 120) % 128 = 64 * b.val + (d.val - 8)
      omega
    · rw [dif_neg h', dif_neg h', dif_neg h', mul_one, mul_zero, add_zero]

/-- The zero start of a 2-axis view, as a constant function. -/
theorem hz2 : (![0, 0] : Fin 2 → ℕ) = fun _ => 0 := by funext a; fin_cases a <;> rfl

/-- A head's lanes of a block, at an index. -/
theorem head_apply (x : Vec Ideal S512x1024 .bf16) (h : Fin 8) (r : Fin 512) (l : Fin 128) :
    head x h (ix2 r l) = x (ix2 r ⟨128 * h.val + l.val, by omega⟩) := by
  refine congrArg x (funext fun a => Fin.ext ?_)
  match a with
  | ⟨0, _⟩ => show 0 + 1 * r.val = r.val; omega
  | ⟨1, _⟩ => show 128 * h.val + 1 * l.val = 128 * h.val + l.val; omega

/-- What a point leaves at an index of a result of half heads, from tables, weights and gain that repeat by half. -/
theorem halves_apply (c su sd : Vec Ideal S512x128 .f32) (o : Vec Ideal S128x128 .bf16) (g : Vec Ideal S1x128 .f32) (w : BitVec 32)
    (x : Vec Ideal S512x1024 .bf16) (cs sn : Fin 8 → EReal) (gn : Fin 64 → EReal) (r : Fin 512)
    (hc : ∀ b d, (c (ix2 r (lane b d)) : EReal) = tabC cs d) (hu : ∀ b d, (su (ix2 r (lane b d)) : EReal) = tabU sn d)
    (hd : ∀ b d, (sd (ix2 r (lane b d)) : EReal) = tabD sn d)
    (ho : ∀ a b : Fin 128, (o (ix2 a b) : EReal) = if a.val / 64 = b.val / 64 then 1 else 0)
    (hg : ∀ b d, (g (ix2 0 (lane b d)) : EReal) = gn d)
    (hx : ∀ e : Fin 1024, ∃ q : ℝ, (x (ix2 r e) : EReal) = q) (n : Fin 16) (d : Fin 64) :
    (halves (F := Ideal) c su sd o g w x (ix3 n r d) : EReal)
      = rot cs sn (nrm (fun e => x (ix2 r ⟨64 * n.val + e.val, by omega⟩)) gn) d * Ideal.ofBits .f32 w := by
  have l0 : ∀ v : Vec Ideal S512x128 .f32, View.ld v r0_0 = v := fun v => View.ld_unit_zero (S := S512x128) hz2 _ _
  have l1 : View.ld o r0_1 = o := View.ld_unit_zero (S := S128x128) hz2 _ _
  have l2 : View.ld g r0_2 = g := View.ld_unit_zero (S := S1x128) hz2 _ _
  let h : Fin 8 := ⟨n.val / 2, by omega⟩
  let b : Fin 2 := ⟨n.val % 2, by omega⟩
  have hh : h.val = n.val / 2 := rfl
  have hb : b.val = n.val % 2 := rfl
  refine (halves_at c su sd o g w x h b.val b.isLt (ix3 n r d) (by show n.val = 2 * h.val + b.val; omega) (lane b d) rfl).trans ?_
  show (headOut (F := Ideal) c su sd o g w x h (ix2 r (lane b d)) : EReal) = _
  unfold headOut
  rw [l0, l0, l0, l1, l2]
  have s0 : ∀ v : Vec Ideal S512x128 .f32, shapeCast S512x128 v shapeCasts_S512x128_S512x128 = v := fun v => funext fun i => shapeCast_apply v _ i i rfl
  have p2 : k0_pay2 (F := Ideal) c = c := s0 c
  have p3 : k0_pay3 (F := Ideal) su = su := s0 su
  have p4 : k0_pay4 (F := Ideal) sd = sd := s0 sd
  have p5 : k0_pay5 (F := Ideal) o = o := funext fun i => shapeCast_apply o _ i i rfl
  have p6 : k0_pay6 (F := Ideal) g = g := funext fun i => shapeCast_apply g _ i i rfl
  rw [p2, p3, p4, p5, p6]
  refine (turned_apply c su sd w _ cs sn r b (hc b) (hu b) (hd b) d).trans ?_
  refine congrArg (fun u => rot cs sn u d * Ideal.ofBits .f32 w) (funext fun e => ?_)
  refine (normed_apply o g (head x h) ho r (fun e => by rw [head_apply]; exact hx _) b e).trans ?_
  refine congrArg₂ (fun u v => nrm u v e) (funext fun q => ?_) (funext fun q => hg b q)
  rw [head_apply]
  refine congrArg (fun l => (x (ix2 r l) : EReal)) (Fin.ext ?_)
  show 128 * h.val + (64 * b.val + q.val) = 64 * n.val + q.val
  omega

/-! ## The call's operands -/

variable (m : (ℓ : Loc nD τ sig) → Buf (Elt Ideal) ℓ) (c : Dev nD)

/-- The argument in buffer `main_arg0`: the projection. -/
abbrev argX : S8192x8192.Idx → EReal := m (c.tc.loc main_arg0)
/-- The argument in buffer `main_arg1`: the queries' gain. -/
abbrev argQ : S64.Idx → EReal := m (c.tc.loc main_arg1)
/-- The argument in buffer `main_arg2`: the keys' gain. -/
abbrev argK : S64.Idx → EReal := m (c.tc.loc main_arg2)
/-- The argument in buffer `main_arg3`: the cosines. -/
abbrev argC : S8192x8.Idx → EReal := m (c.tc.loc main_arg3)
/-- The argument in buffer `main_arg4`: the sines. -/
abbrev argS : S8192x8.Idx → EReal := m (c.tc.loc main_arg4)

/-- The projection reaches the call as it is. -/
theorem V_x (a b : Fin 8192) : (V m c main_arg0 (ix2 a b) : EReal) = argX m c (ix2 a b) := by
  unfold V
  after_reads_at
  try rfl

/-- A lane of a half, as a number. -/
theorem lane_val (b : Fin 2) (d : Fin 64) : (lane b d).val = 64 * b.val + d.val := rfl

/-- The queries' gain, repeated over both halves. -/
theorem V_gq (b : Fin 2) (d : Fin 64) : (V m c main_v23 (ix2 0 (lane b d)) : EReal) = argQ m c (ix1 d) := by
  have hl := lane_val b d
  unfold V
  after_reads_at
  after_reads_simp
  split_ifs
  all_goals exact congrArg (m (c.tc.loc main_arg1)) (congrArg ix1 (Fin.ext (by show _ = d.val; dsimp only; omega)))

/-- The keys' gain, repeated over both halves. -/
theorem V_gk (b : Fin 2) (d : Fin 64) : (V m c main_v25 (ix2 0 (lane b d)) : EReal) = argK m c (ix1 d) := by
  have hl := lane_val b d
  unfold V
  after_reads_at
  after_reads_simp
  split_ifs
  all_goals exact congrArg (m (c.tc.loc main_arg2)) (congrArg ix1 (Fin.ext (by show _ = d.val; dsimp only; omega)))

/-- The first table holds the factor of an entry itself. -/
theorem V_c (s : Fin 8192) (b : Fin 2) (d : Fin 64) :
    (V m c main_v9 (ix2 s (lane b d)) : EReal) = tabC (fun k => argC m c (ix2 s k)) d := by
  have hl := lane_val b d
  by_cases h1 : d.val < 8 <;> by_cases h2 : d.val < 16 <;> simp only [tabC, h1, h2, ↓reduceDIte]
  all_goals
    unfold V
    after_reads_at
    after_reads_simp
    pointwise
    split_ifs
  all_goals first
    | omega
    | exact congrArg (m (c.tc.loc main_arg3)) (congrArg (ix2 s) (Fin.ext (by dsimp only; omega)))
    | rfl

/-- The second table holds the factor of the entry 8 further. -/
theorem V_su (s : Fin 8192) (b : Fin 2) (d : Fin 64) :
    (V m c main_v10 (ix2 s (lane b d)) : EReal) = tabU (fun k => argS m c (ix2 s k)) d := by
  have hl := lane_val b d
  by_cases h1 : d.val < 8 <;> simp only [tabU, h1, ↓reduceDIte]
  all_goals
    unfold V
    after_reads_at
    after_reads_simp
    pointwise
    split_ifs
  all_goals first
    | omega
    | exact congrArg (fun z : EReal => -z) (congrArg (argS m c) (congrArg (ix2 s) (Fin.ext (by dsimp only; omega))))
    | exact Ideal.ofBits_zero_f32
    | rfl

/-- The third table holds the factor of the entry 8 before. -/
theorem V_sd (s : Fin 8192) (b : Fin 2) (d : Fin 64) :
    (V m c main_v11 (ix2 s (lane b d)) : EReal) = tabD (fun k => argS m c (ix2 s k)) d := by
  have hl := lane_val b d
  by_cases h1 : d.val < 8 <;> by_cases h2 : d.val < 16 <;> simp only [tabD, h1, h2, ↓reduceDIte, ↓reduceIte]
  all_goals
    unfold V
    after_reads_at
    after_reads_simp
    pointwise
    split_ifs
  all_goals first
    | omega
    | exact congrArg (m (c.tc.loc main_arg4)) (congrArg (ix2 s) (Fin.ext (by dsimp only; omega)))
    | exact Ideal.ofBits_zero_f32
    | rfl

/-- The kernel's integer test of two lanes, decided over all lanes: whether they lie in the same half. -/
theorem same_half : ∀ a b : Fin 128, (IntOp.cmpi CmpIPredicate.eq
        (Scalar.select
          (IntOp.andi
            (IntOp.cmpi CmpIPredicate.ne
              (if BitVec.ofNat 32 a.val = 0 then 0 else if (BitVec.ofNat 32 a.val).msb = true then -1 else 1)
              (if (64#32 : BitVec 32) = 0 then 0 else if BitVec.msb (64#32) = true then -1 else 1 : BitVec 32))
            (IntOp.cmpi CmpIPredicate.ne (IntOp.remsi ArithUnit.host (BitVec.ofNat 32 a.val) 64#32) 0#32))
          (IntOp.subi (IntOp.divsi ArithUnit.host (BitVec.ofNat 32 a.val) 64#32) 1#32)
          (IntOp.divsi ArithUnit.host (BitVec.ofNat 32 a.val) 64#32))
        (Scalar.select
          (IntOp.andi
            (IntOp.cmpi CmpIPredicate.ne
              (if BitVec.ofNat 32 b.val = 0 then 0 else if (BitVec.ofNat 32 b.val).msb = true then -1 else 1)
              (if (64#32 : BitVec 32) = 0 then 0 else if BitVec.msb (64#32) = true then -1 else 1 : BitVec 32))
            (IntOp.cmpi CmpIPredicate.ne (IntOp.remsi ArithUnit.host (BitVec.ofNat 32 b.val) 64#32) 0#32))
          (IntOp.subi (IntOp.divsi ArithUnit.host (BitVec.ofNat 32 b.val) 64#32) 1#32)
          (IntOp.divsi ArithUnit.host (BitVec.ofNat 32 b.val) 64#32))) = if a.val / 64 = b.val / 64 then 1#1 else 0#1 := by
  decide +kernel

/-- The weights of the lane sum: one within a half, zero across. -/
theorem V_o (a b : Fin 128) : V m c main_v21 (ix2 a b) = ((if a.val / 64 = b.val / 64 then 1 else 0 : EReal) : EReal) := by
  unfold V
  after_reads_at
  refine (congrArg (FloatOps.uitofp (F := Ideal) FTy.bf16) (same_half a b)).trans ?_
  show (((if a.val / 64 = b.val / 64 then 1#1 else 0#1 : BitVec 1).toNat : ℝ) : EReal) = _
  split_ifs <;> simp
/-- Which block of operand 0 a grid step holds. -/
theorem idx0 : ∀ t : Fin cfg0.N, win0_0.index t (0 : Fin 2) = t.val ∧ win0_0.index t (1 : Fin 2) = 1 := by decide +kernel
/-- Which block of operand 1 a grid step holds. -/
theorem idx1 : ∀ t : Fin cfg0.N, win0_1.index t (0 : Fin 2) = t.val ∧ win0_1.index t (1 : Fin 2) = 2 := by decide +kernel
/-- Which block of operand 2 a grid step holds. -/
theorem idx2 : ∀ t : Fin cfg0.N, win0_2.index t (0 : Fin 2) = t.val ∧ win0_2.index t (1 : Fin 2) = 3 := by decide +kernel
/-- Which block of operand 3 a grid step holds. -/
theorem idx3 : ∀ t : Fin cfg0.N, win0_3.index t (0 : Fin 2) = 0 ∧ win0_3.index t (1 : Fin 2) = 0 := by decide +kernel
/-- Which block of operand 4 a grid step holds. -/
theorem idx4 : ∀ t : Fin cfg0.N, win0_4.index t (0 : Fin 2) = 0 ∧ win0_4.index t (1 : Fin 2) = 0 := by decide +kernel
/-- Which block of operand 5 a grid step holds. -/
theorem idx5 : ∀ t : Fin cfg0.N, win0_5.index t (0 : Fin 2) = t.val ∧ win0_5.index t (1 : Fin 2) = 0 := by decide +kernel
/-- Which block of operand 6 a grid step holds. -/
theorem idx6 : ∀ t : Fin cfg0.N, win0_6.index t (0 : Fin 2) = t.val ∧ win0_6.index t (1 : Fin 2) = 0 := by decide +kernel
/-- Which block of operand 7 a grid step holds. -/
theorem idx7 : ∀ t : Fin cfg0.N, win0_7.index t (0 : Fin 2) = t.val ∧ win0_7.index t (1 : Fin 2) = 0 := by decide +kernel
/-- Which block of operand 8 a grid step holds. -/
theorem idx8 : ∀ t : Fin cfg0.N, win0_8.index t (0 : Fin 2) = 0 ∧ win0_8.index t (1 : Fin 2) = 0 := by decide +kernel
/-- Which block of result 9 a grid step holds. -/
theorem idx9 : ∀ t : Fin cfg0.N, win0_9.index t (0 : Fin 3) = 0 ∧ win0_9.index t (1 : Fin 3) = t.val ∧ win0_9.index t (2 : Fin 3) = 0 := by decide +kernel
/-- Which block of result 10 a grid step holds. -/
theorem idx10 : ∀ t : Fin cfg0.N, win0_10.index t (0 : Fin 3) = 0 ∧ win0_10.index t (1 : Fin 3) = t.val ∧ win0_10.index t (2 : Fin 3) = 0 := by decide +kernel
/-- Which block of result 11 a grid step holds. -/
theorem idx11 : ∀ t : Fin cfg0.N, win0_11.index t (0 : Fin 3) = 0 ∧ win0_11.index t (1 : Fin 3) = t.val ∧ win0_11.index t (2 : Fin 3) = 0 := by decide +kernel
/-- Every grid step flushes operand 9. -/
theorem flush9 : ∀ t : Fin cfg0.N, (cfg0.win 9).flush t = true := by decide +kernel
/-- Every grid step flushes operand 10. -/
theorem flush10 : ∀ t : Fin cfg0.N, (cfg0.win 10).flush t = true := by decide +kernel
/-- Every grid step flushes operand 11. -/
theorem flush11 : ∀ t : Fin cfg0.N, (cfg0.win 11).flush t = true := by decide +kernel

/-- The block of operand 0 a grid step reads, entry by entry. -/
theorem blk0 (t : Fin cfg0.N) (r : Fin 512) (y : Fin 1024) (s : Fin 8192) (hs : s.val = 512 * t.val + r.val) :
    (iblk m c 0 t (ix2 r y) : EReal) = argX m c (ix2 s ⟨1024 + y.val, by omega⟩) := by
  obtain ⟨h0, h1⟩ := idx0 t
  refine Eq.trans ?_ (V_x m c s ⟨1024 + y.val, by omega⟩)
  unfold iblk
  rw [View.read_apply]
  show V m c main_arg0 _ = _
  congr 1
  funext a
  refine Fin.ext ?_
  match a with
  | ⟨0, _⟩ => show win0_0.index t (0 : Fin 2) * 512 + 1 * r.val = s.val; omega
  | ⟨1, _⟩ => show win0_0.index t (1 : Fin 2) * 1024 + 1 * y.val = 1024 + y.val; omega

/-- The block of operand 1 a grid step reads, entry by entry. -/
theorem blk1 (t : Fin cfg0.N) (r : Fin 512) (y : Fin 1024) (s : Fin 8192) (hs : s.val = 512 * t.val + r.val) :
    (iblk m c 1 t (ix2 r y) : EReal) = argX m c (ix2 s ⟨2048 + y.val, by omega⟩) := by
  obtain ⟨h0, h1⟩ := idx1 t
  refine Eq.trans ?_ (V_x m c s ⟨2048 + y.val, by omega⟩)
  unfold iblk
  rw [View.read_apply]
  show V m c main_arg0 _ = _
  congr 1
  funext a
  refine Fin.ext ?_
  match a with
  | ⟨0, _⟩ => show win0_1.index t (0 : Fin 2) * 512 + 1 * r.val = s.val; omega
  | ⟨1, _⟩ => show win0_1.index t (1 : Fin 2) * 1024 + 1 * y.val = 2048 + y.val; omega

/-- The block of operand 2 a grid step reads, entry by entry. -/
theorem blk2 (t : Fin cfg0.N) (r : Fin 512) (y : Fin 1024) (s : Fin 8192) (hs : s.val = 512 * t.val + r.val) :
    (iblk m c 2 t (ix2 r y) : EReal) = argX m c (ix2 s ⟨3072 + y.val, by omega⟩) := by
  obtain ⟨h0, h1⟩ := idx2 t
  refine Eq.trans ?_ (V_x m c s ⟨3072 + y.val, by omega⟩)
  unfold iblk
  rw [View.read_apply]
  show V m c main_arg0 _ = _
  congr 1
  funext a
  refine Fin.ext ?_
  match a with
  | ⟨0, _⟩ => show win0_2.index t (0 : Fin 2) * 512 + 1 * r.val = s.val; omega
  | ⟨1, _⟩ => show win0_2.index t (1 : Fin 2) * 1024 + 1 * y.val = 3072 + y.val; omega

/-- The block of operand 3 a grid step reads, entry by entry. -/
theorem blk3 (t : Fin cfg0.N) (b : Fin 2) (d : Fin 64) : (iblk m c 3 t (ix2 0 (lane b d)) : EReal) = argQ m c (ix1 d) := by
  obtain ⟨h0, h1⟩ := idx3 t
  refine Eq.trans ?_ (V_gq m c b d)
  unfold iblk
  rw [View.read_apply]
  show V m c main_v23 _ = _
  congr 1
  funext a
  refine Fin.ext ?_
  match a with
  | ⟨0, _⟩ => show win0_3.index t (0 : Fin 2) * 1 + 1 * 0 = 0; omega
  | ⟨1, _⟩ => show win0_3.index t (1 : Fin 2) * 128 + 1 * (lane b d).val = (lane b d).val; omega

/-- The block of operand 4 a grid step reads, entry by entry. -/
theorem blk4 (t : Fin cfg0.N) (b : Fin 2) (d : Fin 64) : (iblk m c 4 t (ix2 0 (lane b d)) : EReal) = argK m c (ix1 d) := by
  obtain ⟨h0, h1⟩ := idx4 t
  refine Eq.trans ?_ (V_gk m c b d)
  unfold iblk
  rw [View.read_apply]
  show V m c main_v25 _ = _
  congr 1
  funext a
  refine Fin.ext ?_
  match a with
  | ⟨0, _⟩ => show win0_4.index t (0 : Fin 2) * 1 + 1 * 0 = 0; omega
  | ⟨1, _⟩ => show win0_4.index t (1 : Fin 2) * 128 + 1 * (lane b d).val = (lane b d).val; omega

/-- The block of operand 5 a grid step reads, entry by entry. -/
theorem blk5 (t : Fin cfg0.N) (r : Fin 512) (s : Fin 8192) (hs : s.val = 512 * t.val + r.val) (b : Fin 2) (d : Fin 64) :
    (iblk m c 5 t (ix2 r (lane b d)) : EReal) = tabC (fun k => argC m c (ix2 s k)) d := by
  obtain ⟨h0, h1⟩ := idx5 t
  refine Eq.trans ?_ (V_c m c s b d)
  unfold iblk
  rw [View.read_apply]
  show V m c main_v9 _ = _
  congr 1
  funext a
  refine Fin.ext ?_
  match a with
  | ⟨0, _⟩ => show win0_5.index t (0 : Fin 2) * 512 + 1 * r.val = s.val; omega
  | ⟨1, _⟩ => show win0_5.index t (1 : Fin 2) * 128 + 1 * (lane b d).val = (lane b d).val; omega

/-- The block of operand 6 a grid step reads, entry by entry. -/
theorem blk6 (t : Fin cfg0.N) (r : Fin 512) (s : Fin 8192) (hs : s.val = 512 * t.val + r.val) (b : Fin 2) (d : Fin 64) :
    (iblk m c 6 t (ix2 r (lane b d)) : EReal) = tabU (fun k => argS m c (ix2 s k)) d := by
  obtain ⟨h0, h1⟩ := idx6 t
  refine Eq.trans ?_ (V_su m c s b d)
  unfold iblk
  rw [View.read_apply]
  show V m c main_v10 _ = _
  congr 1
  funext a
  refine Fin.ext ?_
  match a with
  | ⟨0, _⟩ => show win0_6.index t (0 : Fin 2) * 512 + 1 * r.val = s.val; omega
  | ⟨1, _⟩ => show win0_6.index t (1 : Fin 2) * 128 + 1 * (lane b d).val = (lane b d).val; omega

/-- The block of operand 7 a grid step reads, entry by entry. -/
theorem blk7 (t : Fin cfg0.N) (r : Fin 512) (s : Fin 8192) (hs : s.val = 512 * t.val + r.val) (b : Fin 2) (d : Fin 64) :
    (iblk m c 7 t (ix2 r (lane b d)) : EReal) = tabD (fun k => argS m c (ix2 s k)) d := by
  obtain ⟨h0, h1⟩ := idx7 t
  refine Eq.trans ?_ (V_sd m c s b d)
  unfold iblk
  rw [View.read_apply]
  show V m c main_v11 _ = _
  congr 1
  funext a
  refine Fin.ext ?_
  match a with
  | ⟨0, _⟩ => show win0_7.index t (0 : Fin 2) * 512 + 1 * r.val = s.val; omega
  | ⟨1, _⟩ => show win0_7.index t (1 : Fin 2) * 128 + 1 * (lane b d).val = (lane b d).val; omega

/-- The block of operand 8 a grid step reads, entry by entry. -/
theorem blk8 (t : Fin cfg0.N) (x y : Fin 128) :
    (iblk m c 8 t (ix2 x y) : EReal) = ((if x.val / 64 = y.val / 64 then 1 else 0 : EReal) : EReal) := by
  obtain ⟨h0, h1⟩ := idx8 t
  refine Eq.trans ?_ (V_o m c x y)
  unfold iblk
  rw [View.read_apply]
  show V m c main_v21 _ = _
  congr 1
  funext a
  refine Fin.ext ?_
  match a with
  | ⟨0, _⟩ => show win0_8.index t (0 : Fin 2) * 128 + 1 * x.val = x.val; omega
  | ⟨1, _⟩ => show win0_8.index t (1 : Fin 2) * 128 + 1 * y.val = y.val; omega

/-- The 64 entries of half head `n` of row `s`, from column block `o` of the projection. -/
def row (x : S8192x8192.Idx → EReal) (o : Fin 4) (s : Fin 8192) (n : Fin 16) (e : Fin 64) : EReal :=
  x (ix2 s ⟨1024 * o.val + 64 * n.val + e.val, by omega⟩)

/-- Norm, rotary embedding and scale of a half head, at an entry. -/
def turn (x : S8192x8192.Idx → EReal) (o : Fin 4) (g : S64.Idx → EReal) (cs sn : S8192x8.Idx → EReal) (s : Fin 8192) (n : Fin 16) (d : Fin 64) : EReal :=
  rot (fun k => cs (ix2 s k)) (fun k => sn (ix2 s k)) (nrm (row x o s n) (fun e => g (ix1 e))) d

/-- What a point leaves of its queries or keys, at an index. -/
theorem halves_out (t : Fin cfg0.N) (r : Fin 512) (s : Fin 8192) (hs : s.val = 512 * t.val + r.val) (g : Vec Ideal S1x128 .f32)
    (gn : S64.Idx → EReal) (hg : ∀ b d, (g (ix2 0 (lane b d)) : EReal) = gn (ix1 d)) (w : BitVec 32) (x : Vec Ideal S512x1024 .bf16) (o : Fin 4)
    (hx : ∀ e : Fin 1024, (x (ix2 r e) : EReal) = argX m c (ix2 s ⟨1024 * o.val + e.val, by omega⟩))
    (hf : ∀ e : Fin 1024, ∃ q : ℝ, argX m c (ix2 s ⟨1024 * o.val + e.val, by omega⟩) = q) (n : Fin 16) (d : Fin 64) :
    (halves (F := Ideal) (iblk m c 5 t) (iblk m c 6 t) (iblk m c 7 t) (iblk m c 8 t) g w x (ix3 n r d) : EReal)
      = turn (argX m c) o gn (argC m c) (argS m c) s n d * Ideal.ofBits .f32 w := by
  refine (halves_apply _ _ _ _ _ _ _ (fun k => argC m c (ix2 s k)) (fun k => argS m c (ix2 s k)) (fun e => gn (ix1 e)) r
    (blk5 m c t r s hs) (blk6 m c t r s hs) (blk7 m c t r s hs) (blk8 m c t) hg (fun e => by rw [hx]; exact hf e) n d).trans ?_
  unfold turn
  refine congrArg (fun u => rot _ _ (nrm u _) d * _) (funext fun e => ?_)
  refine (hx _).trans ?_
  unfold row
  refine congrArg (argX m c) (congrArg (ix2 s) (Fin.ext ?_))
  show 1024 * o.val + (64 * n.val + e.val) = 1024 * o.val + 64 * n.val + e.val
  omega

/-- THE KERNEL'S QUERIES at half head `n`, row `s`, entry `d`. -/
theorem result_at9 (hf : ∀ (s : Fin 8192) (j : Fin 2048), ∃ q : ℝ, argX m c (ix2 s ⟨1024 + j.val, by omega⟩) = q) (n : Fin 16) (s : Fin 8192) (d : Fin 64) :
    ((dats m 0 c).arrAt 9 cfg0.N (ix3 n s d) : EReal) = turn (argX m c) 1 (argQ m c) (argC m c) (argS m c) s n d * Ideal.ofBits .f32 0x3E38AA3B#32 := by
  have hN : cfg0.N = 16 := N_0
  let t : Fin cfg0.N := ⟨s.val / 512, by omega⟩
  let r : Fin 512 := ⟨s.val % 512, Nat.mod_lt _ (by decide)⟩
  obtain ⟨h0, h1, h2⟩ := idx9 t
  have ht : t.val = s.val / 512 := rfl
  have hs : s.val = 512 * t.val + r.val := by show s.val = 512 * (s.val / 512) + s.val % 512; omega
  have hb := congrFun (Cert.PrepIdeal.Value.blocks9 m c t (flush9 t)) (ix3 n r d)
  rw [View.read_apply, Cert.PrepIdeal.Value.flushed9] at hb
  have he : ((cfg0.win 9).blk t).view.emb (ix3 n r d) = (ix3 n s d : S16x8192x64.Idx) := by
    funext a
    refine Fin.ext ?_
    match a with
    | ⟨0, _⟩ => show win0_9.index t (0 : Fin 3) * 16 + 1 * n.val = n.val; omega
    | ⟨1, _⟩ => show win0_9.index t (1 : Fin 3) * 512 + 1 * (s.val % 512) = s.val; omega
    | ⟨2, _⟩ => show win0_9.index t (2 : Fin 3) * 64 + 1 * d.val = d.val; omega
  have hx : (cfg0.win 9).xinj (grid0.coords t) (ix3 n r d) = (ix3 n r d : S16x512x64.Idx) := by
    funext a
    refine Fin.ext ?_
    match a with
    | ⟨0, _⟩ => rfl
    | ⟨1, _⟩ => rfl
    | ⟨2, _⟩ => rfl
  rw [he] at hb
  rw [cast_eq] at hb
  rw [hb]
  show out0_9 (F := Ideal) _ _ _ _ _ _ _ _ _ ((cfg0.win 9).xinj (grid0.coords t) (ix3 n r d)) = _
  rw [hx, out9_eq]
  refine halves_out m c t r s hs _ _ (blk3 m c t) _ _ 1 (fun e => blk0 m c t r e s hs) (fun e => ?_) n d
  obtain ⟨q, hq⟩ := hf s ⟨1024 * 0 + e.val, by omega⟩
  refine ⟨q, (congrArg (argX m c) (congrArg (ix2 s) (Fin.ext ?_))).trans hq⟩
  show 1024 * 1 + e.val = 1024 + (1024 * 0 + e.val)
  omega

/-- THE KERNEL'S KEYS at half head `n`, row `s`, entry `d`. -/
theorem result_at10 (hf : ∀ (s : Fin 8192) (j : Fin 2048), ∃ q : ℝ, argX m c (ix2 s ⟨1024 + j.val, by omega⟩) = q) (n : Fin 16) (s : Fin 8192) (d : Fin 64) :
    ((dats m 0 c).arrAt 10 cfg0.N (ix3 n s d) : EReal) = turn (argX m c) 2 (argK m c) (argC m c) (argS m c) s n d * Ideal.ofBits .f32 0x3F800000#32 := by
  have hN : cfg0.N = 16 := N_0
  let t : Fin cfg0.N := ⟨s.val / 512, by omega⟩
  let r : Fin 512 := ⟨s.val % 512, Nat.mod_lt _ (by decide)⟩
  obtain ⟨h0, h1, h2⟩ := idx10 t
  have ht : t.val = s.val / 512 := rfl
  have hs : s.val = 512 * t.val + r.val := by show s.val = 512 * (s.val / 512) + s.val % 512; omega
  have hb := congrFun (Cert.PrepIdeal.Value.blocks10 m c t (flush10 t)) (ix3 n r d)
  rw [View.read_apply, Cert.PrepIdeal.Value.flushed10] at hb
  have he : ((cfg0.win 10).blk t).view.emb (ix3 n r d) = (ix3 n s d : S16x8192x64.Idx) := by
    funext a
    refine Fin.ext ?_
    match a with
    | ⟨0, _⟩ => show win0_10.index t (0 : Fin 3) * 16 + 1 * n.val = n.val; omega
    | ⟨1, _⟩ => show win0_10.index t (1 : Fin 3) * 512 + 1 * (s.val % 512) = s.val; omega
    | ⟨2, _⟩ => show win0_10.index t (2 : Fin 3) * 64 + 1 * d.val = d.val; omega
  have hx : (cfg0.win 10).xinj (grid0.coords t) (ix3 n r d) = (ix3 n r d : S16x512x64.Idx) := by
    funext a
    refine Fin.ext ?_
    match a with
    | ⟨0, _⟩ => rfl
    | ⟨1, _⟩ => rfl
    | ⟨2, _⟩ => rfl
  rw [he] at hb
  rw [cast_eq] at hb
  rw [hb]
  show out0_10 (F := Ideal) _ _ _ _ _ _ _ _ _ ((cfg0.win 10).xinj (grid0.coords t) (ix3 n r d)) = _
  rw [hx, out10_eq]
  refine halves_out m c t r s hs _ _ (blk4 m c t) _ _ 2 (fun e => blk1 m c t r e s hs) (fun e => ?_) n d
  obtain ⟨q, hq⟩ := hf s ⟨1024 * 1 + e.val, by omega⟩
  refine ⟨q, (congrArg (argX m c) (congrArg (ix2 s) (Fin.ext ?_))).trans hq⟩
  show 1024 * 2 + e.val = 1024 + (1024 * 1 + e.val)
  omega

/-- The values of head `h` of row `s` beside a block of ones. -/
def ones (x : S8192x8192.Idx → EReal) (h : Fin 8) (s : Fin 8192) (l : Fin 256) : EReal :=
  if k : l.val < 128 then x (ix2 s ⟨3072 + (128 * h.val + l.val), by omega⟩) else Ideal.ofBits .bf16 0x3F80#16

/-- THE KERNEL'S VALUES at head `h`, row `s`, lane `l`. -/
theorem result_at11 (h : Fin 8) (s : Fin 8192) (l : Fin 256) : ((dats m 0 c).arrAt 11 cfg0.N (ix3 h s l) : EReal) = ones (argX m c) h s l := by
  have hN : cfg0.N = 16 := N_0
  let t : Fin cfg0.N := ⟨s.val / 512, by omega⟩
  let r : Fin 512 := ⟨s.val % 512, Nat.mod_lt _ (by decide)⟩
  obtain ⟨h0, h1, h2⟩ := idx11 t
  have ht : t.val = s.val / 512 := rfl
  have hs : s.val = 512 * t.val + r.val := by show s.val = 512 * (s.val / 512) + s.val % 512; omega
  have hb := congrFun (Cert.PrepIdeal.Value.blocks11 m c t (flush11 t)) (ix3 h r l)
  rw [View.read_apply, Cert.PrepIdeal.Value.flushed11] at hb
  have he : ((cfg0.win 11).blk t).view.emb (ix3 h r l) = (ix3 h s l : S8x8192x256.Idx) := by
    funext a
    refine Fin.ext ?_
    match a with
    | ⟨0, _⟩ => show win0_11.index t (0 : Fin 3) * 8 + 1 * h.val = h.val; omega
    | ⟨1, _⟩ => show win0_11.index t (1 : Fin 3) * 512 + 1 * (s.val % 512) = s.val; omega
    | ⟨2, _⟩ => show win0_11.index t (2 : Fin 3) * 256 + 1 * l.val = l.val; omega
  have hx : (cfg0.win 11).xinj (grid0.coords t) (ix3 h r l) = (ix3 h r l : S8x512x256.Idx) := by
    funext a
    refine Fin.ext ?_
    match a with
    | ⟨0, _⟩ => rfl
    | ⟨1, _⟩ => rfl
    | ⟨2, _⟩ => rfl
  rw [he] at hb
  rw [cast_eq] at hb
  rw [hb]
  show out0_11 (F := Ideal) _ _ _ _ _ _ _ _ _ ((cfg0.win 11).xinj (grid0.coords t) (ix3 h r l)) = _
  rw [hx, out11_eq]
  unfold beside ones
  by_cases hl : l.val < 128
  · rw [dif_pos hl]
    refine (dif_pos hl).trans ?_
    exact blk2 m c t r ⟨128 * h.val + l.val, by omega⟩ s hs
  · rw [dif_neg hl]
    exact dif_neg hl

/-! ## The plain prep -/

/-- The divisor of the mean is 64. -/
theorem sixty_four : Ideal.ofBits .f32 0x42800000#32 = ((64 : ℝ) : EReal) := by
  simp [Ideal.ofBits, Ideal.ieee]
  rw [← EReal.coe_mul]
  norm_num

/-- The kernel multiplies by a 64th. -/
theorem sixty_fourth : Ideal.ofBits .f32 0x3C800000#32 = ((1 / 64 : ℝ) : EReal) := by
  simp [Ideal.ofBits, Ideal.ieee]
  rw [← EReal.coe_mul]
  norm_num

/-- The keys' scale is one. -/
theorem one_bits : Ideal.ofBits .f32 0x3F800000#32 = 1 := by
  simp [Ideal.ofBits, Ideal.ieee]
  rw [← EReal.coe_mul]
  norm_num

/-- The reference's split of the queries' columns into half heads. -/
theorem ref_row (x : S8192x8192.Idx → EReal) (s : Fin 8192) (n : Fin 16) (e : Fin 64) :
    (Cert.PrepRefIdeal.Read.val_main_v4 (F := Ideal) x (ix3 s n e) : EReal) = row x 1 s n e := by
  rw [Cert.PrepRefIdeal.Read.val_main_v4_apply, Cert.PrepRefIdeal.Read.val_main_v3_apply, Cert.PrepRefIdeal.Read.val_main_v2_apply]
  refine congrArg x (funext fun a => Fin.ext ?_)
  match a with
  | ⟨0, _⟩ => show ((s.val * 16 + n.val) * 64 + e.val) / 1024 = s.val; omega
  | ⟨1, _⟩ => show 1024 + ((s.val * 16 + n.val) * 64 + e.val) % 1024 = 1024 * 1 + 64 * n.val + e.val; omega

/-- The reference's norm of the queries, at an index. -/
theorem ref_norm (x : S8192x8192.Idx → EReal) (g : S64.Idx → EReal) (s : Fin 8192) (n : Fin 16) (d : Fin 64) :
    (Cert.PrepRefIdeal.Read.val_main_v17 (F := Ideal) x g (ix3 s n d) : EReal) = nrm (row x 1 s n) (fun e => g (ix1 e)) d := by
  have hs : ∀ k, (Cert.PrepRefIdeal.Read.val_main_v5 (F := Ideal) x (Cert.PrepRefIdeal.Read.idx_main_v6 (Cert.PrepRefIdeal.Read.idx_main_v7 (Cert.PrepRefIdeal.Read.idx_main_v13 (ix3 s n d))) k) : EReal) = row x 1 s n k * row x 1 s n k := fun k => by
    rw [show Cert.PrepRefIdeal.Read.idx_main_v6 (Cert.PrepRefIdeal.Read.idx_main_v7 (Cert.PrepRefIdeal.Read.idx_main_v13 (ix3 s n d))) k = ix3 s n k from by funext a; match a with | ⟨0, _⟩ => rfl | ⟨1, _⟩ => rfl | ⟨2, _⟩ => rfl,
      Cert.PrepRefIdeal.Read.val_main_v5_apply, ref_row]
    rfl
  rw [Cert.PrepRefIdeal.Read.val_main_v17_apply, Cert.PrepRefIdeal.Read.val_main_v14_apply, Cert.PrepRefIdeal.Read.val_main_v13_apply, Cert.PrepRefIdeal.Read.val_main_v12_apply, Cert.PrepRefIdeal.Read.val_main_v11_apply, Cert.PrepRefIdeal.Read.val_main_v9_apply, Cert.PrepRefIdeal.Read.val_main_v7_apply, Cert.PrepRefIdeal.Read.val_main_v6_apply, Cert.PrepRefIdeal.Read.val_main_v8_apply, Cert.PrepRefIdeal.Read.val_main_v10_apply, Cert.PrepRefIdeal.Read.val_main_cst_apply, Cert.PrepRefIdeal.Read.val_main_cst_0_apply, Cert.PrepRefIdeal.Read.val_main_cst_1_apply, Cert.PrepRefIdeal.Read.val_main_v16_apply, Cert.PrepRefIdeal.Read.val_main_v15_apply]
  rw [show Cert.PrepRefIdeal.Read.idx_main_v15 (Cert.PrepRefIdeal.Read.idx_main_v16 (ix3 s n d)) = ix1 d from by funext a; match a with | ⟨0, _⟩ => rfl, ref_row]
  simp only [hs]
  unfold nrm
  rw [sixty_fourth, ← Ideal.div_coe (by norm_num), ← sixty_four]
  generalize hz : (∑ e : Fin 64, row x 1 s n e * row x 1 s n e) = z
  generalize row x 1 s n d = q
  refine Eq.trans ?_ (congrArg (fun u => q * Ideal.rsqrt (Ideal.div u (Ideal.ofBits .f32 0x42800000#32) + Ideal.ofBits .f32 0x358637BD#32) * g (ix1 d))
    ((congrArg (· + z) Ideal.ofBits_zero_f32).trans (zero_add z)))
  rfl

/-- The reference's turned half of the first 8 entries. -/
theorem ref_lo (x : S8192x8192.Idx → EReal) (g : S64.Idx → EReal) (cs sn : S8192x8.Idx → EReal) (s : Fin 8192) (n : Fin 16) (k : Fin 8) :
    (Cert.PrepRefIdeal.Read.val_main_v24 (F := Ideal) x g cs sn (ix3 s n k) : EReal) = turn x 1 g cs sn s n ⟨k.val, by omega⟩ := by
  rw [Cert.PrepRefIdeal.Read.val_main_v24_apply, Cert.PrepRefIdeal.Read.val_main_v21_apply, Cert.PrepRefIdeal.Read.val_main_v23_apply, Cert.PrepRefIdeal.Read.val_main_v18_apply, Cert.PrepRefIdeal.Read.val_main_v20_apply, Cert.PrepRefIdeal.Read.val_main_v19_apply, Cert.PrepRefIdeal.Read.val_main_v22_apply, Cert.PrepRefIdeal.Read.val_main_v0_apply, Cert.PrepRefIdeal.Read.val_main_v1_apply]
  rw [show Cert.PrepRefIdeal.Read.idx_main_v18 (ix3 s n k) = ix3 s n ⟨k.val, by omega⟩ from by funext a; match a with | ⟨0, _⟩ => rfl | ⟨1, _⟩ => rfl | ⟨2, _⟩ => rfl,
    show Cert.PrepRefIdeal.Read.idx_main_v19 (ix3 s n k) = ix3 s n ⟨k.val + 8, by omega⟩ from by
      funext a; match a with | ⟨0, _⟩ => rfl | ⟨1, _⟩ => rfl | ⟨2, _⟩ => exact Fin.ext (Nat.add_comm 8 k.val),
    show Cert.PrepRefIdeal.Read.idx_main_v0 (Cert.PrepRefIdeal.Read.idx_main_v20 (ix3 s n k)) = ix2 s k from by funext a; match a with | ⟨0, _⟩ => rfl | ⟨1, _⟩ => rfl,
    show Cert.PrepRefIdeal.Read.idx_main_v1 (Cert.PrepRefIdeal.Read.idx_main_v22 (ix3 s n k)) = ix2 s k from by funext a; match a with | ⟨0, _⟩ => rfl | ⟨1, _⟩ => rfl,
    ref_norm, ref_norm]
  unfold turn rot
  rw [dif_pos (show (⟨k.val, by omega⟩ : Fin 64).val < 8 from k.isLt)]
  rfl

/-- The reference's turned half of the next 8 entries. -/
theorem ref_mid (x : S8192x8192.Idx → EReal) (g : S64.Idx → EReal) (cs sn : S8192x8.Idx → EReal) (s : Fin 8192) (n : Fin 16) (k : Fin 8) :
    (Cert.PrepRefIdeal.Read.val_main_v29 (F := Ideal) x g cs sn (ix3 s n k) : EReal) = turn x 1 g cs sn s n ⟨k.val + 8, by omega⟩ := by
  rw [Cert.PrepRefIdeal.Read.val_main_v29_apply, Cert.PrepRefIdeal.Read.val_main_v26_apply, Cert.PrepRefIdeal.Read.val_main_v28_apply, Cert.PrepRefIdeal.Read.val_main_v19_apply, Cert.PrepRefIdeal.Read.val_main_v25_apply, Cert.PrepRefIdeal.Read.val_main_v18_apply, Cert.PrepRefIdeal.Read.val_main_v27_apply, Cert.PrepRefIdeal.Read.val_main_v0_apply, Cert.PrepRefIdeal.Read.val_main_v1_apply]
  rw [show Cert.PrepRefIdeal.Read.idx_main_v18 (ix3 s n k) = ix3 s n ⟨k.val, by omega⟩ from by funext a; match a with | ⟨0, _⟩ => rfl | ⟨1, _⟩ => rfl | ⟨2, _⟩ => rfl,
    show Cert.PrepRefIdeal.Read.idx_main_v19 (ix3 s n k) = ix3 s n ⟨k.val + 8, by omega⟩ from by
      funext a; match a with | ⟨0, _⟩ => rfl | ⟨1, _⟩ => rfl | ⟨2, _⟩ => exact Fin.ext (Nat.add_comm 8 k.val),
    show Cert.PrepRefIdeal.Read.idx_main_v0 (Cert.PrepRefIdeal.Read.idx_main_v25 (ix3 s n k)) = ix2 s k from by funext a; match a with | ⟨0, _⟩ => rfl | ⟨1, _⟩ => rfl,
    show Cert.PrepRefIdeal.Read.idx_main_v1 (Cert.PrepRefIdeal.Read.idx_main_v27 (ix3 s n k)) = ix2 s k from by funext a; match a with | ⟨0, _⟩ => rfl | ⟨1, _⟩ => rfl,
    ref_norm, ref_norm]
  unfold turn rot
  rw [dif_neg (show ¬ (⟨k.val + 8, by omega⟩ : Fin 64).val < 8 from by show ¬ k.val + 8 < 8; omega),
    dif_pos (show (⟨k.val + 8, by omega⟩ : Fin 64).val < 16 from by show k.val + 8 < 16; omega)]
  rfl

/-- The reference's entries that stay. -/
theorem ref_hi (x : S8192x8192.Idx → EReal) (g : S64.Idx → EReal) (cs sn : S8192x8.Idx → EReal) (s : Fin 8192) (n : Fin 16) (k : Fin 48) :
    (Cert.PrepRefIdeal.Read.val_main_v30 (F := Ideal) x g (ix3 s n k) : EReal) = turn x 1 g cs sn s n ⟨k.val + 16, by omega⟩ := by
  rw [Cert.PrepRefIdeal.Read.val_main_v30_apply]
  rw [show Cert.PrepRefIdeal.Read.idx_main_v30 (ix3 s n k) = ix3 s n ⟨k.val + 16, by omega⟩ from by
    funext a; match a with | ⟨0, _⟩ => rfl | ⟨1, _⟩ => rfl | ⟨2, _⟩ => exact Fin.ext (Nat.add_comm 16 k.val), ref_norm]
  unfold turn rot
  rw [dif_neg (show ¬ (⟨k.val + 16, by omega⟩ : Fin 64).val < 8 from by show ¬ k.val + 16 < 8; omega),
    dif_neg (show ¬ (⟨k.val + 16, by omega⟩ : Fin 64).val < 16 from by show ¬ k.val + 16 < 16; omega)]

/-- The reference's rotary embedding of the queries, its three pieces joined. -/
theorem ref_turn (x : S8192x8192.Idx → EReal) (g : S64.Idx → EReal) (cs sn : S8192x8.Idx → EReal) (s : Fin 8192) (n : Fin 16) (d : Fin 64) :
    (Cert.PrepRefIdeal.Read.val_main_v31 (F := Ideal) x g cs sn (ix3 s n d) : EReal) = turn x 1 g cs sn s n d := by
  have h1 := ref_lo x g cs sn s n
  have h2 := ref_mid x g cs sn s n
  have h3 := ref_hi x g cs sn s n
  unfold Cert.PrepRefIdeal.Read.val_main_v31
  generalize Cert.PrepRefIdeal.Read.val_main_v24 (F := Ideal) x g cs sn = p at h1
  generalize Cert.PrepRefIdeal.Read.val_main_v29 (F := Ideal) x g cs sn = q at h2
  generalize Cert.PrepRefIdeal.Read.val_main_v30 (F := Ideal) x g = z at h3
  generalize turn x 1 g cs sn s n = f at h1 h2 h3
  pointwise
  split_ifs
  all_goals first
    | exact (h1 ⟨d.val, by omega⟩).trans (congrArg f (Fin.ext rfl))
    | exact (h2 ⟨d.val - 8, by omega⟩).trans (congrArg f (Fin.ext (by show d.val - 8 + 8 = d.val; omega)))
    | exact (h3 ⟨d.val - 8 - 8, by omega⟩).trans (congrArg f (Fin.ext (by show d.val - 8 - 8 + 16 = d.val; omega)))

/-- The projection with its columns moved left by 1024, round the edge. -/
def moved (x : S8192x8192.Idx → EReal) : S8192x8192.Idx → EReal := fun i => x (ix2 (i 0) ⟨((i 1).val + 1024) % 8192, by omega⟩)

/-- The reference's keys' columns are the queries' columns of the moved projection. -/
theorem ref_moved (x : S8192x8192.Idx → EReal) : Cert.PrepRefIdeal.Read.val_main_v34 (F := Ideal) x = Cert.PrepRefIdeal.Read.val_main_v2 (F := Ideal) (moved x) := by
  funext i
  rw [Cert.PrepRefIdeal.Read.val_main_v34_apply, Cert.PrepRefIdeal.Read.val_main_v2_apply]
  have h : (i 1).val < 1024 := (i 1).isLt
  refine congrArg x (funext fun a => Fin.ext ?_)
  match a with
  | ⟨0, _⟩ => rfl
  | ⟨1, _⟩ => show 2048 + (i 1).val = (1024 + (i 1).val + 1024) % 8192; omega

/-- The keys' split into half heads is the queries' of the moved projection. -/
theorem ref_keys_row (x : S8192x8192.Idx → EReal) : Cert.PrepRefIdeal.Read.val_main_v36 (F := Ideal) x = Cert.PrepRefIdeal.Read.val_main_v4 (F := Ideal) (moved x) := by
  unfold Cert.PrepRefIdeal.Read.val_main_v36 Cert.PrepRefIdeal.Read.val_main_v35 Cert.PrepRefIdeal.Read.val_main_v4 Cert.PrepRefIdeal.Read.val_main_v3
  rw [ref_moved]

/-- The keys' norm is the queries' of the moved projection. -/
theorem ref_keys_norm (x : S8192x8192.Idx → EReal) (g : S64.Idx → EReal) : Cert.PrepRefIdeal.Read.val_main_v49 (F := Ideal) x g = Cert.PrepRefIdeal.Read.val_main_v17 (F := Ideal) (moved x) g := by
  unfold Cert.PrepRefIdeal.Read.val_main_v49 Cert.PrepRefIdeal.Read.val_main_v46 Cert.PrepRefIdeal.Read.val_main_v45 Cert.PrepRefIdeal.Read.val_main_v44 Cert.PrepRefIdeal.Read.val_main_v43 Cert.PrepRefIdeal.Read.val_main_v41 Cert.PrepRefIdeal.Read.val_main_v39 Cert.PrepRefIdeal.Read.val_main_v38 Cert.PrepRefIdeal.Read.val_main_v37
  rw [ref_keys_row]
  rfl

/-- The keys' rotary embedding is the queries' of the moved projection. -/
theorem ref_keys (x : S8192x8192.Idx → EReal) (g : S64.Idx → EReal) (cs sn : S8192x8.Idx → EReal) :
    Cert.PrepRefIdeal.Read.val_main_v63 (F := Ideal) x g cs sn = Cert.PrepRefIdeal.Read.val_main_v31 (F := Ideal) (moved x) g cs sn := by
  unfold Cert.PrepRefIdeal.Read.val_main_v63 Cert.PrepRefIdeal.Read.val_main_v56 Cert.PrepRefIdeal.Read.val_main_v53 Cert.PrepRefIdeal.Read.val_main_v55 Cert.PrepRefIdeal.Read.val_main_v61 Cert.PrepRefIdeal.Read.val_main_v58 Cert.PrepRefIdeal.Read.val_main_v60 Cert.PrepRefIdeal.Read.val_main_v50 Cert.PrepRefIdeal.Read.val_main_v51 Cert.PrepRefIdeal.Read.val_main_v62
  rw [ref_keys_norm]
  rfl

/-- A half head of the moved projection. -/
theorem row_moved (x : S8192x8192.Idx → EReal) (s : Fin 8192) (n : Fin 16) : row (moved x) 1 s n = row x 2 s n := by
  funext e
  refine congrArg x (congrArg (ix2 s) (Fin.ext ?_))
  show (1024 * 1 + 64 * n.val + e.val + 1024) % 8192 = 1024 * 2 + 64 * n.val + e.val
  omega

/-- THE REFERENCE'S QUERIES at half head `n`, row `s`, entry `d`. -/
theorem ref_at_q (x : S8192x8192.Idx → EReal) (g : S64.Idx → EReal) (cs sn : S8192x8.Idx → EReal) (n : Fin 16) (s : Fin 8192) (d : Fin 64) :
    (Cert.PrepRefIdeal.Read.val_main_v68 (F := Ideal) x g cs sn (ix3 n s d) : EReal) = turn x 1 g cs sn s n d * Ideal.ofBits .f32 0x3E38AA3B#32 := by
  rw [Cert.PrepRefIdeal.Read.val_main_v68_apply, Cert.PrepRefIdeal.Read.val_main_v67_apply, Cert.PrepRefIdeal.Read.val_main_v33_apply, Cert.PrepRefIdeal.Read.val_main_v32_apply, Cert.PrepRefIdeal.Read.val_main_cst_2_apply,
    show Cert.PrepRefIdeal.Read.idx_main_v67 (ix3 n s d) = ix3 s n d from by funext a; match a with | ⟨0, _⟩ => rfl | ⟨1, _⟩ => rfl | ⟨2, _⟩ => rfl, ref_turn]
  rfl

/-- THE REFERENCE'S KEYS at half head `n`, row `s`, entry `d`. -/
theorem ref_at_k (x : S8192x8192.Idx → EReal) (g : S64.Idx → EReal) (cs sn : S8192x8.Idx → EReal) (n : Fin 16) (s : Fin 8192) (d : Fin 64) :
    (Cert.PrepRefIdeal.Read.val_main_v70 (F := Ideal) x g cs sn (ix3 n s d) : EReal) = turn x 2 g cs sn s n d := by
  rw [Cert.PrepRefIdeal.Read.val_main_v70_apply, Cert.PrepRefIdeal.Read.val_main_v69_apply, ref_keys,
    show Cert.PrepRefIdeal.Read.idx_main_v69 (ix3 n s d) = ix3 s n d from by funext a; match a with | ⟨0, _⟩ => rfl | ⟨1, _⟩ => rfl | ⟨2, _⟩ => rfl, ref_turn]
  unfold turn
  rw [row_moved]
  rfl

/-- THE REFERENCE'S VALUES at head `h`, row `s`, lane `l`. -/
theorem ref_at_v (x : S8192x8192.Idx → EReal) (h : Fin 8) (s : Fin 8192) (l : Fin 256) :
    (Cert.PrepRefIdeal.Read.val_main_v72 (F := Ideal) x (ix3 h s l) : EReal) = ones x h s l := by
  have h1 : ∀ k : Fin 128, (Cert.PrepRefIdeal.Read.val_main_v66 (F := Ideal) x (ix3 h s k) : EReal) = x (ix2 s ⟨3072 + (128 * h.val + k.val), by omega⟩) := fun k => by
    rw [Cert.PrepRefIdeal.Read.val_main_v66_apply, Cert.PrepRefIdeal.Read.val_main_v65_apply, Cert.PrepRefIdeal.Read.val_main_v64_apply]
    refine congrArg x (funext fun a => Fin.ext ?_)
    match a with
    | ⟨0, _⟩ => show ((s.val * 8 + h.val) * 128 + k.val) / 1024 = s.val; omega
    | ⟨1, _⟩ => show 3072 + ((s.val * 8 + h.val) * 128 + k.val) % 1024 = 3072 + (128 * h.val + k.val); omega
  have h2 : ∀ i, (Cert.PrepRefIdeal.Read.val_main_v71 (F := Ideal) i : EReal) = Ideal.ofBits .bf16 0x3F80#16 := fun i => by
    rw [Cert.PrepRefIdeal.Read.val_main_v71_apply, Cert.PrepRefIdeal.Read.val_main_cst_6_apply]
    rfl
  unfold Cert.PrepRefIdeal.Read.val_main_v72 ones
  generalize Cert.PrepRefIdeal.Read.val_main_v66 (F := Ideal) x = p at h1
  generalize Cert.PrepRefIdeal.Read.val_main_v71 (F := Ideal) = q at h2
  by_cases hl : l.val < 128
  · rw [dif_pos hl]
    refine Eq.trans ?_ (h1 ⟨l.val, hl⟩)
    pointwise
    rw [dif_pos hl]
  · rw [dif_neg hl]
    refine Eq.trans ?_ (h2 (ix3 h s ⟨l.val - 128, by omega⟩))
    pointwise
    rw [dif_neg hl]

/-! ## Agreement -/

/-- Under the precondition the queries' and keys' columns of the projection are reals. -/
theorem args_real (h : Cert.Pre_PrepIdeal_finite_qk (hPre_finite_qk := Cert.Pre_finite_qk.Gen.facts) m) (s : Fin 8192) (j : Fin 2048) :
    ∃ q : ℝ, argX m c (ix2 s ⟨1024 + j.val, by omega⟩) = q := by
  have e := congrFun (h c) ix0
  unfold Cert.Pre_finite_qk.fn at e
  obtain ⟨q, hq⟩ := Cert.Finite.all_real _ _ _ _ _ e (ix2 s j)
  refine ⟨q, Eq.trans ?_ hq⟩
  refine congrArg (argX m c) (funext fun a => Fin.ext ?_)
  match a with
  | ⟨0, _⟩ => exact (Nat.zero_add s.val).symm
  | ⟨1, _⟩ => rfl

/-- With real queries' and keys' columns the kernel's queries are the reference's. -/
theorem agree_q (h : Cert.Pre_PrepIdeal_finite_qk (hPre_finite_qk := Cert.Pre_finite_qk.Gen.facts) m) : (dats m 0 c).arrAt 9 cfg0.N
    = Cert.PrepRefIdeal.Read.val_main_v68 (F := Ideal) (m (c.tc.loc main_arg0)) (m (c.tc.loc main_arg1)) (m (c.tc.loc main_arg3)) (m (c.tc.loc main_arg4)) := by
  funext i
  rw [show i = ix3 (i 0) (i 1) (i 2) from by funext a; match a with | ⟨0, _⟩ => rfl | ⟨1, _⟩ => rfl | ⟨2, _⟩ => rfl]
  exact (result_at9 m c (args_real m c h) (i 0) (i 1) (i 2)).trans
    (ref_at_q (argX m c) (argQ m c) (argC m c) (argS m c) (i 0) (i 1) (i 2)).symm

/-- With real queries' and keys' columns the kernel's keys are the reference's. -/
theorem agree_k (h : Cert.Pre_PrepIdeal_finite_qk (hPre_finite_qk := Cert.Pre_finite_qk.Gen.facts) m) : (dats m 0 c).arrAt 10 cfg0.N
    = Cert.PrepRefIdeal.Read.val_main_v70 (F := Ideal) (m (c.tc.loc main_arg0)) (m (c.tc.loc main_arg2)) (m (c.tc.loc main_arg3)) (m (c.tc.loc main_arg4)) := by
  funext i
  rw [show i = ix3 (i 0) (i 1) (i 2) from by funext a; match a with | ⟨0, _⟩ => rfl | ⟨1, _⟩ => rfl | ⟨2, _⟩ => rfl]
  refine (result_at10 m c (args_real m c h) (i 0) (i 1) (i 2)).trans ?_
  rw [one_bits, mul_one]
  exact (ref_at_k (argX m c) (argK m c) (argC m c) (argS m c) (i 0) (i 1) (i 2)).symm

/-- The kernel's values are the reference's. -/
theorem agree_v : (dats m 0 c).arrAt 11 cfg0.N = Cert.PrepRefIdeal.Read.val_main_v72 (F := Ideal) (m (c.tc.loc main_arg0)) := by
  funext i
  rw [show i = ix3 (i 0) (i 1) (i 2) from by funext a; match a with | ⟨0, _⟩ => rfl | ⟨1, _⟩ => rfl | ⟨2, _⟩ => rfl]
  exact (result_at11 m c (i 0) (i 1) (i 2)).trans (ref_at_v (argX m c) (i 0) (i 1) (i 2)).symm

/-- The reference runs to its end, with no count left over. -/
theorem reference_runs : Cert.quiescent_PrepRefIdeal (hPrepRefIdeal := Cert.PrepRefIdeal.Gen.facts) := fun m ρ _ =>
  (θ_run Cert.PrepRefIdeal.defs _ _).mono (fun r h => ⟨fun c => (h c).2.2.2, sem_eq_zero_of_no_sems (by decide) r.2⟩)
    (Cert.PrepRefIdeal.Value.run (F := Ideal) m ρ)

/-- THE CALL'S VALUE: with real queries' and keys' columns its three results are the plain normed and turned queries and keys, and the values. -/
theorem value : Cert.algebraic_PrepIdeal_PrepRefIdeal_pre_finite_qk (hPrepIdeal := Cert.PrepIdeal.Gen.facts)
    (hPrepRefIdeal := Cert.PrepRefIdeal.Gen.facts) (hPre_finite_qk := Cert.Pre_finite_qk.Gen.facts) := by
  intro m ρ m' ρ' hpre hagree
  refine ⟨_, _, _, Cert.PrepIdeal.Value.run_blocks (F := Ideal) m ρ, ?_⟩
  refine (θ_run Cert.PrepRefIdeal.defs _ _).mono (fun _ h c => ⟨?_, ?_, ?_, (h c).2.2.2⟩) (Cert.PrepRefIdeal.Value.run (F := Ideal) m' ρ')
  · obtain ⟨e0, e1, e2, e3, e4⟩ := hagree c
    rw [(h c).1, Cert.PrepRefIdeal.Read.val_main_v68_eq, e0, e1, e3, e4]
    exact (agree_q m c hpre).symm
  · obtain ⟨e0, e1, e2, e3, e4⟩ := hagree c
    rw [(h c).2.1, Cert.PrepRefIdeal.Read.val_main_v70_eq, e0, e2, e3, e4]
    exact (agree_k m c hpre).symm
  · obtain ⟨e0, e1, e2, e3, e4⟩ := hagree c
    rw [(h c).2.2.1, Cert.PrepRefIdeal.Read.val_main_v72_eq, e0]
    exact (agree_v m c).symm

end Cert.PrepIdeal.Call

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_finite
public import proofs.«01_k».proof.Proof.Gen.ReferenceIdeal.Run
public import proofs.«01_k».proof.Proof.Agree
public import proofs.«01_k».proof.Proof.InProjCall
public import proofs.«01_k».proof.Proof.MergeCall
public import proofs.«01_k».proof.Proof.OutProjCall
public import proofs.«01_k».proof.Proof.GluCall
public import proofs.«01_k».proof.Proof.PrepCall
public import Idealize.ShloMosaic.Adequacy
public import Idealize.ShloMosaic.Init
public import Idealize.ShloMosaic.Lib.Quiescent

@[expose] public section

noncomputable section

namespace Cert.Proof

open Idealize.ShloMosaic Idealize.SL.Sem

/-- The reference runs from any memory, hands its arguments back and ends with every counter at zero. -/
theorem reference_runs : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Kernel and reference compute the same function over the extended reals, from arguments that satisfy the precondition. -/
theorem attention_value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6, e7⟩ := hagree c
  rw [(h c).1, Cert.ReferenceIdeal.Read.val_main_v50_eq, e0, e1, e2, e3, e4, e5, e6, e7]
  exact Cert.Agree.agree hpre c

/-- Everything the certificate claims. -/
theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.Glu.Gen.facts, Cert.GluIdeal.Gen.facts, Cert.GluRefIdeal.Gen.facts,
    Cert.Prep.Gen.facts, Cert.PrepIdeal.Gen.facts, Cert.PrepRefIdeal.Gen.facts,
    Cert.Pre_finite.Gen.facts, Cert.Pre_finite_out.Gen.facts, Cert.Pre_finite_qk.Gen.facts,
    fun m ρ _ => Cert.Kernel.Gen.frame m ρ, fun m ρ _ => Cert.KernelIdeal.Gen.frame m ρ,
    fun m ρ _ => Cert.KernelIdeal.Gen.frame m ρ, reference_runs, fun m ρ _ => reference_runs m ρ trivial,
    fun m ρ _ => Cert.InProj.Gen.frame m ρ, fun m ρ _ => Cert.InProjIdeal.Gen.frame m ρ, Cert.InProjIdeal.Call.reference_runs,
    fun m ρ _ => Cert.Merge.Gen.frame m ρ, fun m ρ _ => Cert.MergeIdeal.Gen.frame m ρ, Cert.MergeIdeal.Call.reference_runs,
    fun m ρ _ => Cert.OutProj.Gen.frame m ρ, fun m ρ _ => Cert.OutProjIdeal.Gen.frame m ρ,
    fun m ρ _ => Cert.OutProjIdeal.Gen.frame m ρ, Cert.OutProjIdeal.Call.reference_runs,
    fun m ρ _ => Cert.OutProjIdeal.Call.reference_runs m ρ trivial,
    fun m ρ _ => Cert.Glu.Gen.frame m ρ, fun m ρ _ => Cert.GluIdeal.Gen.frame m ρ, Cert.GluIdeal.Call.reference_runs,
    fun m ρ _ => Cert.Prep.Gen.frame m ρ, fun m ρ _ => Cert.PrepIdeal.Gen.frame m ρ,
    fun m ρ _ => Cert.PrepIdeal.Gen.frame m ρ, Cert.PrepIdeal.Call.reference_runs,
    fun m ρ _ => Cert.PrepIdeal.Call.reference_runs m ρ trivial,
    trivial, attention_value, trivial, Cert.InProjIdeal.Call.value, trivial, Cert.MergeIdeal.Call.value,
    trivial, Cert.OutProjIdeal.Call.value, trivial, Cert.GluIdeal.Call.value,
    trivial, Cert.PrepIdeal.Call.value⟩

end Cert.Proof

end
